-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_steps [hPre_finite_steps : Cert.Pre_finite_steps.Facts] (m : (ℓ : Loc Cert.KernelIdeal.nD Cert.KernelIdeal.τ Cert.KernelIdeal.sig) → Buf (Elt Ideal) ℓ) : Prop :=
  ∀ c : Dev Cert.KernelIdeal.nD,
    (Cert.Pre_finite_steps.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_steps.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_steps.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_steps [hPre_finite_steps : Cert.Pre_finite_steps.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_steps.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_steps.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_steps.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_steps [hKernelIdeal : Cert.KernelIdeal.Facts] [hPre_finite_steps : Cert.Pre_finite_steps.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_steps m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_steps [hReferenceIdeal : Cert.ReferenceIdeal.Facts] [hPre_finite_steps : Cert.Pre_finite_steps.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_steps m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def preserves_Kernel_KernelIdeal : Prop :=
  True

def algebraic_KernelIdeal_ReferenceIdeal_pre_finite_steps [hKernelIdeal : Cert.KernelIdeal.Facts] [hReferenceIdeal : Cert.ReferenceIdeal.Facts] [hPre_finite_steps : Cert.Pre_finite_steps.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_steps m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v30_0)) (v1 : (c : Dev Cert.KernelIdeal.nD) → Buf (Elt Ideal) ((c.tc : Thread Cert.KernelIdeal.nD Cert.KernelIdeal.τ).loc Cert.KernelIdeal.main_v30_1)) (v2 : (c : Dev Cert.KernelIdeal.nD) → Buf (Elt Ideal) ((c.tc : Thread Cert.KernelIdeal.nD Cert.KernelIdeal.τ).loc Cert.KernelIdeal.main_v30_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30_0) = v0 c
          ∧ r.2.mem ((c.tc : Thread Cert.KernelIdeal.nD Cert.KernelIdeal.τ).loc Cert.KernelIdeal.main_v30_1) = v1 c
          ∧ r.2.mem ((c.tc : Thread Cert.KernelIdeal.nD Cert.KernelIdeal.τ).loc Cert.KernelIdeal.main_v30_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_v157) = v1 c
          ∧ r.2.mem ((c.tc : Thread Cert.ReferenceIdeal.nD Cert.ReferenceIdeal.τ).loc Cert.ReferenceIdeal.main_v159) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v14_0)) (v1 : (c : Dev Cert.Kernel2Ideal.nD) → Buf (Elt Ideal) ((c.tc : Thread Cert.Kernel2Ideal.nD Cert.Kernel2Ideal.τ).loc Cert.Kernel2Ideal.main_v14_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14_0) = v0 c
          ∧ r.2.mem ((c.tc : Thread Cert.Kernel2Ideal.nD Cert.Kernel2Ideal.τ).loc Cert.Kernel2Ideal.main_v14_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v30) = v0 c
          ∧ r.2.mem ((c.tc : Thread Cert.Reference2Ideal.nD Cert.Reference2Ideal.τ).loc Cert.Reference2Ideal.main_v31) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v16_0)) (v1 : (c : Dev Cert.Kernel3Ideal.nD) → Buf (Elt Ideal) ((c.tc : Thread Cert.Kernel3Ideal.nD Cert.Kernel3Ideal.τ).loc Cert.Kernel3Ideal.main_v16_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v16_0) = v0 c
          ∧ r.2.mem ((c.tc : Thread Cert.Kernel3Ideal.nD Cert.Kernel3Ideal.τ).loc Cert.Kernel3Ideal.main_v16_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v65) = v0 c
          ∧ r.2.mem ((c.tc : Thread Cert.Reference3Ideal.nD Cert.Reference3Ideal.τ).loc Cert.Reference3Ideal.main_v67) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_steps : Cert.Pre_finite_steps.Facts),
    quiescent_Kernel (hKernel := hKernel)
    ∧ quiescent_KernelIdeal (hKernelIdeal := hKernelIdeal)
    ∧ quiescent_KernelIdeal_pre_finite_steps (hKernelIdeal := hKernelIdeal) (hPre_finite_steps := hPre_finite_steps)
    ∧ quiescent_ReferenceIdeal (hReferenceIdeal := hReferenceIdeal)
    ∧ quiescent_ReferenceIdeal_pre_finite_steps (hReferenceIdeal := hReferenceIdeal) (hPre_finite_steps := hPre_finite_steps)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_steps (hKernelIdeal := hKernelIdeal) (hReferenceIdeal := hReferenceIdeal) (hPre_finite_steps := hPre_finite_steps)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_steps.lean ====
abbrev S32768x8192 : Shape := ⟨2, ![32768, 8192]⟩
abbrev S32768x128 : Shape := ⟨2, ![32768, 128]⟩
abbrev S1x5x2048 : Shape := ⟨3, ![1, 5, 2048]⟩
abbrev S1x2048 : Shape := ⟨2, ![1, 2048]⟩
abbrev S1x16 : Shape := ⟨2, ![1, 16]⟩
abbrev S32768x16 : Shape := ⟨2, ![32768, 16]⟩
abbrev S_ : Shape := ⟨0, ![]⟩

class Facts : Prop where
  slices_S32768x128_S32768x16_0_0 : S32768x128.Slices ![0, 0] S32768x16
  bcast_S_S32768x16 : S_.BroadcastsInDim S32768x16 (![] : Fin 0 → Fin S32768x16.rank)
  bcast_S_S1x16 : S_.BroadcastsInDim S1x16 (![] : Fin 0 → Fin S1x16.rank)

variable [Facts]

def fn {F : FTy → Type} [FloatOps F] (main_arg0 : FVec F S32768x8192 .bf16) (main_arg1 : FVec F S32768x128 .f32) (main_arg2 : FVec F S1x5x2048 .f32) (main_arg3 : FVec F S1x2048 .f32) (main_arg4 : FVec F S1x16 .f32) (main_arg5 : FVec F S1x16 .f32) : IVec S32768x16 1 × IVec S1x16 1 × IVec S1x16 1 :=
  let main_v0 : FVec F S32768x16 .f32 := (extractStridedSlice S32768x16 ![0, 0] · slices_S32768x128_S32768x16_0_0) main_arg1
  let main_v1 : FVec F S32768x16 .f32 := Host.absf main_v0
  let main_cst : FVec F S_ .f32 := constant S_ .f32 0x7F800000#32
  let main_v2 : FVec F S32768x16 .f32 := broadcastInDim S32768x16 ![] bcast_S_S32768x16 main_cst
  let main_v3 : IVec S32768x16 1 := cmpf .olt main_v1 main_v2
  let main_v4 : FVec F S1x16 .f32 := Host.absf main_arg4
  let main_cst_0 : FVec F S_ .f32 := constant S_ .f32 0x7F800000#32
  let main_v5 : FVec F S1x16 .f32 := broadcastInDim S1x16 ![] bcast_S_S1x16 main_cst_0
  let main_v6 : IVec S1x16 1 := cmpf .olt main_v4 main_v5
  let main_v7 : FVec F S1x16 .f32 := Host.absf main_arg5
  let main_cst_1 : FVec F S_ .f32 := constant S_ .f32 0x7F800000#32
  let main_v8 : FVec F S1x16 .f32 := broadcastInDim S1x16 ![] bcast_S_S1x16 main_cst_1
  let main_v9 : IVec S1x16 1 := cmpf .olt main_v7 main_v8
  (main_v3, main_v6, main_v9)
-- ==== Kernel.lean ====
abbrev S32768x8192 : Shape := ⟨2, ![32768, 8192]⟩
abbrev S32768x128 : Shape := ⟨2, ![32768, 128]⟩
abbrev S1x5x2048 : Shape := ⟨3, ![1, 5, 2048]⟩
abbrev S1x2048 : Shape := ⟨2, ![1, 2048]⟩
abbrev S1x16 : Shape := ⟨2, ![1, 16]⟩
abbrev S5x2048 : Shape := ⟨2, ![5, 2048]⟩
abbrev S2048 : Shape := ⟨1, ![2048]⟩
abbrev S16 : Shape := ⟨1, ![16]⟩
abbrev S_ : Shape := ⟨0, ![]⟩
abbrev S8x2048 : Shape := ⟨2, ![8, 2048]⟩
abbrev S1x128 : Shape := ⟨2, ![1, 128]⟩
abbrev S1 : Shape := ⟨1, ![1]⟩
abbrev S2 : Shape := ⟨1, ![2]⟩
abbrev S128x1024 : Shape := ⟨2, ![128, 1024]⟩
abbrev S128x16x64 : Shape := ⟨3, ![128, 16, 64]⟩
abbrev S32768x1024 : Shape := ⟨2, ![32768, 1024]⟩
abbrev S512x2048 : Shape := ⟨2, ![512, 2048]⟩
abbrev S16x2048 : Shape := ⟨2, ![16, 2048]⟩
abbrev S512x128 : Shape := ⟨2, ![512, 128]⟩
abbrev S512x1024 : Shape := ⟨2, ![512, 1024]⟩
abbrev S4x128x256 : Shape := ⟨3, ![4, 128, 256]⟩
abbrev S544x2048 : Shape := ⟨2, ![544, 2048]⟩
abbrev S128x2048 : Shape := ⟨2, ![128, 2048]⟩
abbrev S160x2048 : Shape := ⟨2, ![160, 2048]⟩
abbrev S128x160 : Shape := ⟨2, ![128, 160]⟩
abbrev S128x128 : Shape := ⟨2, ![128, 128]⟩
abbrev S128x1 : Shape := ⟨2, ![128, 1]⟩
abbrev S256x128 : Shape := ⟨2, ![256, 128]⟩
abbrev S128x256 : Shape := ⟨2, ![128, 256]⟩
abbrev S1x128x256 : Shape := ⟨3, ![1, 128, 256]⟩
abbrev S1x256 : Shape := ⟨2, ![1, 256]⟩

abbrev nBuf : Space → Nat
  | .hbm => 53
  | .vmem => 20
  | .smem => 0
  | _ => 0

abbrev bufTy : (tb : Table) → Fin (tcTables nBuf tb) → BufTy
  | .hbm, ⟨0, _⟩ => ⟨S32768x8192, .bf16⟩
  | .hbm, ⟨1, _⟩ => ⟨S32768x128, .f32⟩
  | .hbm, ⟨2, _⟩ => ⟨S1x5x2048, .f32⟩
  | .hbm, ⟨3, _⟩ => ⟨S1x2048, .f32⟩
  | .hbm, ⟨4, _⟩ => ⟨S1x16, .f32⟩
  | .hbm, ⟨5, _⟩ => ⟨S1x16, .f32⟩
  | .hbm, ⟨6, _⟩ => ⟨S5x2048, .f32⟩
  | .hbm, ⟨7, _⟩ => ⟨S2048, .f32⟩
  | .hbm, ⟨8, _⟩ => ⟨S16, .f32⟩
  | .hbm, ⟨9, _⟩ => ⟨S16, .f32⟩
  | .hbm, ⟨10, _⟩ => ⟨S_, .i32⟩
  | .hbm, ⟨11, _⟩ => ⟨S_, .f32⟩
  | .hbm, ⟨12, _⟩ => ⟨S8x2048, .f32⟩
  | .hbm, ⟨13, _⟩ => ⟨S1x2048, .f32⟩
  | .hbm, ⟨14, _⟩ => ⟨S_, .f32⟩
  | .hbm, ⟨15, _⟩ => ⟨S1x128, .f32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S2, .i32⟩
  | .hbm, ⟨21, _⟩ => ⟨S1x128, .f32⟩
  | .hbm, ⟨22, _⟩ => ⟨S16, .f32⟩
  | .hbm, ⟨23, _⟩ => ⟨S16, .f32⟩
  | .hbm, ⟨24, _⟩ => ⟨S_, .f32⟩
  | .hbm, ⟨25, _⟩ => ⟨S1x128, .f32⟩
  | .hbm, ⟨26, _⟩ => ⟨S_, .i32⟩
  | .hbm, ⟨27, _⟩ => ⟨S1, .i32⟩
  | .hbm, ⟨28, _⟩ => ⟨S_, .i32⟩
  | .hbm, ⟨29, _⟩ => ⟨S1, .i32⟩
  | .hbm, ⟨30, _⟩ => ⟨S2, .i32⟩
  | .hbm, ⟨31, _⟩ => ⟨S1x128, .f32⟩
  | .hbm, ⟨32, _⟩ => ⟨S128x1024, .i32⟩
  | .hbm, ⟨33, _⟩ => ⟨S128x16x64, .i32⟩
  | .hbm, ⟨34, _⟩ => ⟨S128x1024, .i32⟩
  | .hbm, ⟨35, _⟩ => ⟨S_, .i32⟩
  | .hbm, ⟨36, _⟩ => ⟨S128x1024, .i32⟩
  | .hbm, ⟨37, _⟩ => ⟨S128x1024, .i32⟩
  | .hbm, ⟨38, _⟩ => ⟨S128x1024, .i1⟩
  | .hbm, ⟨39, _⟩ => ⟨S_, .i32⟩
  | .hbm, ⟨40, _⟩ => ⟨S128x1024, .i32⟩
  | .hbm, ⟨41, _⟩ => ⟨S128x1024, .i32⟩
  | .hbm, ⟨42, _⟩ => ⟨S128x1024, .i1⟩
  | .hbm, ⟨43, _⟩ => ⟨S128x1024, .i1⟩
  | .hbm, ⟨44, _⟩ => ⟨S_, .f32⟩
  | .hbm, ⟨45, _⟩ => ⟨S_, .f32⟩
  | .hbm, ⟨46, _⟩ => ⟨S128x1024, .f32⟩
  | .hbm, ⟨47, _⟩ => ⟨S128x1024, .f32⟩
  | .hbm, ⟨48, _⟩ => ⟨S128x1024, .f32⟩
  | .hbm, ⟨49, _⟩ => ⟨S128x1024, .bf16⟩
  | .hbm, ⟨50, _⟩ => ⟨S32768x1024, .f32⟩
  | .hbm, ⟨51, _⟩ => ⟨S32768x1024, .f32⟩
  | .hbm, ⟨52, _⟩ => ⟨S32768x1024, .bf16⟩
  | .local _ .vmem, ⟨0, _⟩ => ⟨S512x2048, .bf16⟩
  | .local _ .vmem, ⟨1, _⟩ => ⟨S512x2048, .bf16⟩
  | .local _ .vmem, ⟨2, _⟩ => ⟨S16x2048, .bf16⟩
  | .local _ .vmem, ⟨3, _⟩ => ⟨S16x2048, .bf16⟩
  | .local _ .vmem, ⟨4, _⟩ => ⟨S16x2048, .bf16⟩
  | .local _ .vmem, ⟨5, _⟩ => ⟨S16x2048, .bf16⟩
  | .local _ .vmem, ⟨6, _⟩ => ⟨S512x128, .f32⟩
  | .local _ .vmem, ⟨7, _⟩ => ⟨S512x128, .f32⟩
  | .local _ .vmem, ⟨8, _⟩ => ⟨S8x2048, .f32⟩
  | .local _ .vmem, ⟨9, _⟩ => ⟨S1x2048, .f32⟩
  | .local _ .vmem, ⟨10, _⟩ => ⟨S1x128, .f32⟩
  | .local _ .vmem, ⟨11, _⟩ => ⟨S1x128, .f32⟩
  | .local _ .vmem, ⟨12, _⟩ => ⟨S128x1024, .bf16⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S4x128x256, .f32⟩
  | _, _ => ⟨S32768x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_c_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_cst_8 : Ref sig .tc := ⟨.hbm, 45, rfl⟩
abbrev main_call1_v0 : Ref sig .tc := ⟨.hbm, 46, rfl⟩
abbrev main_call1_v1 : Ref sig .tc := ⟨.hbm, 47, rfl⟩
abbrev main_v28 : Ref sig .tc := ⟨.hbm, 48, rfl⟩
abbrev main_v29 : Ref sig .tc := ⟨.hbm, 49, rfl⟩
abbrev main_v30_0 : Ref sig .tc := ⟨.hbm, 50, rfl⟩
abbrev main_v30_1 : Ref sig .tc := ⟨.hbm, 51, rfl⟩
abbrev main_v30_2 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c32_i32 : BitVec 32 := 32#32
  let v2 : BitVec 32 := Scalar.muli v1 c32_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c32_i32 : BitVec 32 := 32#32
  let v2 : BitVec 32 := Scalar.muli v1 c32_i32
  let c32_i32_0 : BitVec 32 := 32#32
  let v3 : BitVec 32 := Scalar.addi v2 c32_i32_0
  let c2047_i32 : BitVec 32 := 2047#32
  let v4 : BitVec 32 := Scalar.minsi v3 c2047_i32
  let c0_i32 : BitVec 32 := 0#32
  let c0_i32_1 : BitVec 32 := 0#32
  ![v4.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S8x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S32768x8192 : Shape := ⟨2, ![32768, 8192]⟩
abbrev S32768x128 : Shape := ⟨2, ![32768, 128]⟩
abbrev S1x5x2048 : Shape := ⟨3, ![1, 5, 2048]⟩
abbrev S1x2048 : Shape := ⟨2, ![1, 2048]⟩
abbrev S1x16 : Shape := ⟨2, ![1, 16]⟩
abbrev S32768x2048 : Shape := ⟨2, ![32768, 2048]⟩
abbrev S8x4096x2048 : Shape := ⟨3, ![8, 4096, 2048]⟩
abbrev S_ : Shape := ⟨0, ![]⟩
abbrev S8x4100x2048 : Shape := ⟨3, ![8, 4100, 2048]⟩
abbrev S1x1x2048 : Shape := ⟨3, ![1, 1, 2048]⟩
abbrev S2048 : Shape := ⟨1, ![2048]⟩
abbrev S8x4096x1024 : Shape := ⟨3, ![8, 4096, 1024]⟩
abbrev S8x4096x512 : Shape := ⟨3, ![8, 4096, 512]⟩
abbrev S8x4096x4x4x64 : Shape := ⟨5, ![8, 4096, 4, 4, 64]⟩
abbrev S8x4096x4x128 : Shape := ⟨4, ![8, 4096, 4, 128]⟩
abbrev S32768x16 : Shape := ⟨2, ![32768, 16]⟩
abbrev S16 : Shape := ⟨1, ![16]⟩
abbrev S8x4096x4x4 : Shape := ⟨4, ![8, 4096, 4, 4]⟩
abbrev S4x4 : Shape := ⟨2, ![4, 4]⟩
abbrev S8x4096x4x4x1 : Shape := ⟨5, ![8, 4096, 4, 4, 1]⟩
abbrev S8x32x128x4x4x64 : Shape := ⟨6, ![8, 32, 128, 4, 4, 64]⟩
abbrev S8x32x128x4x128 : Shape := ⟨5, ![8, 32, 128, 4, 128]⟩
abbrev S1x1x4x4 : Shape := ⟨4, ![1, 1, 4, 4]⟩
abbrev S8x32x128x4x4 : Shape := ⟨5, ![8, 32, 128, 4, 4]⟩
abbrev S8x32x4x4x128 : Shape := ⟨5, ![8, 32, 4, 4, 128]⟩
abbrev S128x128 : Shape := ⟨2, ![128, 128]⟩
abbrev S8x32x4x4x128x1 : Shape := ⟨6, ![8, 32, 4, 4, 128, 1]⟩
abbrev S8x32x4x4x1x128 : Shape := ⟨6, ![8, 32, 4, 4, 1, 128]⟩
abbrev S8x32x4x4x128x128 : Shape := ⟨6, ![8, 32, 4, 4, 128, 128]⟩
abbrev S8x32x4x128x128 : Shape := ⟨5, ![8, 32, 4, 128, 128]⟩
abbrev S8x32x4x1x128x128 : Shape := ⟨6, ![8, 32, 4, 1, 128, 128]⟩
abbrev S8x32x4x4x128x64 : Shape := ⟨6, ![8, 32, 4, 4, 128, 64]⟩
abbrev S8x32x1x4x4 : Shape := ⟨5, ![8, 32, 1, 4, 4]⟩
abbrev S8x32x128x4x4x1 : Shape := ⟨6, ![8, 32, 128, 4, 4, 1]⟩
abbrev S8x32x4x128x4x64 : Shape := ⟨6, ![8, 32, 4, 128, 4, 64]⟩
abbrev S8x32x4x4 : Shape := ⟨4, ![8, 32, 4, 4]⟩
abbrev S8x4x128x4x64 : Shape := ⟨5, ![8, 4, 128, 4, 64]⟩
abbrev S32x8x4x128x4x64 : Shape := ⟨6, ![32, 8, 4, 128, 4, 64]⟩
abbrev S32x8x4x4 : Shape := ⟨4, ![32, 8, 4, 4]⟩
abbrev S32x8x128x4x128 : Shape := ⟨5, ![32, 8, 128, 4, 128]⟩
abbrev S32x8x128x4x4 : Shape := ⟨5, ![32, 8, 128, 4, 4]⟩
abbrev S32x8x4x4x128x64 : Shape := ⟨6, ![32, 8, 4, 4, 128, 64]⟩
abbrev S32x8x128x4x4x64 : Shape := ⟨6, ![32, 8, 128, 4, 4, 64]⟩
abbrev S1x8x4x128x4x64 : Shape := ⟨6, ![1, 8, 4, 128, 4, 64]⟩
abbrev S1x8x4x4 : Shape := ⟨4, ![1, 8, 4, 4]⟩
abbrev S8x4x4 : Shape := ⟨3, ![8, 4, 4]⟩
abbrev S1x8x128x4x128 : Shape := ⟨5, ![1, 8, 128, 4, 128]⟩
abbrev S8x128x4x128 : Shape := ⟨4, ![8, 128, 4, 128]⟩
abbrev S1x8x128x4x4 : Shape := ⟨5, ![1, 8, 128, 4, 4]⟩
abbrev S8x128x4x4 : Shape := ⟨4, ![8, 128, 4, 4]⟩
abbrev S1x8x4x4x128x64 : Shape := ⟨6, ![1, 8, 4, 4, 128, 64]⟩
abbrev S8x4x4x128x64 : Shape := ⟨5, ![8, 4, 4, 128, 64]⟩
abbrev S8x4x128x4 : Shape := ⟨4, ![8, 4, 128, 4]⟩
abbrev S8x4x128x4x1 : Shape := ⟨5, ![8, 4, 128, 4, 1]⟩
abbrev S8x4x1x4x1 : Shape := ⟨5, ![8, 4, 1, 4, 1]⟩
abbrev S8x128x4x4x64 : Shape := ⟨5, ![8, 128, 4, 4, 64]⟩
abbrev S1x8x128x4x4x64 : Shape := ⟨6, ![1, 8, 128, 4, 4, 64]⟩
abbrev S32768x1024 : Shape := ⟨2, ![32768, 1024]⟩

abbrev nBuf : Space → Nat
  | .hbm => 280
  | .vmem => 0
  | .smem => 0
  | _ => 0

abbrev hbmTy0_0 (i : Nat) : BufTy := match i % 128 with
  | 0 => ⟨S32768x8192, .bf16⟩
  | 1 => ⟨S32768x128, .f32⟩
  | 2 => ⟨S1x5x2048, .f32⟩
  | 3 => ⟨S1x2048, .f32⟩
  | 4 => ⟨S1x16, .f32⟩
  | 5 => ⟨S1x16, .f32⟩
  | 6 => ⟨S32768x2048, .bf16⟩
  | 7 => ⟨S32768x2048, .f32⟩
  | 8 => ⟨S8x4096x2048, .f32⟩
  | 9 => ⟨S_, .i32⟩
  | 10 => ⟨S_, .f32⟩
  | 11 => ⟨S8x4100x2048, .f32⟩
  | 12 => ⟨S8x4096x2048, .f32⟩
  | 13 => ⟨S1x1x2048, .f32⟩
  | 14 => ⟨S2048, .f32⟩
  | 15 => ⟨S1x1x2048, .f32⟩
  | 16 => ⟨S8x4096x2048, .f32⟩
  | 17 => ⟨S8x4096x2048, .f32⟩
  | 18 => ⟨S_, .f32⟩
  | 19 => ⟨S8x4096x2048, .f32⟩
  | 20 => ⟨S8x4096x2048, .f32⟩
  | 21 => ⟨S8x4096x2048, .f32⟩
  | 22 => ⟨S1x1x2048, .f32⟩
  | 23 => ⟨S2048, .f32⟩
  | 24 => ⟨S1x1x2048, .f32⟩
  | 25 => ⟨S8x4096x2048, .f32⟩
  | 26 => ⟨S8x4096x2048, .f32⟩
  | 27 => ⟨S8x4096x2048, .f32⟩
  | 28 => ⟨S8x4096x2048, .f32⟩
  | 29 => ⟨S1x1x2048, .f32⟩
  | 30 => ⟨S2048, .f32⟩
  | 31 => ⟨S1x1x2048, .f32⟩
  | 32 => ⟨S8x4096x2048, .f32⟩
  | 33 => ⟨S8x4096x2048, .f32⟩
  | 34 => ⟨S8x4096x2048, .f32⟩
  | 35 => ⟨S8x4096x2048, .f32⟩
  | 36 => ⟨S1x1x2048, .f32⟩
  | 37 => ⟨S2048, .f32⟩
  | 38 => ⟨S1x1x2048, .f32⟩
  | 39 => ⟨S8x4096x2048, .f32⟩
  | 40 => ⟨S8x4096x2048, .f32⟩
  | 41 => ⟨S8x4096x2048, .f32⟩
  | 42 => ⟨S8x4096x2048, .f32⟩
  | 43 => ⟨S1x1x2048, .f32⟩
  | 44 => ⟨S2048, .f32⟩
  | 45 => ⟨S1x1x2048, .f32⟩
  | 46 => ⟨S8x4096x2048, .f32⟩
  | 47 => ⟨S8x4096x2048, .f32⟩
  | 48 => ⟨S8x4096x2048, .f32⟩
  | 49 => ⟨S2048, .f32⟩
  | 50 => ⟨S1x1x2048, .f32⟩
  | 51 => ⟨S8x4096x2048, .f32⟩
  | 52 => ⟨S8x4096x2048, .f32⟩
  | 53 => ⟨S8x4096x2048, .f32⟩
  | 54 => ⟨S8x4096x2048, .f32⟩
  | 55 => ⟨S_, .f32⟩
  | 56 => ⟨S8x4096x2048, .f32⟩
  | 57 => ⟨S8x4096x2048, .f32⟩
  | 58 => ⟨S_, .f32⟩
  | 59 => ⟨S8x4096x2048, .f32⟩
  | 60 => ⟨S8x4096x2048, .f32⟩
  | 61 => ⟨S8x4096x2048, .f32⟩
  | 62 => ⟨S8x4096x1024, .f32⟩
  | 63 => ⟨S8x4096x512, .f32⟩
  | 64 => ⟨S8x4096x512, .f32⟩
  | 65 => ⟨S8x4096x4x4x64, .f32⟩
  | 66 => ⟨S8x4096x4x128, .f32⟩
  | 67 => ⟨S8x4096x4x128, .f32⟩
  | 68 => ⟨S32768x16, .f32⟩
  | 69 => ⟨S16, .f32⟩
  | 70 => ⟨S1x16, .f32⟩
  | 71 => ⟨S32768x16, .f32⟩
  | 72 => ⟨S32768x16, .f32⟩
  | 73 => ⟨S_, .f32⟩
  | 74 => ⟨S32768x16, .f32⟩
  | 75 => ⟨S32768x16, .f32⟩
  | 76 => ⟨S32768x16, .f32⟩
  | 77 => ⟨S32768x16, .f32⟩
  | 78 => ⟨S32768x16, .i1⟩
  | 79 => ⟨S32768x16, .f32⟩
  | 80 => ⟨S32768x16, .f32⟩
  | 81 => ⟨S32768x16, .f32⟩
  | 82 => ⟨S32768x16, .f32⟩
  | 83 => ⟨S32768x16, .f32⟩
  | 84 => ⟨S32768x16, .f32⟩
  | 85 => ⟨S32768x16, .f32⟩
  | 86 => ⟨S32768x16, .f32⟩
  | 87 => ⟨S8x4096x4x4, .f32⟩
  | 88 => ⟨S16, .f32⟩
  | 89 => ⟨S16, .f32⟩
  | 90 => ⟨S4x4, .f32⟩
  | 91 => ⟨S4x4, .f32⟩
  | 92 => ⟨S8x4096x4x4x1, .f32⟩
  | 93 => ⟨S8x4096x4x4x64, .f32⟩
  | 94 => ⟨S8x4096x4x4x64, .f32⟩
  | 95 => ⟨S8x32x128x4x4x64, .f32⟩
  | 96 => ⟨S8x32x128x4x128, .f32⟩
  | 97 => ⟨S8x32x128x4x128, .f32⟩
  | 98 => ⟨S1x1x4x4, .f32⟩
  | 99 => ⟨S8x4096x4x4, .f32⟩
  | 100 => ⟨S8x4096x4x4, .f32⟩
  | 101 => ⟨S8x32x128x4x4, .f32⟩
  | 102 => ⟨S_, .f32⟩
  | 103 => ⟨S_, .f32⟩
  | 104 => ⟨S8x32x128x4x4, .f32⟩
  | 105 => ⟨S8x32x4x4x128, .f32⟩
  | 106 => ⟨S_, .i1⟩
  | 107 => ⟨S128x128, .i1⟩
  | 108 => ⟨S128x128, .i32⟩
  | 109 => ⟨S_, .i32⟩
  | 110 => ⟨S128x128, .i32⟩
  | 111 => ⟨S128x128, .i32⟩
  | 112 => ⟨S128x128, .i32⟩
  | 113 => ⟨S128x128, .i1⟩
  | 114 => ⟨S_, .i1⟩
  | 115 => ⟨S128x128, .i1⟩
  | 116 => ⟨S128x128, .i1⟩
  | 117 => ⟨S8x32x4x4x128x1, .f32⟩
  | 118 => ⟨S8x32x4x4x1x128, .f32⟩
  | 119 => ⟨S8x32x4x4x128x128, .f32⟩
  | 120 => ⟨S8x32x4x4x128x128, .f32⟩
  | 121 => ⟨S8x32x4x4x128x128, .f32⟩
  | 122 => ⟨S_, .f32⟩
  | 123 => ⟨S_, .f32⟩
  | 124 => ⟨S8x32x4x4x128x128, .i1⟩
  | 125 => ⟨S8x32x4x4x128x128, .f32⟩
  | 126 => ⟨S8x32x4x4x128x128, .f32⟩
  | 127 => ⟨S8x32x4x4x128x128, .f32⟩
  | _ => ⟨S32768x8192, .bf16⟩

abbrev hbmTy0_1 (i : Nat) : BufTy := match i % 128 with
  | 0 => ⟨S8x32x4x128x128, .f32⟩
  | 1 => ⟨S8x32x4x1x128x128, .f32⟩
  | 2 => ⟨S8x32x4x4x128x128, .f32⟩
  | 3 => ⟨S8x32x4x4x128x128, .f32⟩
  | 4 => ⟨S8x32x4x4x128x64, .f32⟩
  | 5 => ⟨S8x32x1x4x4, .f32⟩
  | 6 => ⟨S8x32x128x4x4, .f32⟩
  | 7 => ⟨S8x32x128x4x4, .f32⟩
  | 8 => ⟨S8x32x128x4x4, .f32⟩
  | 9 => ⟨S8x32x128x4x4x1, .f32⟩
  | 10 => ⟨S8x32x128x4x4x64, .f32⟩
  | 11 => ⟨S8x32x128x4x4x64, .f32⟩
  | 12 => ⟨S8x32x4x128x4x64, .f32⟩
  | 13 => ⟨S8x32x1x4x4, .f32⟩
  | 14 => ⟨S8x32x4x4, .f32⟩
  | 15 => ⟨S8x32x4x4, .f32⟩
  | 16 => ⟨S_, .f32⟩
  | 17 => ⟨S8x4x128x4x64, .f32⟩
  | 18 => ⟨S8x32x128x4x4, .f32⟩
  | 19 => ⟨S32x8x4x128x4x64, .f32⟩
  | 20 => ⟨S32x8x4x4, .f32⟩
  | 21 => ⟨S32x8x128x4x128, .f32⟩
  | 22 => ⟨S32x8x128x4x4, .f32⟩
  | 23 => ⟨S32x8x4x4x128x64, .f32⟩
  | 24 => ⟨S_, .f32⟩
  | 25 => ⟨S32x8x128x4x4x64, .f32⟩
  | 26 => ⟨S_, .i32⟩
  | 27 => ⟨S32x8x4x128x4x64, .f32⟩
  | 28 => ⟨S32x8x4x4, .f32⟩
  | 29 => ⟨S32x8x128x4x128, .f32⟩
  | 30 => ⟨S32x8x128x4x4, .f32⟩
  | 31 => ⟨S32x8x4x4x128x64, .f32⟩
  | 32 => ⟨S_, .i32⟩
  | 33 => ⟨S8x4x128x4x64, .f32⟩
  | 34 => ⟨S32x8x128x4x4x64, .f32⟩
  | 35 => ⟨S_, .i32⟩
  | 36 => ⟨S_, .i1⟩
  | 37 => ⟨S_, .i32⟩
  | 38 => ⟨S_, .i32⟩
  | 39 => ⟨S_, .i32⟩
  | 40 => ⟨S_, .i32⟩
  | 41 => ⟨S_, .i32⟩
  | 42 => ⟨S1x8x4x128x4x64, .f32⟩
  | 43 => ⟨S8x4x128x4x64, .f32⟩
  | 44 => ⟨S_, .i32⟩
  | 45 => ⟨S_, .i32⟩
  | 46 => ⟨S_, .i32⟩
  | 47 => ⟨S1x8x4x4, .f32⟩
  | 48 => ⟨S8x4x4, .f32⟩
  | 49 => ⟨S_, .i32⟩
  | 50 => ⟨S_, .i32⟩
  | 51 => ⟨S_, .i32⟩
  | 52 => ⟨S_, .i32⟩
  | 53 => ⟨S1x8x128x4x128, .f32⟩
  | 54 => ⟨S8x128x4x128, .f32⟩
  | 55 => ⟨S_, .i32⟩
  | 56 => ⟨S_, .i32⟩
  | 57 => ⟨S_, .i32⟩
  | 58 => ⟨S_, .i32⟩
  | 59 => ⟨S1x8x128x4x4, .f32⟩
  | 60 => ⟨S8x128x4x4, .f32⟩
  | 61 => ⟨S_, .i32⟩
  | 62 => ⟨S_, .i32⟩
  | 63 => ⟨S_, .i32⟩
  | 64 => ⟨S_, .i32⟩
  | 65 => ⟨S_, .i32⟩
  | 66 => ⟨S1x8x4x4x128x64, .f32⟩
  | 67 => ⟨S8x4x4x128x64, .f32⟩
  | 68 => ⟨S8x4x128x4x64, .f32⟩
  | 69 => ⟨S8x4x128x4, .f32⟩
  | 70 => ⟨S8x4x128x4x1, .f32⟩
  | 71 => ⟨S8x4x128x4x64, .f32⟩
  | 72 => ⟨S8x4x128x4x64, .f32⟩
  | 73 => ⟨S8x4x1x4x1, .f32⟩
  | 74 => ⟨S8x4x128x4x64, .f32⟩
  | 75 => ⟨S8x4x128x4x64, .f32⟩
  | 76 => ⟨S8x4x128x4x64, .f32⟩
  | 77 => ⟨S8x128x4x4x64, .f32⟩
  | 78 => ⟨S8x128x4x4x64, .f32⟩
  | 79 => ⟨S8x128x4x4x64, .f32⟩
  | 80 => ⟨S1x8x128x4x4x64, .f32⟩
  | 81 => ⟨S_, .i32⟩
  | 82 => ⟨S_, .i32⟩
  | 83 => ⟨S_, .i32⟩
  | 84 => ⟨S_, .i32⟩
  | 85 => ⟨S_, .i32⟩
  | 86 => ⟨S32x8x128x4x4x64, .f32⟩
  | 87 => ⟨S_, .i32⟩
  | 88 => ⟨S_, .i32⟩
  | 89 => ⟨S8x32x128x4x4x64, .f32⟩
  | 90 => ⟨S8x4096x4x4x64, .f32⟩
  | 91 => ⟨S32768x1024, .f32⟩
  | 92 => ⟨S32768x2048, .bf16⟩
  | 93 => ⟨S32768x2048, .f32⟩
  | 94 => ⟨S8x4096x2048, .f32⟩
  | 95 => ⟨S_, .i32⟩
  | 96 => ⟨S_, .f32⟩
  | 97 => ⟨S8x4100x2048, .f32⟩
  | 98 => ⟨S8x4096x2048, .f32⟩
  | 99 => ⟨S1x1x2048, .f32⟩
  | 100 => ⟨S2048, .f32⟩
  | 101 => ⟨S1x1x2048, .f32⟩
  | 102 => ⟨S8x4096x2048, .f32⟩
  | 103 => ⟨S8x4096x2048, .f32⟩
  | 104 => ⟨S_, .f32⟩
  | 105 => ⟨S8x4096x2048, .f32⟩
  | 106 => ⟨S8x4096x2048, .f32⟩
  | 107 => ⟨S8x4096x2048, .f32⟩
  | 108 => ⟨S1x1x2048, .f32⟩
  | 109 => ⟨S2048, .f32⟩
  | 110 => ⟨S1x1x2048, .f32⟩
  | 111 => ⟨S8x4096x2048, .f32⟩
  | 112 => ⟨S8x4096x2048, .f32⟩
  | 113 => ⟨S8x4096x2048, .f32⟩
  | 114 => ⟨S8x4096x2048, .f32⟩
  | 115 => ⟨S1x1x2048, .f32⟩
  | 116 => ⟨S2048, .f32⟩
  | 117 => ⟨S1x1x2048, .f32⟩
  | 118 => ⟨S8x4096x2048, .f32⟩
  | 119 => ⟨S8x4096x2048, .f32⟩
  | 120 => ⟨S8x4096x2048, .f32⟩
  | 121 => ⟨S8x4096x2048, .f32⟩
  | 122 => ⟨S1x1x2048, .f32⟩
  | 123 => ⟨S2048, .f32⟩
  | 124 => ⟨S1x1x2048, .f32⟩
  | 125 => ⟨S8x4096x2048, .f32⟩
  | 126 => ⟨S8x4096x2048, .f32⟩
  | 127 => ⟨S8x4096x2048, .f32⟩
  | _ => ⟨S32768x8192, .bf16⟩

abbrev hbmTy0_2 (i : Nat) : BufTy := match i % 128 with
  | 0 => ⟨S8x4096x2048, .f32⟩
  | 1 => ⟨S1x1x2048, .f32⟩
  | 2 => ⟨S2048, .f32⟩
  | 3 => ⟨S1x1x2048, .f32⟩
  | 4 => ⟨S8x4096x2048, .f32⟩
  | 5 => ⟨S8x4096x2048, .f32⟩
  | 6 => ⟨S8x4096x2048, .f32⟩
  | 7 => ⟨S2048, .f32⟩
  | 8 => ⟨S1x1x2048, .f32⟩
  | 9 => ⟨S8x4096x2048, .f32⟩
  | 10 => ⟨S8x4096x2048, .f32⟩
  | 11 => ⟨S8x4096x2048, .f32⟩
  | 12 => ⟨S8x4096x2048, .f32⟩
  | 13 => ⟨S_, .f32⟩
  | 14 => ⟨S8x4096x2048, .f32⟩
  | 15 => ⟨S8x4096x2048, .f32⟩
  | 16 => ⟨S_, .f32⟩
  | 17 => ⟨S8x4096x2048, .f32⟩
  | 18 => ⟨S8x4096x2048, .f32⟩
  | 19 => ⟨S8x4096x2048, .f32⟩
  | 20 => ⟨S32768x2048, .f32⟩
  | 21 => ⟨S32768x1024, .f32⟩
  | 22 => ⟨S32768x1024, .f32⟩
  | 23 => ⟨S32768x1024, .bf16⟩
  | _ => ⟨S32768x8192, .bf16⟩

abbrev hbmTy (i : Nat) : BufTy := match i / 128 with
  | 0 => hbmTy0_0 i
  | 1 => hbmTy0_1 i
  | 2 => hbmTy0_2 i
  | _ => ⟨S32768x8192, .bf16⟩

abbrev bufTy : (tb : Table) → Fin (tcTables nBuf tb) → BufTy
  | .hbm, ⟨i, _⟩ => hbmTy i
  | _, _ => ⟨S32768x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_call1_v0 : Ref sig .tc := ⟨.hbm, 53, rfl⟩
abbrev main_call1_v1 : Ref sig .tc := ⟨.hbm, 54, rfl⟩
abbrev main_call1_cst : Ref sig .tc := ⟨.hbm, 55, rfl⟩
abbrev main_call1_v2 : Ref sig .tc := ⟨.hbm, 56, rfl⟩
abbrev main_call1_v3 : Ref sig .tc := ⟨.hbm, 57, rfl⟩
abbrev main_call1_cst_0 : Ref sig .tc := ⟨.hbm, 58, rfl⟩
abbrev main_call1_v4 : Ref sig .tc := ⟨.hbm, 59, rfl⟩
abbrev main_call1_v5 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_call2_cst : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_call2_v5 : Ref sig .tc := ⟨.hbm, 79, rfl⟩
abbrev main_call2_v6 : Ref sig .tc := ⟨.hbm, 80, rfl⟩
abbrev main_call2_v7 : Ref sig .tc := ⟨.hbm, 81, rfl⟩
abbrev main_call2_v8 : Ref sig .tc := ⟨.hbm, 82, rfl⟩
abbrev main_call2_v9 : Ref sig .tc := ⟨.hbm, 83, rfl⟩
abbrev main_call2_v10 : Ref sig .tc := ⟨.hbm, 84, rfl⟩
abbrev main_call2_v11 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_call3_call0_cst : Ref sig .tc := ⟨.hbm, 102, rfl⟩
abbrev main_call3_call0_v0 : Ref sig .tc := ⟨.hbm, 103, rfl⟩
abbrev main_v72 : Ref sig .tc := ⟨.hbm, 104, rfl⟩
abbrev main_v73 : Ref sig .tc := ⟨.hbm, 105, rfl⟩
abbrev main_c_0 : Ref sig .tc := ⟨.hbm, 106, rfl⟩
abbrev main_v74 : Ref sig .tc := ⟨.hbm, 107, rfl⟩
abbrev main_call4_v0 : Ref sig .tc := ⟨.hbm, 108, rfl⟩
abbrev main_call4_c : Ref sig .tc := ⟨.hbm, 109, rfl⟩
abbrev main_call4_v1 : Ref sig .tc := ⟨.hbm, 110, rfl⟩
abbrev main_call4_v2 : Ref sig .tc := ⟨.hbm, 111, rfl⟩
abbrev main_call4_v3 : Ref sig .tc := ⟨.hbm, 112, rfl⟩
abbrev main_call4_v4 : Ref sig .tc := ⟨.hbm, 113, rfl⟩
abbrev main_call4_c_0 : Ref sig .tc := ⟨.hbm, 114, rfl⟩
abbrev main_call4_v5 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_cst_1 : Ref sig .tc := ⟨.hbm, 122, rfl⟩
abbrev main_call5_v0 : Ref sig .tc := ⟨.hbm, 123, rfl⟩
abbrev main_call5_v1 : Ref sig .tc := ⟨.hbm, 124, rfl⟩
abbrev main_call5_v2 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_cst_2 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_cst_3 : Ref sig .tc := ⟨.hbm, 152, rfl⟩
abbrev main_v106 : Ref sig .tc := ⟨.hbm, 153, rfl⟩
abbrev main_c_4 : Ref sig .tc := ⟨.hbm, 154, rfl⟩
abbrev main_v107_0 : Ref sig .tc := ⟨.hbm, 155, rfl⟩
abbrev main_v107_1 : Ref sig .tc := ⟨.hbm, 156, rfl⟩
abbrev main_v107_2 : Ref sig .tc := ⟨.hbm, 157, rfl⟩
abbrev main_v107_3 : Ref sig .tc := ⟨.hbm, 158, rfl⟩
abbrev main_v107_4 : Ref sig .tc := ⟨.hbm, 159, rfl⟩
abbrev main_v107_5 : Ref sig .tc := ⟨.hbm, 160, rfl⟩
abbrev main_v107_6 : Ref sig .tc := ⟨.hbm, 161, rfl⟩
abbrev main_v107_7 : Ref sig .tc := ⟨.hbm, 162, rfl⟩
abbrev main_while0c_c_14 : Ref sig .tc := ⟨.hbm, 163, rfl⟩
abbrev main_while0c_v160 : Ref sig .tc := ⟨.hbm, 164, rfl⟩
abbrev main_while0b_call6_c : Ref sig .tc := ⟨.hbm, 165, rfl⟩
abbrev main_while0b_call6_c_0 : Ref sig .tc := ⟨.hbm, 166, rfl⟩
abbrev main_while0b_call6_c_1 : Ref sig .tc := ⟨.hbm, 167, rfl⟩
abbrev main_while0b_call6_c_2 : Ref sig .tc := ⟨.hbm, 168, rfl⟩
abbrev main_while0b_call6_c_3 : Ref sig .tc := ⟨.hbm, 169, rfl⟩
abbrev main_while0b_call6_v0 : Ref sig .tc := ⟨.hbm, 170, rfl⟩
abbrev main_while0b_v160 : Ref sig .tc := ⟨.hbm, 171, rfl⟩
abbrev main_while0b_call7_c : Ref sig .tc := ⟨.hbm, 172, rfl⟩
abbrev main_while0b_call7_c_0 : Ref sig .tc := ⟨.hbm, 173, rfl⟩
abbrev main_while0b_call7_c_1 : Ref sig .tc := ⟨.hbm, 174, rfl⟩
abbrev main_while0b_call7_v0 : Ref sig .tc := ⟨.hbm, 175, rfl⟩
abbrev main_while0b_v161 : Ref sig .tc := ⟨.hbm, 176, rfl⟩
abbrev main_while0b_call8_c : Ref sig .tc := ⟨.hbm, 177, rfl⟩
abbrev main_while0b_call8_c_0 : Ref sig .tc := ⟨.hbm, 178, rfl⟩
abbrev main_while0b_call8_c_1 : Ref sig .tc := ⟨.hbm, 179, rfl⟩
abbrev main_while0b_call8_c_2 : Ref sig .tc := ⟨.hbm, 180, rfl⟩
abbrev main_while0b_call8_v0 : Ref sig .tc := ⟨.hbm, 181, rfl⟩
abbrev main_while0b_v162 : Ref sig .tc := ⟨.hbm, 182, rfl⟩
abbrev main_while0b_call9_c : Ref sig .tc := ⟨.hbm, 183, rfl⟩
abbrev main_while0b_call9_c_0 : Ref sig .tc := ⟨.hbm, 184, rfl⟩
abbrev main_while0b_call9_c_1 : Ref sig .tc := ⟨.hbm, 185, rfl⟩
abbrev main_while0b_call9_c_2 : Ref sig .tc := ⟨.hbm, 186, rfl⟩
abbrev main_while0b_call9_v0 : Ref sig .tc := ⟨.hbm, 187, rfl⟩
abbrev main_while0b_v163 : Ref sig .tc := ⟨.hbm, 188, rfl⟩
abbrev main_while0b_call10_c : Ref sig .tc := ⟨.hbm, 189, rfl⟩
abbrev main_while0b_call10_c_0 : Ref sig .tc := ⟨.hbm, 190, rfl⟩
abbrev main_while0b_call10_c_1 : Ref sig .tc := ⟨.hbm, 191, rfl⟩
abbrev main_while0b_call10_c_2 : Ref sig .tc := ⟨.hbm, 192, rfl⟩
abbrev main_while0b_call10_c_3 : Ref sig .tc := ⟨.hbm, 193, rfl⟩
abbrev main_while0b_call10_v0 : Ref sig .tc := ⟨.hbm, 194, rfl⟩
abbrev main_while0b_v164 : Ref sig .tc := ⟨.hbm, 195, rfl⟩
abbrev main_while0b_v165 : Ref sig .tc := ⟨.hbm, 196, rfl⟩
abbrev main_while0b_v166 : Ref sig .tc := ⟨.hbm, 197, rfl⟩
abbrev main_while0b_v167 : Ref sig .tc := ⟨.hbm, 198, rfl⟩
abbrev main_while0b_v168 : Ref sig .tc := ⟨.hbm, 199, rfl⟩
abbrev main_while0b_v169 : Ref sig .tc := ⟨.hbm, 200, rfl⟩
abbrev main_while0b_v170 : Ref sig .tc := ⟨.hbm, 201, rfl⟩
abbrev main_while0b_v171 : Ref sig .tc := ⟨.hbm, 202, rfl⟩
abbrev main_while0b_v172 : Ref sig .tc := ⟨.hbm, 203, rfl⟩
abbrev main_while0b_v173 : Ref sig .tc := ⟨.hbm, 204, rfl⟩
abbrev main_while0b_v174 : Ref sig .tc := ⟨.hbm, 205, rfl⟩
abbrev main_while0b_v175 : Ref sig .tc := ⟨.hbm, 206, rfl⟩
abbrev main_while0b_v176 : Ref sig .tc := ⟨.hbm, 207, rfl⟩
abbrev main_while0b_call11_v0 : Ref sig .tc := ⟨.hbm, 208, rfl⟩
abbrev main_while0b_call11_c : Ref sig .tc := ⟨.hbm, 209, rfl⟩
abbrev main_while0b_call11_c_0 : Ref sig .tc := ⟨.hbm, 210, rfl⟩
abbrev main_while0b_call11_c_1 : Ref sig .tc := ⟨.hbm, 211, rfl⟩
abbrev main_while0b_call11_c_2 : Ref sig .tc := ⟨.hbm, 212, rfl⟩
abbrev main_while0b_call11_c_3 : Ref sig .tc := ⟨.hbm, 213, rfl⟩
abbrev main_while0b_v177 : Ref sig .tc := ⟨.hbm, 214, rfl⟩
abbrev main_while0b_c_14 : Ref sig .tc := ⟨.hbm, 215, rfl⟩
abbrev main_while0b_v178 : Ref sig .tc := ⟨.hbm, 216, rfl⟩
abbrev main_v108 : Ref sig .tc := ⟨.hbm, 217, rfl⟩
abbrev main_v109 : Ref sig .tc := ⟨.hbm, 218, rfl⟩
abbrev main_v110 : Ref sig .tc := ⟨.hbm, 219, rfl⟩
abbrev main_v111 : Ref sig .tc := ⟨.hbm, 220, rfl⟩
abbrev main_v112 : Ref sig .tc := ⟨.hbm, 221, rfl⟩
abbrev main_v113 : Ref sig .tc := ⟨.hbm, 222, rfl⟩
abbrev main_c_5 : Ref sig .tc := ⟨.hbm, 223, rfl⟩
abbrev main_call12_v0 : Ref sig .tc := ⟨.hbm, 224, rfl⟩
abbrev main_v114 : Ref sig .tc := ⟨.hbm, 225, rfl⟩
abbrev main_v115 : Ref sig .tc := ⟨.hbm, 226, rfl⟩
abbrev main_v116 : Ref sig .tc := ⟨.hbm, 227, rfl⟩
abbrev main_v117 : Ref sig .tc := ⟨.hbm, 228, rfl⟩
abbrev main_v118 : Ref sig .tc := ⟨.hbm, 229, rfl⟩
abbrev main_v119 : Ref sig .tc := ⟨.hbm, 230, rfl⟩
abbrev main_v120 : Ref sig .tc := ⟨.hbm, 231, rfl⟩
abbrev main_cst_6 : Ref sig .tc := ⟨.hbm, 232, rfl⟩
abbrev main_v121 : Ref sig .tc := ⟨.hbm, 233, rfl⟩
abbrev main_v122 : Ref sig .tc := ⟨.hbm, 234, rfl⟩
abbrev main_v123 : Ref sig .tc := ⟨.hbm, 235, rfl⟩
abbrev main_v124 : Ref sig .tc := ⟨.hbm, 236, rfl⟩
abbrev main_v125 : Ref sig .tc := ⟨.hbm, 237, rfl⟩
abbrev main_v126 : Ref sig .tc := ⟨.hbm, 238, rfl⟩
abbrev main_v127 : Ref sig .tc := ⟨.hbm, 239, rfl⟩
abbrev main_v128 : Ref sig .tc := ⟨.hbm, 240, rfl⟩
abbrev main_v129 : Ref sig .tc := ⟨.hbm, 241, rfl⟩
abbrev main_v130 : Ref sig .tc := ⟨.hbm, 242, rfl⟩
abbrev main_v131 : Ref sig .tc := ⟨.hbm, 243, rfl⟩
abbrev main_v132 : Ref sig .tc := ⟨.hbm, 244, rfl⟩
abbrev main_v133 : Ref sig .tc := ⟨.hbm, 245, rfl⟩
abbrev main_v134 : Ref sig .tc := ⟨.hbm, 246, rfl⟩
abbrev main_v135 : Ref sig .tc := ⟨.hbm, 247, rfl⟩
abbrev main_v136 : Ref sig .tc := ⟨.hbm, 248, rfl⟩
abbrev main_v137 : Ref sig .tc := ⟨.hbm, 249, rfl⟩
abbrev main_v138 : Ref sig .tc := ⟨.hbm, 250, rfl⟩
abbrev main_v139 : Ref sig .tc := ⟨.hbm, 251, rfl⟩
abbrev main_v140 : Ref sig .tc := ⟨.hbm, 252, rfl⟩
abbrev main_v141 : Ref sig .tc := ⟨.hbm, 253, rfl⟩
abbrev main_v142 : Ref sig .tc := ⟨.hbm, 254, rfl⟩
abbrev main_v143 : Ref sig .tc := ⟨.hbm, 255, rfl⟩
abbrev main_v144 : Ref sig .tc := ⟨.hbm, 256, rfl⟩
abbrev main_v145 : Ref sig .tc := ⟨.hbm, 257, rfl⟩
abbrev main_v146 : Ref sig .tc := ⟨.hbm, 258, rfl⟩
abbrev main_v147 : Ref sig .tc := ⟨.hbm, 259, rfl⟩
abbrev main_v148 : Ref sig .tc := ⟨.hbm, 260, rfl⟩
abbrev main_v149 : Ref sig .tc := ⟨.hbm, 261, rfl⟩
abbrev main_v150 : Ref sig .tc := ⟨.hbm, 262, rfl⟩
abbrev main_v151 : Ref sig .tc := ⟨.hbm, 263, rfl⟩
abbrev main_v152 : Ref sig .tc := ⟨.hbm, 264, rfl⟩
abbrev main_v153 : Ref sig .tc := ⟨.hbm, 265, rfl⟩
abbrev main_v154 : Ref sig .tc := ⟨.hbm, 266, rfl⟩
abbrev main_call13_v0 : Ref sig .tc := ⟨.hbm, 267, rfl⟩
abbrev main_call13_v1 : Ref sig .tc := ⟨.hbm, 268, rfl⟩
abbrev main_call13_cst : Ref sig .tc := ⟨.hbm, 269, rfl⟩
abbrev main_call13_v2 : Ref sig .tc := ⟨.hbm, 270, rfl⟩
abbrev main_call13_v3 : Ref sig .tc := ⟨.hbm, 271, rfl⟩
abbrev main_call13_cst_0 : Ref sig .tc := ⟨.hbm, 272, rfl⟩
abbrev main_call13_v4 : Ref sig .tc := ⟨.hbm, 273, rfl⟩
abbrev main_call13_v5 : Ref sig .tc := ⟨.hbm, 274, rfl⟩
abbrev main_v155 : Ref sig .tc := ⟨.hbm, 275, rfl⟩
abbrev main_v156 : Ref sig .tc := ⟨.hbm, 276, rfl⟩
abbrev main_v157 : Ref sig .tc := ⟨.hbm, 277, rfl⟩
abbrev main_v158 : Ref sig .tc := ⟨.hbm, 278, rfl⟩
abbrev main_v159 : Ref sig .tc := ⟨.hbm, 279, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S8x4096x1024 : Shape := ⟨3, ![8, 4096, 1024]⟩
abbrev S8x1024 : Shape := ⟨2, ![8, 1024]⟩
abbrev S1x1024 : Shape := ⟨2, ![1, 1024]⟩
abbrev S1x1024x8224 : Shape := ⟨3, ![1, 1024, 8224]⟩
abbrev S32768x1024 : Shape := ⟨2, ![32768, 1024]⟩
abbrev S1024 : Shape := ⟨1, ![1024]⟩
abbrev S1024x8224 : Shape := ⟨2, ![1024, 8224]⟩
abbrev S8x1x1024 : Shape := ⟨3, ![8, 1, 1024]⟩
abbrev S1024x2048 : Shape := ⟨2, ![1024, 2048]⟩
abbrev S1024x1024 : Shape := ⟨2, ![1024, 1024]⟩
abbrev S1024x5120 : Shape := ⟨2, ![1024, 5120]⟩
abbrev S1024x8192 : Shape := ⟨2, ![1024, 8192]⟩
abbrev S1024x32 : Shape := ⟨2, ![1024, 32]⟩
abbrev S_ : Shape := ⟨0, ![]⟩
abbrev S1024x128 : Shape := ⟨2, ![1024, 128]⟩
abbrev S32768x8192 : Shape := ⟨2, ![32768, 8192]⟩
abbrev S32768x128 : Shape := ⟨2, ![32768, 128]⟩
abbrev S512x1024 : Shape := ⟨2, ![512, 1024]⟩
abbrev S1x1x1024 : Shape := ⟨3, ![1, 1, 1024]⟩
abbrev S512x8192 : Shape := ⟨2, ![512, 8192]⟩
abbrev S512x128 : Shape := ⟨2, ![512, 128]⟩
abbrev S512 : Shape := ⟨1, ![512]⟩
abbrev S512x1 : Shape := ⟨2, ![512, 1]⟩

abbrev nBuf : Space → Nat
  | .hbm => 23
  | .vmem => 13
  | .smem => 0
  | _ => 0

abbrev bufTy : (tb : Table) → Fin (tcTables nBuf tb) → BufTy
  | .hbm, ⟨0, _⟩ => ⟨S8x4096x1024, .f32⟩
  | .hbm, ⟨1, _⟩ => ⟨S8x1024, .f32⟩
  | .hbm, ⟨2, _⟩ => ⟨S8x1024, .f32⟩
  | .hbm, ⟨3, _⟩ => ⟨S1x1024, .f32⟩
  | .hbm, ⟨4, _⟩ => ⟨S1x1024x8224, .f32⟩
  | .hbm, ⟨5, _⟩ => ⟨S32768x1024, .f32⟩
  | .hbm, ⟨6, _⟩ => ⟨S1024, .f32⟩
  | .hbm, ⟨7, _⟩ => ⟨S1024x8224, .f32⟩
  | .hbm, ⟨8, _⟩ => ⟨S8x1x1024, .f32⟩
  | .hbm, ⟨9, _⟩ => ⟨S8x1x1024, .f32⟩
  | .hbm, ⟨10, _⟩ => ⟨S1024x2048, .f32⟩
  | .hbm, ⟨11, _⟩ => ⟨S1024x1024, .f32⟩
  | .hbm, ⟨12, _⟩ => ⟨S1024x5120, .f32⟩
  | .hbm, ⟨13, _⟩ => ⟨S1024x8192, .f32⟩
  | .hbm, ⟨14, _⟩ => ⟨S1024x8192, .bf16⟩
  | .hbm, ⟨15, _⟩ => ⟨S1024x32, .f32⟩
  | .hbm, ⟨16, _⟩ => ⟨S_, .i32⟩
  | .hbm, ⟨17, _⟩ => ⟨S_, .f32⟩
  | .hbm, ⟨18, _⟩ => ⟨S1024x128, .f32⟩
  | .hbm, ⟨19, _⟩ => ⟨S1024x128, .bf16⟩
  | .hbm, ⟨20, _⟩ => ⟨S1x1024, .f32⟩
  | .hbm, ⟨21, _⟩ => ⟨S32768x8192, .bf16⟩
  | .hbm, ⟨22, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x8192, .bf16⟩
  | .local _ .vmem, ⟨8, _⟩ => ⟨S1024x128, .bf16⟩
  | .local _ .vmem, ⟨9, _⟩ => ⟨S512x8192, .bf16⟩
  | .local _ .vmem, ⟨10, _⟩ => ⟨S512x8192, .bf16⟩
  | .local _ .vmem, ⟨11, _⟩ => ⟨S512x128, .f32⟩
  | .local _ .vmem, ⟨12, _⟩ => ⟨S512x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_call0_v0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14_0 : Ref sig .tc := ⟨.hbm, 21, rfl⟩
abbrev main_v14_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x8192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x8192 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S8x4096x1024 : Shape := ⟨3, ![8, 4096, 1024]⟩
abbrev S8x1024 : Shape := ⟨2, ![8, 1024]⟩
abbrev S1x1024 : Shape := ⟨2, ![1, 1024]⟩
abbrev S1x1024x8224 : Shape := ⟨3, ![1, 1024, 8224]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1024 : Shape := ⟨3, ![8, 1, 1024]⟩
abbrev S1024x8224 : Shape := ⟨2, ![1024, 8224]⟩
abbrev S8x4096x8224 : Shape := ⟨3, ![8, 4096, 8224]⟩
abbrev S32768x8224 : Shape := ⟨2, ![32768, 8224]⟩
abbrev S32768x1024 : Shape := ⟨2, ![32768, 1024]⟩
abbrev S32768x2048 : Shape := ⟨2, ![32768, 2048]⟩
abbrev S32768x32 : Shape := ⟨2, ![32768, 32]⟩
abbrev S32768x5120 : Shape := ⟨2, ![32768, 5120]⟩
abbrev S32768x8192 : Shape := ⟨2, ![32768, 8192]⟩
abbrev S32768x128 : Shape := ⟨2, ![32768, 128]⟩

abbrev nBuf : Space → Nat
  | .hbm => 43
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x1024, .f32⟩
  | .hbm, ⟨2, _⟩ => ⟨S8x1024, .f32⟩
  | .hbm, ⟨3, _⟩ => ⟨S1x1024, .f32⟩
  | .hbm, ⟨4, _⟩ => ⟨S1x1024x8224, .f32⟩
  | .hbm, ⟨5, _⟩ => ⟨S1024, .f32⟩
  | .hbm, ⟨6, _⟩ => ⟨S8x4096x1024, .f32⟩
  | .hbm, ⟨7, _⟩ => ⟨S_, .f32⟩
  | .hbm, ⟨8, _⟩ => ⟨S8x4096, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S8x4096x1, .f32⟩
  | .hbm, ⟨17, _⟩ => ⟨S8x4096x1024, .f32⟩
  | .hbm, ⟨18, _⟩ => ⟨S8x4096x1024, .f32⟩
  | .hbm, ⟨19, _⟩ => ⟨S1x1x1024, .f32⟩
  | .hbm, ⟨20, _⟩ => ⟨S8x4096x1024, .f32⟩
  | .hbm, ⟨21, _⟩ => ⟨S8x4096x1024, .f32⟩
  | .hbm, ⟨22, _⟩ => ⟨S8x1x1024, .f32⟩
  | .hbm, ⟨23, _⟩ => ⟨S_, .f32⟩
  | .hbm, ⟨24, _⟩ => ⟨S8x1x1024, .f32⟩
  | .hbm, ⟨25, _⟩ => ⟨S8x1x1024, .f32⟩
  | .hbm, ⟨26, _⟩ => ⟨S8x4096x1024, .f32⟩
  | .hbm, ⟨27, _⟩ => ⟨S8x4096x1024, .f32⟩
  | .hbm, ⟨28, _⟩ => ⟨S8x1x1024, .f32⟩
  | .hbm, ⟨29, _⟩ => ⟨S8x4096x1024, .f32⟩
  | .hbm, ⟨30, _⟩ => ⟨S8x4096x1024, .f32⟩
  | .hbm, ⟨31, _⟩ => ⟨S1024x8224, .f32⟩
  | .hbm, ⟨32, _⟩ => ⟨S8x4096x8224, .f32⟩
  | .hbm, ⟨33, _⟩ => ⟨S32768x8224, .f32⟩
  | .hbm, ⟨34, _⟩ => ⟨S32768x1024, .f32⟩
  | .hbm, ⟨35, _⟩ => ⟨S32768x2048, .f32⟩
  | .hbm, ⟨36, _⟩ => ⟨S32768x32, .f32⟩
  | .hbm, ⟨37, _⟩ => ⟨S32768x5120, .f32⟩
  | .hbm, ⟨38, _⟩ => ⟨S32768x8192, .f32⟩
  | .hbm, ⟨39, _⟩ => ⟨S32768x8192, .bf16⟩
  | .hbm, ⟨40, _⟩ => ⟨S_, .i32⟩
  | .hbm, ⟨41, _⟩ => ⟨S_, .f32⟩
  | .hbm, ⟨42, _⟩ => ⟨S32768x128, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_c : Ref sig .tc := ⟨.hbm, 40, rfl⟩
abbrev main_call0_v0 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Kernel3.lean ====
abbrev S8x4096x1024 : Shape := ⟨3, ![8, 4096, 1024]⟩
abbrev S32768x1024 : Shape := ⟨2, ![32768, 1024]⟩
abbrev S32768x8192 : Shape := ⟨2, ![32768, 8192]⟩
abbrev S8x1024 : Shape := ⟨2, ![8, 1024]⟩
abbrev S1x1024 : Shape := ⟨2, ![1, 1024]⟩
abbrev S1x1024x1024 : Shape := ⟨3, ![1, 1024, 1024]⟩
abbrev S1x1024x2048 : Shape := ⟨3, ![1, 1024, 2048]⟩
abbrev S1x2x128x128 : Shape := ⟨4, ![1, 2, 128, 128]⟩
abbrev S1024 : Shape := ⟨1, ![1024]⟩
abbrev S1024x1024 : Shape := ⟨2, ![1024, 1024]⟩
abbrev S1024x2048 : Shape := ⟨2, ![1024, 2048]⟩
abbrev S2x128x128 : Shape := ⟨3, ![2, 128, 128]⟩
abbrev S8x1x1024 : Shape := ⟨3, ![8, 1, 1024]⟩
abbrev S16x16x2048x128 : Shape := ⟨4, ![16, 16, 2048, 128]⟩
abbrev S512x1024 : Shape := ⟨2, ![512, 1024]⟩
abbrev S1x1x1024 : Shape := ⟨3, ![1, 1, 1024]⟩
abbrev S16x16x32x128 : Shape := ⟨4, ![16, 16, 32, 128]⟩
abbrev S512 : Shape := ⟨1, ![512]⟩
abbrev S512x1 : Shape := ⟨2, ![512, 1]⟩
abbrev S512x2048 : Shape := ⟨2, ![512, 2048]⟩
abbrev S512x128 : Shape := ⟨2, ![512, 128]⟩
abbrev S1x128x128 : Shape := ⟨3, ![1, 128, 128]⟩
abbrev S128x128 : Shape := ⟨2, ![128, 128]⟩
abbrev S128x512 : Shape := ⟨2, ![128, 512]⟩
abbrev S8x128 : Shape := ⟨2, ![8, 128]⟩
abbrev S1x1x8x128 : Shape := ⟨4, ![1, 1, 8, 128]⟩

abbrev nBuf : Space → Nat
  | .hbm => 31
  | .vmem => 26
  | .smem => 0
  | _ => 0

abbrev bufTy : (tb : Table) → Fin (tcTables nBuf tb) → BufTy
  | .hbm, ⟨0, _⟩ => ⟨S8x4096x1024, .f32⟩
  | .hbm, ⟨1, _⟩ => ⟨S32768x1024, .bf16⟩
  | .hbm, ⟨2, _⟩ => ⟨S32768x1024, .bf16⟩
  | .hbm, ⟨3, _⟩ => ⟨S32768x8192, .bf16⟩
  | .hbm, ⟨4, _⟩ => ⟨S8x1024, .f32⟩
  | .hbm, ⟨5, _⟩ => ⟨S8x1024, .f32⟩
  | .hbm, ⟨6, _⟩ => ⟨S8x1024, .f32⟩
  | .hbm, ⟨7, _⟩ => ⟨S1x1024, .f32⟩
  | .hbm, ⟨8, _⟩ => ⟨S1x1024x1024, .f32⟩
  | .hbm, ⟨9, _⟩ => ⟨S1x1024x1024, .f32⟩
  | .hbm, ⟨10, _⟩ => ⟨S1x1024x1024, .f32⟩
  | .hbm, ⟨11, _⟩ => ⟨S1x1024x2048, .f32⟩
  | .hbm, ⟨12, _⟩ => ⟨S1x2x128x128, .f32⟩
  | .hbm, ⟨13, _⟩ => ⟨S32768x1024, .f32⟩
  | .hbm, ⟨14, _⟩ => ⟨S1024, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S1024x2048, .f32⟩
  | .hbm, ⟨19, _⟩ => ⟨S2x128x128, .f32⟩
  | .hbm, ⟨20, _⟩ => ⟨S8x1x1024, .f32⟩
  | .hbm, ⟨21, _⟩ => ⟨S8x1x1024, .f32⟩
  | .hbm, ⟨22, _⟩ => ⟨S8x1x1024, .f32⟩
  | .hbm, ⟨23, _⟩ => ⟨S1x1024, .f32⟩
  | .hbm, ⟨24, _⟩ => ⟨S1024x1024, .bf16⟩
  | .hbm, ⟨25, _⟩ => ⟨S1024x1024, .bf16⟩
  | .hbm, ⟨26, _⟩ => ⟨S1024x1024, .bf16⟩
  | .hbm, ⟨27, _⟩ => ⟨S1024x2048, .bf16⟩
  | .hbm, ⟨28, _⟩ => ⟨S2x128x128, .bf16⟩
  | .hbm, ⟨29, _⟩ => ⟨S32768x1024, .f32⟩
  | .hbm, ⟨30, _⟩ => ⟨S16x16x2048x128, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1024, .f32⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x2048, .bf16⟩
  | .local _ .vmem, ⟨21, _⟩ => ⟨S2x128x128, .bf16⟩
  | .local _ .vmem, ⟨22, _⟩ => ⟨S512x1024, .f32⟩
  | .local _ .vmem, ⟨23, _⟩ => ⟨S512x1024, .f32⟩
  | .local _ .vmem, ⟨24, _⟩ => ⟨S16x16x32x128, .f32⟩
  | .local _ .vmem, ⟨25, _⟩ => ⟨S16x16x32x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16_0 : Ref sig .tc := ⟨.hbm, 29, rfl⟩
abbrev main_v16_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_5 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_6 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_7 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2x128x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S16x16x32x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference3Ideal.lean ====
abbrev S8x4096x1024 : Shape := ⟨3, ![8, 4096, 1024]⟩
abbrev S32768x1024 : Shape := ⟨2, ![32768, 1024]⟩
abbrev S32768x8192 : Shape := ⟨2, ![32768, 8192]⟩
abbrev S8x1024 : Shape := ⟨2, ![8, 1024]⟩
abbrev S1x1024 : Shape := ⟨2, ![1, 1024]⟩
abbrev S1x1024x1024 : Shape := ⟨3, ![1, 1024, 1024]⟩
abbrev S1x1024x2048 : Shape := ⟨3, ![1, 1024, 2048]⟩
abbrev S1x2x128x128 : Shape := ⟨4, ![1, 2, 128, 128]⟩
abbrev S8x1x1024 : Shape := ⟨3, ![8, 1, 1024]⟩
abbrev S32768x2048 : Shape := ⟨2, ![32768, 2048]⟩
abbrev S1024x1024 : Shape := ⟨2, ![1024, 1024]⟩
abbrev S_ : Shape := ⟨0, ![]⟩
abbrev S1024 : Shape := ⟨1, ![1024]⟩
abbrev S8x4096 : Shape := ⟨2, ![8, 4096]⟩
abbrev S8x4096x1 : Shape := ⟨3, ![8, 4096, 1]⟩
abbrev S1x1x1024 : Shape := ⟨3, ![1, 1, 1024]⟩
abbrev S1024x2048 : Shape := ⟨2, ![1024, 2048]⟩
abbrev S8x4096x2048 : Shape := ⟨3, ![8, 4096, 2048]⟩
abbrev S32768x8x2x128 : Shape := ⟨4, ![32768, 8, 2, 128]⟩
abbrev S2x128x128 : Shape := ⟨3, ![2, 128, 128]⟩
abbrev S2x128x32768x8 : Shape := ⟨4, ![2, 128, 32768, 8]⟩
abbrev S256x128x16x16x8 : Shape := ⟨5, ![256, 128, 16, 16, 8]⟩
abbrev S16x16x256x8x128 : Shape := ⟨5, ![16, 16, 256, 8, 128]⟩
abbrev S16x16x2048x128 : Shape := ⟨4, ![16, 16, 2048, 128]⟩

abbrev nBuf : Space → Nat
  | .hbm => 89
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S32768x1024, .bf16⟩
  | .hbm, ⟨2, _⟩ => ⟨S32768x1024, .bf16⟩
  | .hbm, ⟨3, _⟩ => ⟨S32768x8192, .bf16⟩
  | .hbm, ⟨4, _⟩ => ⟨S8x1024, .f32⟩
  | .hbm, ⟨5, _⟩ => ⟨S8x1024, .f32⟩
  | .hbm, ⟨6, _⟩ => ⟨S8x1024, .f32⟩
  | .hbm, ⟨7, _⟩ => ⟨S1x1024, .f32⟩
  | .hbm, ⟨8, _⟩ => ⟨S1x1024x1024, .f32⟩
  | .hbm, ⟨9, _⟩ => ⟨S1x1024x1024, .f32⟩
  | .hbm, ⟨10, _⟩ => ⟨S1x1024x1024, .f32⟩
  | .hbm, ⟨11, _⟩ => ⟨S1x1024x2048, .f32⟩
  | .hbm, ⟨12, _⟩ => ⟨S1x2x128x128, .f32⟩
  | .hbm, ⟨13, _⟩ => ⟨S8x1x1024, .f32⟩
  | .hbm, ⟨14, _⟩ => ⟨S32768x2048, .bf16⟩
  | .hbm, ⟨15, _⟩ => ⟨S32768x1024, .bf16⟩
  | .hbm, ⟨16, _⟩ => ⟨S32768x1024, .bf16⟩
  | .hbm, ⟨17, _⟩ => ⟨S32768x1024, .f32⟩
  | .hbm, ⟨18, _⟩ => ⟨S8x4096x1024, .f32⟩
  | .hbm, ⟨19, _⟩ => ⟨S1024x1024, .f32⟩
  | .hbm, ⟨20, _⟩ => ⟨S8x4096x1024, .f32⟩
  | .hbm, ⟨21, _⟩ => ⟨S32768x1024, .f32⟩
  | .hbm, ⟨22, _⟩ => ⟨S8x4096x1024, .f32⟩
  | .hbm, ⟨23, _⟩ => ⟨S1024x1024, .f32⟩
  | .hbm, ⟨24, _⟩ => ⟨S8x4096x1024, .f32⟩
  | .hbm, ⟨25, _⟩ => ⟨S32768x1024, .f32⟩
  | .hbm, ⟨26, _⟩ => ⟨S8x4096x1024, .f32⟩
  | .hbm, ⟨27, _⟩ => ⟨S8x4096x1024, .f32⟩
  | .hbm, ⟨28, _⟩ => ⟨S8x4096x1024, .f32⟩
  | .hbm, ⟨29, _⟩ => ⟨S_, .f32⟩
  | .hbm, ⟨30, _⟩ => ⟨S8x4096x1024, .f32⟩
  | .hbm, ⟨31, _⟩ => ⟨S8x4096x1024, .f32⟩
  | .hbm, ⟨32, _⟩ => ⟨S_, .f32⟩
  | .hbm, ⟨33, _⟩ => ⟨S8x4096x1024, .f32⟩
  | .hbm, ⟨34, _⟩ => ⟨S8x4096x1024, .f32⟩
  | .hbm, ⟨35, _⟩ => ⟨S8x4096x1024, .f32⟩
  | .hbm, ⟨36, _⟩ => ⟨S32768x1024, .f32⟩
  | .hbm, ⟨37, _⟩ => ⟨S8x4096x1024, .f32⟩
  | .hbm, ⟨38, _⟩ => ⟨S8x4096x1024, .f32⟩
  | .hbm, ⟨39, _⟩ => ⟨S8x4096x1024, .f32⟩
  | .hbm, ⟨40, _⟩ => ⟨S_, .f32⟩
  | .hbm, ⟨41, _⟩ => ⟨S8x4096x1024, .f32⟩
  | .hbm, ⟨42, _⟩ => ⟨S8x4096x1024, .f32⟩
  | .hbm, ⟨43, _⟩ => ⟨S_, .f32⟩
  | .hbm, ⟨44, _⟩ => ⟨S8x4096x1024, .f32⟩
  | .hbm, ⟨45, _⟩ => ⟨S8x4096x1024, .f32⟩
  | .hbm, ⟨46, _⟩ => ⟨S8x4096x1024, .f32⟩
  | .hbm, ⟨47, _⟩ => ⟨S8x4096x1024, .f32⟩
  | .hbm, ⟨48, _⟩ => ⟨S1024x1024, .f32⟩
  | .hbm, ⟨49, _⟩ => ⟨S8x4096x1024, .f32⟩
  | .hbm, ⟨50, _⟩ => ⟨S8x4096x1024, .f32⟩
  | .hbm, ⟨51, _⟩ => ⟨S8x4096x1024, .f32⟩
  | .hbm, ⟨52, _⟩ => ⟨S8x4096x1024, .f32⟩
  | .hbm, ⟨53, _⟩ => ⟨S1024, .f32⟩
  | .hbm, ⟨54, _⟩ => ⟨S8x4096x1024, .f32⟩
  | .hbm, ⟨55, _⟩ => ⟨S_, .f32⟩
  | .hbm, ⟨56, _⟩ => ⟨S8x4096, .f32⟩
  | .hbm, ⟨57, _⟩ => ⟨S8x4096x1, .f32⟩
  | .hbm, ⟨58, _⟩ => ⟨S_, .f32⟩
  | .hbm, ⟨59, _⟩ => ⟨S8x4096x1, .f32⟩
  | .hbm, ⟨60, _⟩ => ⟨S8x4096x1, .f32⟩
  | .hbm, ⟨61, _⟩ => ⟨S_, .f32⟩
  | .hbm, ⟨62, _⟩ => ⟨S8x4096x1, .f32⟩
  | .hbm, ⟨63, _⟩ => ⟨S8x4096x1, .f32⟩
  | .hbm, ⟨64, _⟩ => ⟨S8x4096x1, .f32⟩
  | .hbm, ⟨65, _⟩ => ⟨S8x4096x1024, .f32⟩
  | .hbm, ⟨66, _⟩ => ⟨S8x4096x1024, .f32⟩
  | .hbm, ⟨67, _⟩ => ⟨S1x1x1024, .f32⟩
  | .hbm, ⟨68, _⟩ => ⟨S8x4096x1024, .f32⟩
  | .hbm, ⟨69, _⟩ => ⟨S8x4096x1024, .f32⟩
  | .hbm, ⟨70, _⟩ => ⟨S8x1x1024, .f32⟩
  | .hbm, ⟨71, _⟩ => ⟨S_, .f32⟩
  | .hbm, ⟨72, _⟩ => ⟨S8x1x1024, .f32⟩
  | .hbm, ⟨73, _⟩ => ⟨S8x1x1024, .f32⟩
  | .hbm, ⟨74, _⟩ => ⟨S8x4096x1024, .f32⟩
  | .hbm, ⟨75, _⟩ => ⟨S8x4096x1024, .f32⟩
  | .hbm, ⟨76, _⟩ => ⟨S8x1x1024, .f32⟩
  | .hbm, ⟨77, _⟩ => ⟨S8x4096x1024, .f32⟩
  | .hbm, ⟨78, _⟩ => ⟨S8x4096x1024, .f32⟩
  | .hbm, ⟨79, _⟩ => ⟨S1024x2048, .f32⟩
  | .hbm, ⟨80, _⟩ => ⟨S8x4096x2048, .f32⟩
  | .hbm, ⟨81, _⟩ => ⟨S32768x8x2x128, .f32⟩
  | .hbm, ⟨82, _⟩ => ⟨S2x128x128, .f32⟩
  | .hbm, ⟨83, _⟩ => ⟨S2x128x32768x8, .f32⟩
  | .hbm, ⟨84, _⟩ => ⟨S32768x8x2x128, .f32⟩
  | .hbm, ⟨85, _⟩ => ⟨S256x128x16x16x8, .f32⟩
  | .hbm, ⟨86, _⟩ => ⟨S32768x1024, .f32⟩
  | .hbm, ⟨87, _⟩ => ⟨S16x16x256x8x128, .f32⟩
  | .hbm, ⟨88, _⟩ => ⟨S16x16x2048x128, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_v17 : Ref sig .tc := ⟨.hbm, 31, rfl⟩
abbrev main_cst_0 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_1 : Ref sig .tc := ⟨.hbm, 40, rfl⟩
abbrev main_v25 : Ref sig .tc := ⟨.hbm, 41, rfl⟩
abbrev main_v26 : Ref sig .tc := ⟨.hbm, 42, rfl⟩
abbrev main_cst_2 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_3 : Ref sig .tc := ⟨.hbm, 55, rfl⟩
abbrev main_v38 : Ref sig .tc := ⟨.hbm, 56, rfl⟩
abbrev main_v39 : Ref sig .tc := ⟨.hbm, 57, rfl⟩
abbrev main_cst_4 : Ref sig .tc := ⟨.hbm, 58, rfl⟩
abbrev main_v40 : Ref sig .tc := ⟨.hbm, 59, rfl⟩
abbrev main_v41 : Ref sig .tc := ⟨.hbm, 60, rfl⟩
abbrev main_cst_5 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_6 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩

abbrev nD : Nat := 1
abbrev τ : Topo := Topo.v7x

variable {F : FTy → Type} [FloatOps F]
-- ==== Proof.Vocab.lean ====
module

public import proofs.«01_k».proof.Proof.Gen.KernelIdeal.Frame
public import Idealize.ShloMosaic.Lib.Pipeline.ValueKit

@[expose] public section

set_option maxRecDepth 16384

noncomputable section

namespace Cert.KernelIdeal.Val

open Cert.KernelIdeal Cert.KernelIdeal.Gen Idealize.ShloMosaic Idealize.ShloMosaic.TcCoe
open Cert.KernelIdeal.Facts

variable {F : FTy → Type} [FloatOps F]

/-! ## The body's stages, one definition each, for a chunk of 128 rows -/

/-- The lane number of each cell of a 128 × 128 tile. -/
def lanes : IVec S128x128 32 := iota .tc S128x128 32 [1] iota_S128x128_d1_w32

/-- The row number of each cell of a 128 × 128 tile. -/
def rowNo : IVec S128x128 32 := iota .tc S128x128 32 [0] iota_S128x128_d0_w32

/-- The lanes that hold a head's step size: the first sixteen. -/
def headLane : IVec S128x128 1 :=
  andi (cmpi .sge lanes (broadcast S128x128 0#32)) (cmpi .slt lanes (broadcast S128x128 16#32))

/-- The cells on or below the diagonal. -/
def causal : IVec S128x128 1 := cmpi .sle lanes rowNo

/-- The zero tile. -/
def zeroTile : FVec F S128x128 .f32 := broadcast S128x128 (Scalar.ofBits .f32 0x00000000#32)

/-- The step sizes of a chunk: the softplus of the raw values plus the bias, zero off the head lanes. -/
def stepSize (d : Vec F S128x128 .f32) (b : Vec F S1x128 .f32) : FVec F S128x128 .f32 :=
  let z := addf d (broadcastTo S128x128 (shapeCast S1x128 b shapeCasts_S1x128_S1x128) broadcasts_S1x128_S128x128)
  select headLane (addf (maximumf z zeroTile) (log1p (exp (subf zeroTile (absf z))))) zeroTile

/-- The log decays of a chunk's rows. -/
def logDecay (dt : FVec F S128x128 .f32) (a : Vec F S1x128 .f32) : FVec F S128x128 .f32 :=
  mulf dt (broadcastTo S128x128 (shapeCast S1x128 a shapeCasts_S1x128_S1x128) broadcasts_S1x128_S128x128)

/-- The triangle of ones that sums a column up to each row. -/
def triOnes : FVec F S128x128 .bf16 :=
  truncf .bf16 (select causal (broadcast S128x128 (Scalar.ofBits .f32 0x3F800000#32)) zeroTile) bitsLt_bf16_f32

/-- The triangle times a tile. -/
def triDot (x : FVec F S128x128 .bf16) : FVec F S128x128 .f32 :=
  matmul dot_S128x128_S128x128_S128x128_1_0_0_1_n_n none triOnes x (constant S128x128 .f32 0x00000000#32)

/-- The running sums of the log decays down a chunk, in the kernel's three parts. -/
def runSum (da : FVec F S128x128 .f32) : FVec F S128x128 .f32 :=
  let hi := truncf .bf16 da bitsLt_bf16_f32
  let r1 := subf da (extf .f32 hi bitsLt_bf16_f32)
  let mid := truncf .bf16 r1 bitsLt_bf16_f32
  let lo := truncf .bf16 (subf r1 (extf .f32 mid bitsLt_bf16_f32)) bitsLt_bf16_f32
  addf (addf (triDot hi) (triDot mid)) (triDot lo)

/-- The decay from each row to the chunk's last, zero off the head lanes. -/
def toEnd (cs : FVec F S128x128 .f32) : FVec F S128x128 .f32 :=
  select headLane (exp (subf (broadcastTo S128x128 (extractStridedSlice S1x128 ![127, 0] cs slices_S128x128_o127_0_S1x128)
    broadcasts_S1x128_S128x128) cs)) zeroTile

/-- The decay from the chunk's start to each row, zero off the head lanes. -/
def fromStart (cs : FVec F S128x128 .f32) : FVec F S128x128 .f32 := select headLane (exp cs) zeroTile

/-- A per-head tile spread over each head's 64 columns, by the kernel's one-hot product. -/
def spread (v : FVec F S128x128 .f32) (e : Vec F S128x1024 .bf16) : FVec F S128x1024 .f32 :=
  let hi := extf .f32 (truncf .bf16 v bitsLt_bf16_f32) bitsLt_bf16_f32
  matmul dot_S128x128_S128x1024_S128x1024_1_0_0_1_n_n none
    (truncf .bf16 (addf hi (dynamicRotate 1 64#32 none (subf v hi) rotates_S128x128_d1)) bitsLt_bf16_f32)
    (shapeCast S128x1024 e shapeCasts_S128x1024_S128x1024) (constant S128x1024 .f32 0x00000000#32)

/-- One head's weights: the group's products times the decay between the two rows, zero above the diagonal. -/
def headWeights (cb : FVec F S128x128 .f32) (c : FVec F S128x1 .f32) (r : FVec F S1x128 .f32) : FVec F S128x128 .bf16 :=
  truncf .bf16 (mulf cb (exp (select causal
    (subf (broadcastTo S128x128 c broadcasts_S128x1_S128x128) (broadcastTo S128x128 r broadcasts_S1x128_S128x128))
    (broadcast S128x128 (Scalar.ofBits .f32 0xFF800000#32))))) bitsLt_bf16_f32

/-- The left 64 columns of a 128-wide tile. -/
def leftHalf : IVec S128x128 1 := cmpi .slt lanes (broadcast S128x128 64#32)

/-- Two heads at once: both heads' weights side by side, times the two heads' columns stacked with the other half zero. -/
def twoHeads (w0 w1 : FVec F S128x128 .bf16) (x : FVec F S128x128 .f32) : FVec F S128x128 .f32 :=
  matmul dot_S128x256_S256x128_S128x128_1_0_0_1_n_n none
    (concatenate S128x256 1 [⟨S128x128, w0⟩, ⟨S128x128, w1⟩] concatenates_S128x128_S128x128_S128x256_d1)
    (truncf .bf16 (concatenate S256x128 0 [⟨S128x128, select leftHalf x zeroTile⟩, ⟨S128x128, select leftHalf zeroTile x⟩]
      concatenates_S128x128_S128x128_S256x128_d0) bitsLt_bf16_f32)
    (constant S128x128 .f32 0x00000000#32)

/-- A group's products of output and input directions. -/
def groupDots (cg bg : FVec F S128x128 .bf16) : FVec F S128x128 .f32 :=
  matmul dot_S128x128_S128x128_S128x128_1_1_0_0_n_n none cg bg (constant S128x128 .f32 0x00000000#32)

/-- A group's outputs: within the chunk, plus what the carried state gives. -/
def groupOut (p0 p1 : FVec F S128x128 .f32) (cg : FVec F S128x128 .bf16) (st : Vec F S1x128x256 .f32) (eg : FVec F S128x256 .f32) :
    FVec F S128x256 .f32 :=
  addf (concatenate S128x256 1 [⟨S128x128, p0⟩, ⟨S128x128, p1⟩] concatenates_S128x128_S128x128_S128x256_d1)
    (mulf (matmul dot_S128x128_S128x256_S128x256_1_0_0_1_n_n none cg
      (truncf .bf16 (shapeCast S128x256 st shapeCasts_S1x128x256_S128x256) bitsLt_bf16_f32) (constant S128x256 .f32 0x00000000#32)) eg)

/-- A group's state after the chunk. -/
def groupState (bg : FVec F S128x128 .bf16) (st : Vec F S1x128x256 .f32) (eg : FVec F S128x256 .f32) (xd : FVec F S128x256 .bf16) :
    FVec F S1x128x256 .f32 :=
  shapeCast S1x128x256
    (addf (mulf (shapeCast S128x256 st shapeCasts_S1x128x256_S128x256)
        (broadcastTo S128x256 (extractStridedSlice S1x256 ![127, 0] eg slices_S128x256_o127_0_S1x256) broadcasts_S1x256_S128x256))
      (matmul dot_S128x128_S128x256_S128x256_1_0_0_1_n_n none
        (truncf .bf16 (transpose S128x128 [1, 0] (extf .f32 bg bitsLt_bf16_f32) transposes_S128x128_p1_0_S128x128) bitsLt_bf16_f32)
        xd (constant S128x256 .f32 0x00000000#32)))
    shapeCasts_S128x256_S1x128x256

/-! ## A chunk, group by group -/

variable (xs : FVec F S128x1024 .f32) (bc : FVec F S128x1024 .bf16) (d : Vec F S128x128 .f32) (b a : Vec F S1x128 .f32)
  (e : Vec F S128x1024 .bf16) (st : Vec F S1x128x256 .f32)

/-- The chunk's running sums from its raw step sizes. -/
def sums : FVec F S128x128 .f32 := runSum (logDecay (stepSize d b) a)

/-- The chunk's running sums, transposed. -/
def sumsT : FVec F S128x128 .f32 := transpose S128x128 [1, 0] (sums d b a) transposes_S128x128_p1_0_S128x128

/-- The decay from the chunk's start, spread over the heads' columns. -/
def startE : FVec F S128x1024 .f32 := spread (fromStart (sums d b a)) e

/-- The inputs times their step sizes. -/
def xStep : FVec F S128x1024 .f32 := mulf xs (spread (stepSize d b) e)

/-- The inputs times their step sizes and their decay to the chunk's end. -/
def xEnd : FVec F S128x1024 .bf16 :=
  truncf .bf16 (mulf xs (spread (mulf (stepSize d b) (toEnd (sums d b a))) e)) bitsLt_bf16_f32

/-- The slices group `g` of a chunk reads. -/
structure Fits (g : ℕ) : Prop where
  inDir : S128x1024.Slices ![0, 128 * g] S128x128
  outDir : S128x1024.Slices ![0, 512 + 128 * g] S128x128
  col : ∀ k, k < 4 → S128x128.Slices ![0, 4 * g + k] S128x1
  row : ∀ k, k < 4 → S128x128.Slices ![4 * g + k, 0] S1x128
  pair : ∀ k, k < 2 → S128x1024.Slices ![0, 256 * g + 128 * k] S128x128
  wide : S128x1024.Slices ![0, 256 * g] S128x256

/-- Every one of the four groups' slices fits. -/
theorem fits (g : ℕ) (hg : g < 4) : Fits g where
  inDir := ⟨rfl, fun a => by match a with | ⟨0, _⟩ => exact Nat.le_refl _ | ⟨1, _⟩ => show 128 * g + 128 ≤ 1024; omega⟩
  outDir := ⟨rfl, fun a => by match a with | ⟨0, _⟩ => exact Nat.le_refl _ | ⟨1, _⟩ => show 512 + 128 * g + 128 ≤ 1024; omega⟩
  col := fun k hk => ⟨rfl, fun a => by match a with | ⟨0, _⟩ => exact Nat.le_refl _ | ⟨1, _⟩ => show 4 * g + k + 1 ≤ 128; omega⟩
  row := fun k hk => ⟨rfl, fun a => by match a with | ⟨0, _⟩ => show 4 * g + k + 1 ≤ 128; omega | ⟨1, _⟩ => exact Nat.le_refl _⟩
  pair := fun k hk => ⟨rfl, fun a => by match a with | ⟨0, _⟩ => exact Nat.le_refl _ | ⟨1, _⟩ => show 256 * g + 128 * k + 128 ≤ 1024; omega⟩
  wide := ⟨rfl, fun a => by match a with | ⟨0, _⟩ => exact Nat.le_refl _ | ⟨1, _⟩ => show 256 * g + 256 ≤ 1024; omega⟩

/-- Group `g`'s input directions. -/
def inDir (g : ℕ) (h : Fits g) : FVec F S128x128 .bf16 := extractStridedSlice S128x128 ![0, 128 * g] bc h.inDir

/-- Group `g`'s output directions. -/
def outDir (g : ℕ) (h : Fits g) : FVec F S128x128 .bf16 := extractStridedSlice S128x128 ![0, 512 + 128 * g] bc h.outDir

/-- The weights of head `k` of group `g`. -/
def weights (g : ℕ) (h : Fits g) (k : ℕ) (hk : k < 4) : FVec F S128x128 .bf16 :=
  headWeights (groupDots (outDir bc g h) (inDir bc g h))
    (extractStridedSlice S128x1 ![0, 4 * g + k] (sums d b a) (h.col k hk))
    (extractStridedSlice S1x128 ![4 * g + k, 0] (sumsT d b a) (h.row k hk))

/-- Group `g`'s outputs in a chunk. -/
def out (g : ℕ) (h : Fits g) : FVec F S128x256 .f32 :=
  groupOut
    (twoHeads (weights bc d b a g h 0 (by decide)) (weights bc d b a g h 1 (by decide))
      (extractStridedSlice S128x128 ![0, 256 * g + 128 * 0] (xStep xs d b e) (h.pair 0 (by decide))))
    (twoHeads (weights bc d b a g h 2 (by decide)) (weights bc d b a g h 3 (by decide))
      (extractStridedSlice S128x128 ![0, 256 * g + 128 * 1] (xStep xs d b e) (h.pair 1 (by decide))))
    (outDir bc g h) st (extractStridedSlice S128x256 ![0, 256 * g] (startE d b a e) h.wide)

/-- Group `g`'s state after a chunk. -/
def next (g : ℕ) (h : Fits g) : FVec F S1x128x256 .f32 :=
  groupState (inDir bc g h) st (extractStridedSlice S128x256 ![0, 256 * g] (startE d b a e) h.wide)
    (extractStridedSlice S128x256 ![0, 256 * g] (xEnd xs d b a e) h.wide)

/-- The four groups' states after a chunk. -/
def nextAll (q : Fin 4 → Vec F S1x128x256 .f32) : Fin 4 → Vec F S1x128x256 .f32 :=
  fun g => next xs bc d b a e (q g) g.val (fits g.val g.isLt)

/-- The four groups side by side: a chunk's outputs. -/
def chunkOut (q : Fin 4 → Vec F S1x128x256 .f32) : FVec F S128x1024 .f32 :=
  concatenate S128x1024 1 [⟨S128x256, out xs bc d b a e (q 0) 0 (fits 0 (by decide))⟩,
    ⟨S128x256, out xs bc d b a e (q 1) 1 (fits 1 (by decide))⟩,
    ⟨S128x256, out xs bc d b a e (q 2) 2 (fits 2 (by decide))⟩,
    ⟨S128x256, out xs bc d b a e (q 3) 3 (fits 3 (by decide))⟩]
    concatenates_S128x256_S128x256_S128x256_S128x256_S128x1024_d1

/-! ## The convolution -/

/-- The shift of the extended rows by `k`, as a one-hot matrix. -/
def shiftMat (k : BitVec 32) : FVec F S128x160 .bf16 :=
  truncf .bf16 (select (cmpi .eq (iota .tc S128x160 32 [1] iota_S128x160_d1_w32)
      (addi (iota .tc S128x160 32 [0] iota_S128x160_d0_w32) (broadcast S128x160 k)))
    (broadcast S128x160 (Scalar.ofBits .f32 0x3F800000#32)) (broadcast S128x160 (Scalar.ofBits .f32 0x00000000#32))) bitsLt_bf16_f32

/-- One tap on the side: the shifted rows times the tap's weights. -/
def sideTap (k : BitVec 32) (ex : FVec F S160x2048 .bf16) (w : Vec F S1x2048 .f32) : FVec F S128x2048 .f32 :=
  mulf (matmul dot_S128x160_S160x2048_S128x2048_1_0_0_1_n_n none (shiftMat k) ex (constant S128x2048 .f32 0x00000000#32))
    (broadcastTo S128x2048 (shapeCast S1x2048 w shapeCasts_S1x2048_S1x2048) broadcasts_S1x2048_S128x2048)

/-- The five taps and the bias. -/
def taps (mn : FVec F S128x2048 .bf16) (ex : FVec F S160x2048 .bf16) (cb w0 w1 w2 w3 w4 : Vec F S1x2048 .f32) : FVec F S128x2048 .f32 :=
  addf (addf (addf (addf (addf
    (broadcastTo S128x2048 (shapeCast S1x2048 cb shapeCasts_S1x2048_S1x2048) broadcasts_S1x2048_S128x2048)
    (mulf (extf .f32 mn bitsLt_bf16_f32)
      (broadcastTo S128x2048 (shapeCast S1x2048 w2 shapeCasts_S1x2048_S1x2048) broadcasts_S1x2048_S128x2048)))
    (sideTap 14#32 ex w0)) (sideTap 15#32 ex w1)) (sideTap 17#32 ex w3)) (sideTap 18#32 ex w4)

/-- The kernel's silu, by the hyperbolic tangent of the half. -/
def siluTanh (x : FVec F S128x2048 .f32) : FVec F S128x2048 .f32 :=
  let h := mulf (broadcast S128x2048 (Scalar.ofBits .f32 0x3F000000#32)) x
  mulf h (addf (tanh h) (broadcast S128x2048 (Scalar.ofBits .f32 0x3F800000#32)))

/-- The inputs a chunk's convolution leaves. -/
def convX (x : FVec F S128x2048 .f32) : FVec F S128x1024 .f32 :=
  extractStridedSlice S128x1024 ![0, 0] (siluTanh x) slices_S128x2048_o0_0_S128x1024

/-- The input and output directions a chunk's convolution leaves. -/
def convBC (x : FVec F S128x2048 .f32) : FVec F S128x1024 .bf16 :=
  truncf .bf16 (extractStridedSlice S128x1024 ![0, 1024] (siluTanh x) slices_S128x2048_o0_1024_S128x1024) bitsLt_bf16_f32

/-- The point's rows with sixteen more on each side, zero past the sequence's ends. -/
def extRows (i : grid0.Coords) (x0 : Vec F S512x2048 .bf16) (x1 x2 : Vec F S16x2048 .bf16) : FVec F S544x2048 .bf16 :=
  concatenate S544x2048 0
    [⟨S16x2048, Scalar.select (Scalar.cmpi .eq (BitVec.ofNat 32 (i 1).val) 0#32) (broadcast S16x2048 (Scalar.ofBits .bf16 0x0000#16)) x1⟩,
     ⟨S512x2048, x0⟩,
     ⟨S16x2048, Scalar.select (Scalar.cmpi .eq (BitVec.ofNat 32 (i 1).val) 7#32) (broadcast S16x2048 (Scalar.ofBits .bf16 0x0000#16)) x2⟩]
    concatenates_S16x2048_S512x2048_S16x2048_S544x2048_d0

/-! ## A grid point: four chunks in order -/

section Point

variable (i : grid0.Coords) (x0 : Vec F S512x2048 .bf16) (x1 x2 : Vec F S16x2048 .bf16) (x3 : Vec F S512x128 .f32)
  (x4 : Vec F S8x2048 .f32) (x5 : Vec F S1x2048 .f32) (x6 x7 : Vec F S1x128 .f32) (x8 : Vec F S128x1024 .bf16)

/-- Row `r` of the tap weights. -/
def tapRow (r : ℕ) (h : ∀ a : Fin 2, (![r, 0] : Fin 2 → ℕ) a + (![1, 2048] : Fin 2 → ℕ) a ≤ S8x2048.size a) : Vec F S1x2048 .f32 :=
  View.ld x4 (Rect.unit ![r, 0] ![1, 2048] h)

/-- The slices of the chunk that starts at row `o` of the point. -/
structure Holds (o : ℕ) : Prop where
  main : S512x2048.Slices ![o, 0] S128x2048
  ext : S544x2048.Slices ![o, 0] S160x2048
  step : ∀ a : Fin 2, (![o, 0] : Fin 2 → ℕ) a + (![128, 128] : Fin 2 → ℕ) a ≤ S512x128.size a

/-- Every chunk inside the point holds its slices. -/
theorem holds (o : ℕ) (ho : o + 128 ≤ 512) : Holds o where
  main := ⟨rfl, fun a => by match a with | ⟨0, _⟩ => exact ho | ⟨1, _⟩ => exact Nat.le_refl _⟩
  ext := ⟨rfl, fun a => by match a with | ⟨0, _⟩ => show o + 160 ≤ 544; omega | ⟨1, _⟩ => exact Nat.le_refl _⟩
  step := fun a => by match a with | ⟨0, _⟩ => exact ho | ⟨1, _⟩ => exact Nat.le_refl _

/-- The convolution's sums of the chunk at row `o`. -/
def accAt (o : ℕ) (h : Holds o) : FVec F S128x2048 .f32 :=
  taps (extractStridedSlice S128x2048 ![o, 0] x0 h.main) (extractStridedSlice S160x2048 ![o, 0] (extRows i x0 x1 x2) h.ext) x5
    (tapRow x4 0 inb_S8x2048_S1x2048_0_0) (tapRow x4 1 inb_S8x2048_S1x2048_1_0) (tapRow x4 2 inb_S8x2048_S1x2048_2_0)
    (tapRow x4 3 inb_S8x2048_S1x2048_3_0) (tapRow x4 4 inb_S8x2048_S1x2048_4_0)

/-- The inputs of the chunk at row `o`. -/
def xAt (o : ℕ) (h : Holds o) : FVec F S128x1024 .f32 := convX (accAt i x0 x1 x2 x4 x5 o h)

/-- The directions of the chunk at row `o`. -/
def bcAt (o : ℕ) (h : Holds o) : FVec F S128x1024 .bf16 := convBC (accAt i x0 x1 x2 x4 x5 o h)

/-- The raw step sizes of the chunk at row `o`. -/
def rawAt (o : ℕ) (h : Holds o) : Vec F S128x128 .f32 := View.ld x3 (Rect.unit ![o, 0] ![128, 128] h.step)

/-- The four groups' states after the chunk at row `o`. -/
def stepAt (o : ℕ) (h : Holds o) (q : Fin 4 → Vec F S1x128x256 .f32) : Fin 4 → Vec F S1x128x256 .f32 :=
  nextAll (xAt i x0 x1 x2 x4 x5 o h) (bcAt i x0 x1 x2 x4 x5 o h) (rawAt x3 o h) x6 x7 x8 q

/-- The outputs of the chunk at row `o`. -/
def yAt (o : ℕ) (h : Holds o) (q : Fin 4 → Vec F S1x128x256 .f32) : FVec F S128x1024 .f32 :=
  chunkOut (xAt i x0 x1 x2 x4 x5 o h) (bcAt i x0 x1 x2 x4 x5 o h) (rawAt x3 o h) x6 x7 x8 q

/-- The four groups' states after the first chunk, the point entered at `q`. -/
def state1 (q : Fin 4 → Vec F S1x128x256 .f32) : Fin 4 → Vec F S1x128x256 .f32 :=
  stepAt i x0 x1 x2 x3 x4 x5 x6 x7 x8 0 (holds 0 (by decide)) q

/-- After the second. -/
def state2 (q : Fin 4 → Vec F S1x128x256 .f32) : Fin 4 → Vec F S1x128x256 .f32 :=
  stepAt i x0 x1 x2 x3 x4 x5 x6 x7 x8 128 (holds 128 (by decide)) (state1 i x0 x1 x2 x3 x4 x5 x6 x7 x8 q)

/-- After the third. -/
def state3 (q : Fin 4 → Vec F S1x128x256 .f32) : Fin 4 → Vec F S1x128x256 .f32 :=
  stepAt i x0 x1 x2 x3 x4 x5 x6 x7 x8 256 (holds 256 (by decide)) (state2 i x0 x1 x2 x3 x4 x5 x6 x7 x8 q)

/-- After the fourth: what the point leaves. -/
def state4 (q : Fin 4 → Vec F S1x128x256 .f32) : Fin 4 → Vec F S1x128x256 .f32 :=
  stepAt i x0 x1 x2 x3 x4 x5 x6 x7 x8 384 (holds 384 (by decide)) (state3 i x0 x1 x2 x3 x4 x5 x6 x7 x8 q)

/-- The states held in the scratch, group by group. -/
def held (z : Vec F S4x128x256 .f32) : Fin 4 → Vec F S1x128x256 .f32 := fun g =>
  View.ld z (Rect.unit ![g.val, 0, 0] ![1, 128, 256] fun a => by
    match a with | ⟨0, _⟩ => exact g.isLt | ⟨1, _⟩ => exact Nat.le_refl _ | ⟨2, _⟩ => exact Nat.le_refl _)

/-- The scratch cleared. -/
def zeroState : FVec F S4x128x256 .f32 :=
  shapeCast S4x128x256 (broadcast S4x128x256 (Scalar.ofBits .f32 0x00000000#32)) shapeCasts_S4x128x256_S4x128x256

end Point

end Cert.KernelIdeal.Val

end
-- ==== Proof.Spec.lean ====
module

public import Idealize.ShloMosaic.Lib.Pointwise

@[expose] public section

set_option maxRecDepth 16384

noncomputable section

/-! # The forward scan in formulas: what both programs compute, over natural row, column and head numbers -/

namespace Ssd

open Idealize.ShloMosaic

/-- An element of a matrix by natural coordinates, zero outside. -/
def cell2 {n m : ℕ} (X : (⟨2, ![n, m]⟩ : Shape).Idx → EReal) (r c : ℕ) : EReal :=
  if h : r < n ∧ c < m then X (ix2 ⟨r, h.1⟩ ⟨c, h.2⟩) else 0

/-- An element of a one-page box by natural coordinates, zero outside. -/
def cell3 {n m : ℕ} (X : (⟨3, ![1, n, m]⟩ : Shape).Idx → EReal) (r c : ℕ) : EReal :=
  if h : r < n ∧ c < m then X (ix3 0 ⟨r, h.1⟩ ⟨c, h.2⟩) else 0

/-- A matrix element is its cell. -/
theorem cell2_of {n m : ℕ} (X : (⟨2, ![n, m]⟩ : Shape).Idx → EReal) (a : Fin n) (b : Fin m) : X (ix2 a b) = cell2 X a.val b.val := by
  unfold cell2; rw [dif_pos ⟨a.isLt, b.isLt⟩]

/-- An element of a one-page box is its cell. -/
theorem cell3_of {n m : ℕ} (X : (⟨3, ![1, n, m]⟩ : Shape).Idx → EReal) (z : Fin 1) (a : Fin n) (b : Fin m) :
    X (ix3 z a b) = cell3 X a.val b.val := by
  unfold cell3; rw [dif_pos ⟨a.isLt, b.isLt⟩, Subsingleton.elim z 0]

/-- The six argument arrays, element by element. -/
structure Args where
  /-- the projection -/
  pj : ℕ → ℕ → EReal
  /-- the raw step sizes -/
  dr : ℕ → ℕ → EReal
  /-- the convolution's taps -/
  w : ℕ → ℕ → EReal
  /-- the convolution's bias -/
  b : ℕ → EReal
  /-- the step sizes' bias -/
  db : ℕ → EReal
  /-- the logarithms of the decay rates -/
  al : ℕ → EReal

/-- The arguments' elements, from the six arrays. -/
def argsOf (x0 : (⟨2, ![32768, 8192]⟩ : Shape).Idx → EReal) (x1 : (⟨2, ![32768, 128]⟩ : Shape).Idx → EReal)
    (x2 : (⟨3, ![1, 5, 2048]⟩ : Shape).Idx → EReal) (x3 : (⟨2, ![1, 2048]⟩ : Shape).Idx → EReal)
    (x4 x5 : (⟨2, ![1, 16]⟩ : Shape).Idx → EReal) : Args :=
  ⟨cell2 x0, cell2 x1, cell3 x2, cell2 x3 0, cell2 x4 0, cell2 x5 0⟩

variable (A : Args)

/-- The silu, by the logistic function. -/
def silu (z : EReal) : EReal := z * Ideal.div 1 (1 + Ideal.exp (-z))

/-- One tap of the convolution at row `r`, column `c`: nothing past the sequence's ends. -/
def tap (r c k : ℕ) : EReal :=
  (if 2 ≤ r % 4096 + k ∧ r % 4096 + k < 4098 then A.pj (r + k - 2) c else 0) * A.w k c

/-- The convolution with its bias. -/
def conv (r c : ℕ) : EReal := tap A r c 0 + tap A r c 1 + tap A r c 2 + tap A r c 3 + tap A r c 4 + A.b c

/-- The activated convolution: the inputs and the two directions. -/
def X (r c : ℕ) : EReal := silu (conv A r c)

/-- The softplus. -/
def softplus (z : EReal) : EReal := max z 0 + Ideal.log1p (Ideal.exp (-(max z (-z))))

/-- The step size of row `r`, head `h`. -/
def dt (r h : ℕ) : EReal := softplus (A.dr r h + A.db h)

/-- The log decay of row `r`, head `h`. -/
def da (r h : ℕ) : EReal := dt A r h * (-(Ideal.exp (A.al h)))

/-- The running sum of the log decays of chunk `k` up to its row `l`. -/
def cs (k l h : ℕ) : EReal := ∑ s : Fin 128, if s.val ≤ l then da A (128 * k + s.val) h else 0

/-- The product of row `l`'s output direction and row `s`'s input direction. -/
def dots (k l s g : ℕ) : EReal :=
  ∑ n : Fin 128, X A (128 * k + l) (1536 + 128 * g + n.val) * X A (128 * k + s) (1024 + 128 * g + n.val)

/-- The decay from row `s` to row `l` of chunk `k`. -/
def seg (k l s h : ℕ) : EReal := Ideal.exp (if s ≤ l then cs A k l h - cs A k s h else ⊥)

/-- An input times its step size. -/
def xdt (r h p : ℕ) : EReal := X A r (64 * h + p) * dt A r h

/-- What the chunk's own rows give row `l`. -/
def yDiag (k l h p : ℕ) : EReal := ∑ s : Fin 128, dots A k l s.val (h / 4) * seg A k l s.val h * xdt A (128 * k + s.val) h p

/-- What a chunk adds to the state. -/
def gain (k n h p : ℕ) : EReal :=
  ∑ l : Fin 128, X A (128 * k + l.val) (1024 + 128 * (h / 4) + n) *
    (Ideal.exp (cs A k 127 h - cs A k l.val h) * xdt A (128 * k + l.val) h p)

/-- The state of sequence `b` before its chunk `j`. -/
def state (b n h p : ℕ) : ℕ → EReal
  | 0 => 0
  | j + 1 => Ideal.exp (cs A (32 * b + j) 127 h) * state b n h p j + gain A (32 * b + j) n h p

/-- The output at row `l` of chunk `j` of sequence `b`. -/
def Y (b j l h p : ℕ) : EReal :=
  yDiag A (32 * b + j) l h p +
    (∑ n : Fin 128, X A (128 * (32 * b + j) + l) (1536 + 128 * (h / 4) + n.val) * state A b n.val h p j) *
      Ideal.exp (cs A (32 * b + j) l h)

/-- The output at row `r`, column `c`. -/
def out (r c : ℕ) : EReal := Y A (r / 4096) (r / 128 % 32) (r % 128) (c / 64) (c % 64)

/-! ## Finite values -/

/-- A value that is a real number. -/
def Fine (x : EReal) : Prop := ∃ r : ℝ, x = r

theorem Fine.add {x y : EReal} : Fine x → Fine y → Fine (x + y) := fun ⟨a, ha⟩ ⟨b, hb⟩ => ⟨a + b, by rw [ha, hb, EReal.coe_add]⟩
theorem Fine.sub {x y : EReal} : Fine x → Fine y → Fine (x - y) := fun ⟨a, ha⟩ ⟨b, hb⟩ => ⟨a - b, by rw [ha, hb, EReal.coe_sub]⟩
theorem Fine.mul {x y : EReal} : Fine x → Fine y → Fine (x * y) := fun ⟨a, ha⟩ ⟨b, hb⟩ => ⟨a * b, by rw [ha, hb, EReal.coe_mul]⟩
theorem Fine.neg {x : EReal} : Fine x → Fine (-x) := fun ⟨a, ha⟩ => ⟨-a, by rw [ha, EReal.coe_neg]⟩
theorem Fine.zero : Fine 0 := ⟨0, rfl⟩
theorem Fine.exp {x : EReal} : Fine x → Fine (Ideal.exp x) := fun ⟨a, ha⟩ => ⟨Real.exp a, by rw [ha]; rfl⟩
theorem Fine.ite {x y : EReal} (p : Prop) [Decidable p] (hx : Fine x) (hy : Fine y) : Fine (if p then x else y) := by
  split
  · exact hx
  · exact hy
theorem Fine.sum {ι : Type*} (s : Finset ι) (f : ι → EReal) (h : ∀ i ∈ s, Fine (f i)) : Fine (∑ i ∈ s, f i) :=
  Finset.sum_induction f Fine (fun _ _ => Fine.add) Fine.zero h

/-- A finite value less itself is zero. -/
theorem Fine.sub_self {x : EReal} : Fine x → x - x = 0 := fun ⟨a, ha⟩ => by
  rw [ha, ← EReal.coe_sub, _root_.sub_self, EReal.coe_zero]

/-- The softplus of a finite value is finite. -/
theorem fine_softplus {z : EReal} : Fine z → Fine (softplus z) := by
  rintro ⟨a, rfl⟩
  have h0 : ∀ x y : ℝ, Fine (max (x : EReal) y) := fun x y => by
    rcases max_choice (x : EReal) y with h | h
    · exact ⟨x, h⟩
    · exact ⟨y, h⟩
  have h1 : Fine (max (a : EReal) 0) := h0 a 0
  have h2 : Fine (max (a : EReal) (-(a : EReal))) := h0 a (-a)
  obtain ⟨b, hb⟩ := h2.neg
  refine h1.add ?_
  rw [hb]
  refine ⟨Real.log (1 + Real.exp b), ?_⟩
  show Ideal.log (1 + ((Real.exp b : ℝ) : EReal)) = _
  rw [← EReal.coe_one, ← EReal.coe_add]
  show (if (1 + Real.exp b) ≤ 0 then (⊥ : EReal) else _) = _
  rw [if_neg (by have := Real.exp_pos b; linarith)]

/-! ## The kernel's forms -/

/-- The half as the printed pattern. -/
theorem half_bits : Ideal.ofBits .f32 0x3F000000#32 = ((1 / 2 : ℝ) : EReal) := by
  simp [Ideal.ofBits, Ideal.ieee, -EReal.coe_mul]; norm_num

/-- Minus infinity as the printed pattern. -/
theorem bot_bits : Ideal.ofBits .f32 0xFF800000#32 = ⊥ := by simp [Ideal.ofBits, Ideal.ieee]

/-- Infinity as the printed pattern. -/
theorem top_bits : Ideal.ofBits .f32 0x7F800000#32 = ⊤ := by simp [Ideal.ofBits, Ideal.ieee]

/-- The kernel's silu, by the hyperbolic tangent of the half, is the silu: at the infinities too. -/
theorem tanh_silu (z : EReal) : ((1 / 2 : ℝ) : EReal) * z * (Ideal.tanh (((1 / 2 : ℝ) : EReal) * z) + 1) = silu z := by
  unfold silu
  induction z with
  | bot =>
    rw [EReal.coe_mul_bot_of_pos (by norm_num)]
    have h1 : Ideal.tanh ⊥ + 1 = 0 := by
      show (-1 : EReal) + 1 = 0
      rw [show (-1 : EReal) = ((-1 : ℝ) : EReal) by simp, ← EReal.coe_one, ← EReal.coe_add]; simp
    have h2 : Ideal.div 1 (1 + Ideal.exp (-⊥)) = 0 := by
      show Ideal.div 1 (1 + ⊤) = 0
      rw [EReal.add_top_of_ne_bot (by exact (EReal.coe_ne_bot 1))]
      unfold Ideal.div
      rw [if_neg (by simp)]; simp
    rw [h1, h2]
  | top =>
    rw [EReal.coe_mul_top_of_pos (by norm_num)]
    have h1 : Ideal.tanh ⊤ + 1 = ((2 : ℝ) : EReal) := by
      show (1 : EReal) + 1 = _
      rw [← EReal.coe_one, ← EReal.coe_add]; norm_num
    have h2 : Ideal.div 1 (1 + Ideal.exp (-⊤)) = 1 := by
      show Ideal.div 1 (1 + 0) = 1
      unfold Ideal.div
      rw [if_neg (by simp)]; simp
    rw [h1, h2, mul_one, EReal.top_mul_coe_of_pos (by norm_num)]
  | coe r =>
    have hp : (0 : ℝ) < 1 + Real.exp (-r) := by positivity
    have h2 : Ideal.div 1 (1 + Ideal.exp (-(r : EReal))) = ((1 / (1 + Real.exp (-r)) : ℝ) : EReal) := by
      rw [← EReal.coe_neg]
      show Ideal.div 1 (1 + ((Real.exp (-r) : ℝ) : EReal)) = _
      rw [← EReal.coe_one, ← EReal.coe_add]
      unfold Ideal.div
      rw [if_neg (by intro h; exact absurd (EReal.coe_eq_zero.mp h) hp.ne'), ← EReal.coe_inv, ← EReal.coe_mul, one_div, one_mul]
    rw [h2, ← EReal.coe_mul]
    show ((1 / 2 * r : ℝ) : EReal) * (((Real.tanh (1 / 2 * r) : ℝ) : EReal) + 1) = _
    rw [← EReal.coe_one, ← EReal.coe_add, ← EReal.coe_mul, ← EReal.coe_mul]
    congr 1
    rw [Real.tanh_eq_sinh_div_cosh, Real.sinh_eq, Real.cosh_eq]
    have e : Real.exp (-r) = Real.exp (-(1 / 2 * r)) * Real.exp (-(1 / 2 * r)) := by rw [← Real.exp_add]; congr 1; ring
    have e' : Real.exp (1 / 2 * r) * Real.exp (-(1 / 2 * r)) = 1 := by rw [← Real.exp_add]; simp
    rw [e]
    have q := Real.exp_pos (-(1 / 2 * r))
    have q' := Real.exp_pos (1 / 2 * r)
    generalize Real.exp (-(1 / 2 * r)) = u at *
    generalize Real.exp (1 / 2 * r) = v at *
    have hv : v = 1 / u := by field_simp; linarith
    subst hv
    field_simp
    ring

end Ssd

end
-- ==== Proof.Chunk.lean ====
module

public import proofs.«01_k».proof.Proof.Vocab
public import proofs.«01_k».proof.Proof.Spec
public import Idealize.ShloMosaic.Lib.Pointwise

@[expose] public section

set_option maxRecDepth 16384

noncomputable section

namespace Cert.KernelIdeal.Val

open Cert.KernelIdeal Cert.KernelIdeal.Gen Idealize.ShloMosaic Idealize.ShloMosaic.TcCoe
open Cert.KernelIdeal.Facts Ssd

/-! # A chunk's stages at an index, over the extended reals -/

/-- A select by the bit of a condition is a choice by the condition. -/
theorem select_bit {α : Type} (p : Prop) [Decidable p] (x y : α) : Scalar.select (if p then 1#1 else 0#1) x y = if p then x else y := by
  split <;> rfl

/-- The head lanes are the lanes below sixteen. -/
theorem headLane_at (l j : Fin 128) : headLane (ix2 l j) = if j.val < 16 then 1#1 else 0#1 := by
  pointwise [headLane, lanes]
  revert j
  decide

/-- The left half of a tile is its lanes below 64. -/
theorem leftHalf_at (l j : Fin 128) : leftHalf (ix2 l j) = if j.val < 64 then 1#1 else 0#1 := by
  pointwise [leftHalf, lanes]
  revert j
  decide

/-- A word below 2³¹ compares as its number. -/
theorem sle_ofNat (a b : ℕ) (ha : a < 2 ^ 31) (hb : b < 2 ^ 31) :
    IntOp.cmpi .sle (BitVec.ofNat 32 a) (BitVec.ofNat 32 b) = if a ≤ b then 1#1 else 0#1 := by
  have e1 : a % 2 ^ 32 = a := Nat.mod_eq_of_lt (by omega)
  have e2 : b % 2 ^ 32 = b := Nat.mod_eq_of_lt (by omega)
  have h : (BitVec.ofNat 32 a).sle (BitVec.ofNat 32 b) = decide (a ≤ b) := by
    rw [BitVec.sle_eq_decide, BitVec.toInt_eq_toNat_of_lt (by rw [BitVec.toNat_ofNat, e1]; omega),
      BitVec.toInt_eq_toNat_of_lt (by rw [BitVec.toNat_ofNat, e2]; omega), BitVec.toNat_ofNat, BitVec.toNat_ofNat, e1, e2]
    simp only [Nat.cast_le]
  show BitVec.ofBool ((BitVec.ofNat 32 a).sle (BitVec.ofNat 32 b)) = _
  rw [h]
  by_cases hab : a ≤ b
  · rw [if_pos hab, decide_eq_true hab]; rfl
  · rw [if_neg hab, decide_eq_false hab]; rfl

/-- The causal cells are those on or below the diagonal. -/
theorem causal_at (l j : Fin 128) : causal (ix2 l j) = if j.val ≤ l.val then 1#1 else 0#1 := by
  pointwise [causal, lanes, rowNo]
  exact sle_ofNat _ _ (by omega) (by omega)

/-- The step size at a lane: the softplus of the raw value plus the bias on the head lanes. -/
theorem stepSize_at (d : Vec Ideal S128x128 .f32) (b : Vec Ideal S1x128 .f32) (l j : Fin 128) :
    stepSize d b (ix2 l j) = if j.val < 16 then softplus (d (ix2 l j) + b (ix2 0 j)) else 0 := by
  pointwise [stepSize, headLane_at, zeroTile]
  rw [select_bit]
  unfold softplus
  rw [← zero_sub]
  rfl

/-- The log decay at a lane. -/
theorem logDecay_at (d : FVec Ideal S128x128 .f32) (a : Vec Ideal S1x128 .f32) (l j : Fin 128) :
    logDecay d a (ix2 l j) = d (ix2 l j) * a (ix2 0 j) := by
  pointwise [logDecay]

/-- The triangle of ones at a cell. -/
theorem triOnes_at (l j : Fin 128) : triOnes (F := Ideal) (ix2 l j) = if j.val ≤ l.val then 1 else 0 := by
  pointwise [triOnes, causal_at, zeroTile]
  rw [select_bit]

/-- Where the column is finite, the three products are the running sum. -/
theorem runSum_at (x : FVec Ideal S128x128 .f32) (l j : Fin 128) (hx : ∀ s : Fin 128, Fine (x (ix2 s j))) :
    runSum x (ix2 l j) = ∑ s : Fin 128, if s.val ≤ l.val then x (ix2 s j) else 0 := by
  pointwise [runSum, triDot, triOnes_at]
  simp only [fun s => (hx s).sub_self, sub_zero, mul_zero, Finset.sum_const_zero, add_zero, ite_mul, one_mul, zero_mul]

/-- The decay to the chunk's end at a lane. -/
theorem toEnd_at (x : FVec Ideal S128x128 .f32) (l j : Fin 128) :
    toEnd x (ix2 l j) = if j.val < 16 then Ideal.exp (x (ix2 127 j) - x (ix2 l j)) else 0 := by
  pointwise [toEnd, headLane_at, zeroTile]
  rw [select_bit]

/-- The decay from the chunk's start at a lane. -/
theorem fromStart_at (x : FVec Ideal S128x128 .f32) (l j : Fin 128) :
    fromStart x (ix2 l j) = if j.val < 16 then Ideal.exp (x (ix2 l j)) else 0 := by
  pointwise [fromStart, headLane_at, zeroTile]
  rw [select_bit]

/-- A finite tile spread by the one-hot columns reads the column's head: the other part of the split value is zero. -/
theorem spread_at (v : FVec Ideal S128x128 .f32) (e : Vec Ideal S128x1024 .bf16) (l : Fin 128) (j : Fin 1024)
    (hv : ∀ s : Fin 128, Fine (v (ix2 l s))) (hv0 : ∀ s : Fin 128, 16 ≤ s.val → v (ix2 l s) = 0)
    (he : ∀ s : Fin 128, e (ix2 s j) = if s.val = j.val / 64 ∨ s.val = 64 + j.val / 64 then 1 else 0) :
    spread v e (ix2 l j) = v (ix2 l ⟨j.val / 64, by omega⟩) := by
  pointwise [spread]
  simp only [fun s => (hv s).sub_self, add_zero, he]
  rw [Finset.sum_eq_single (⟨j.val / 64, by omega⟩ : Fin 128)]
  · rw [if_pos (Or.inl rfl), mul_one]
  · intro s _ hs
    by_cases h : s.val = 64 + j.val / 64
    · rw [hv0 s (by omega), zero_mul]
    · rw [if_neg (by rintro (h' | h'); exacts [hs (Fin.ext h'), h h']), mul_zero]
  · intro h; exact absurd (Finset.mem_univ _) h

/-- One head's weights at a cell. -/
theorem headWeights_at (cb : FVec Ideal S128x128 .f32) (c : FVec Ideal S128x1 .f32) (r : FVec Ideal S1x128 .f32) (l s : Fin 128) :
    headWeights cb c r (ix2 l s) = cb (ix2 l s) * Ideal.exp (if s.val ≤ l.val then c (ix2 l 0) - r (ix2 0 s) else ⊥) := by
  pointwise [headWeights, causal_at]
  rw [select_bit, bot_bits]

/-- Two heads at once are the one head whose column it is. -/
theorem twoHeads_at (w0 w1 : FVec Ideal S128x128 .bf16) (x : FVec Ideal S128x128 .f32) (l j : Fin 128) :
    twoHeads w0 w1 x (ix2 l j) = ∑ s : Fin 128, (if j.val < 64 then w0 (ix2 l s) else w1 (ix2 l s)) * x (ix2 s j) := by
  pointwise [twoHeads, leftHalf_at, zeroTile]
  simp only [select_bit]
  by_cases h : j.val < 64
  · simp only [if_pos h, Finset.sum_const_zero, add_zero]
  · simp only [if_neg h, Finset.sum_const_zero, zero_add]

/-- A group's products at a cell. -/
theorem groupDots_at (cg bg : FVec Ideal S128x128 .bf16) (l s : Fin 128) :
    groupDots cg bg (ix2 l s) = ∑ n : Fin 128, cg (ix2 l n) * bg (ix2 s n) := by
  pointwise [groupDots]

/-- A group's outputs at a cell. -/
theorem groupOut_at (p0 p1 : FVec Ideal S128x128 .f32) (cg : FVec Ideal S128x128 .bf16) (st : Vec Ideal S1x128x256 .f32)
    (eg : FVec Ideal S128x256 .f32) (l : Fin 128) (j : Fin 256) :
    groupOut p0 p1 cg st eg (ix2 l j) = (if h : j.val < 128 then p0 (ix2 l ⟨j.val, h⟩) else p1 (ix2 l ⟨j.val - 128, by omega⟩)) +
      (∑ n : Fin 128, cg (ix2 l n) * st (ix3 0 n j)) * eg (ix2 l j) := by
  pointwise [groupOut]

/-- A group's new state at a cell. -/
theorem groupState_at (bg : FVec Ideal S128x128 .bf16) (st : Vec Ideal S1x128x256 .f32) (eg : FVec Ideal S128x256 .f32)
    (xd : FVec Ideal S128x256 .bf16) (n : Fin 128) (j : Fin 256) :
    groupState bg st eg xd (ix3 0 n j) = st (ix3 0 n j) * eg (ix2 127 j) + ∑ l : Fin 128, bg (ix2 l n) * xd (ix2 l j) := by
  pointwise [groupState]

/-! ## A chunk against the formulas -/

variable (A : Args) (k : ℕ)

/-- The step sizes' inputs are finite on the sixteen heads. -/
structure Finite : Prop where
  dr : ∀ r h, h < 16 → Fine (A.dr r h)
  db : ∀ h, h < 16 → Fine (A.db h)
  al : ∀ h, h < 16 → Fine (A.al h)

/-- The step sizes are finite … -/
theorem Finite.dt {A : Args} (hA : Finite A) (r h : ℕ) (hh : h < 16) : Fine (Ssd.dt A r h) :=
  fine_softplus ((hA.dr r h hh).add (hA.db h hh))

/-- … and so are the log decays … -/
theorem Finite.da {A : Args} (hA : Finite A) (r h : ℕ) (hh : h < 16) : Fine (Ssd.da A r h) :=
  (hA.dt r h hh).mul (hA.al h hh).exp.neg

/-- … and their running sums. -/
theorem Finite.cs {A : Args} (hA : Finite A) (k l h : ℕ) (hh : h < 16) : Fine (Ssd.cs A k l h) :=
  Fine.sum _ _ fun _ _ => Fine.ite _ (hA.da _ h hh) Fine.zero

/-- A chunk's arrays hold chunk `k`'s elements of the arguments. -/
structure Reads (xs : FVec Ideal S128x1024 .f32) (bc : FVec Ideal S128x1024 .bf16) (d : Vec Ideal S128x128 .f32) (b a : Vec Ideal S1x128 .f32)
    (e : Vec Ideal S128x1024 .bf16) : Prop where
  xs : ∀ (l : Fin 128) (c : Fin 1024), xs (ix2 l c) = X A (128 * k + l.val) c.val
  bc : ∀ (l : Fin 128) (c : Fin 1024), bc (ix2 l c) = X A (128 * k + l.val) (1024 + c.val)
  d : ∀ l j : Fin 128, d (ix2 l j) = A.dr (128 * k + l.val) j.val
  b : ∀ j : Fin 128, j.val < 16 → b (ix2 0 j) = A.db j.val
  a : ∀ j : Fin 128, a (ix2 0 j) = if j.val < 16 then -(Ideal.exp (A.al j.val)) else 0
  e : ∀ (s : Fin 128) (c : Fin 1024), e (ix2 s c) = if s.val = c.val / 64 ∨ s.val = 64 + c.val / 64 then 1 else 0

variable {A k} {xs : FVec Ideal S128x1024 .f32} {bc : FVec Ideal S128x1024 .bf16} {d : Vec Ideal S128x128 .f32} {b a : Vec Ideal S1x128 .f32}
  {e : Vec Ideal S128x1024 .bf16} (hA : Finite A) (H : Reads A k xs bc d b a e)
include hA H

omit hA in
/-- The chunk's step sizes. -/
theorem Reads.stepSize (l j : Fin 128) : stepSize d b (ix2 l j) = if j.val < 16 then dt A (128 * k + l.val) j.val else 0 := by
  rw [stepSize_at, H.d]
  by_cases h : j.val < 16
  · rw [if_pos h, if_pos h, H.b j h]; rfl
  · rw [if_neg h, if_neg h]

omit hA in
/-- The chunk's log decays. -/
theorem Reads.logDecay (l j : Fin 128) :
    logDecay (Val.stepSize d b) a (ix2 l j) = if j.val < 16 then da A (128 * k + l.val) j.val else 0 := by
  rw [logDecay_at, H.stepSize, H.a]
  by_cases h : j.val < 16
  · simp only [if_pos h]; rfl
  · simp only [if_neg h, mul_zero]

/-- The chunk's running sums. -/
theorem Reads.sums (l j : Fin 128) : sums d b a (ix2 l j) = if j.val < 16 then cs A k l.val j.val else 0 := by
  unfold Val.sums
  rw [runSum_at _ _ _ fun s => by rw [H.logDecay]; split; exacts [hA.da _ _ ‹_›, Fine.zero]]
  simp only [H.logDecay]
  by_cases h : j.val < 16
  · simp only [if_pos h]; rfl
  · simp only [if_neg h, ite_self, Finset.sum_const_zero]

/-- The decay from the chunk's start in a head's column. -/
theorem Reads.startE (l : Fin 128) (c : Fin 1024) : startE d b a e (ix2 l c) = Ideal.exp (cs A k l.val (c.val / 64)) := by
  have hc : c.val / 64 < 16 := by omega
  have hs : ∀ s : Fin 128, fromStart (Val.sums d b a) (ix2 l s) = if s.val < 16 then Ideal.exp (cs A k l.val s.val) else 0 := fun s => by
    rw [fromStart_at, H.sums hA]
    by_cases h : s.val < 16
    · simp only [if_pos h]
    · simp only [if_neg h]
  unfold Val.startE
  rw [spread_at _ _ _ _ (fun s => by rw [hs]; split; exacts [(hA.cs _ _ _ ‹_›).exp, Fine.zero])
    (fun s h => by rw [hs, if_neg (by omega)]) (fun s => H.e s c), hs, if_pos hc]

/-- An input times its step size. -/
theorem Reads.xStep (l : Fin 128) (c : Fin 1024) : xStep xs d b e (ix2 l c) = xdt A (128 * k + l.val) (c.val / 64) (c.val % 64) := by
  have hc : c.val / 64 < 16 := by omega
  unfold Val.xStep xdt
  rw [mulf_apply, spread_at _ _ _ _ (fun s => by rw [H.stepSize]; split; exacts [hA.dt _ _ ‹_›, Fine.zero])
    (fun s h => by rw [H.stepSize, if_neg (by omega)]) (fun s => H.e s c), H.stepSize, if_pos hc, H.xs, Nat.div_add_mod]
  rfl

/-- An input times its step size and its decay to the chunk's end. -/
theorem Reads.xEnd (l : Fin 128) (c : Fin 1024) : xEnd xs d b a e (ix2 l c) =
    Ideal.exp (cs A k 127 (c.val / 64) - cs A k l.val (c.val / 64)) * xdt A (128 * k + l.val) (c.val / 64) (c.val % 64) := by
  have hc : c.val / 64 < 16 := by omega
  have hs : ∀ s : Fin 128, mulf (Val.stepSize d b) (toEnd (Val.sums d b a)) (ix2 l s) =
      if s.val < 16 then dt A (128 * k + l.val) s.val * Ideal.exp (cs A k 127 s.val - cs A k l.val s.val) else 0 := fun s => by
    rw [mulf_apply, toEnd_at, H.stepSize, H.sums hA, H.sums hA]
    by_cases h : s.val < 16
    · simp only [if_pos h]; rfl
    · simp only [if_neg h]; exact mul_zero _
  unfold Val.xEnd xdt
  rw [show ∀ y, truncf .bf16 y bitsLt_bf16_f32 (ix2 l c) = y (ix2 l c) from fun _ => rfl, mulf_apply,
    spread_at _ _ _ _ (fun s => by rw [hs]; split; exacts [(hA.dt _ _ ‹_›).mul ((hA.cs _ _ _ ‹_›).sub (hA.cs _ _ _ ‹_›)).exp, Fine.zero])
    (fun s h => by rw [hs, if_neg (by omega)]) (fun s => H.e s c), hs, if_pos hc, H.xs, Nat.div_add_mod]
  show _ * (_ * _) = _ * (_ * _)
  ac_rfl

/-- Head `q` of group `g`'s weights. -/
theorem Reads.weights (g : ℕ) (hg : Fits g) (q : ℕ) (hq : q < 4) (hg4 : g < 4) (l s : Fin 128) :
    weights bc d b a g hg q hq (ix2 l s) = dots A k l.val s.val g * seg A k l.val s.val (4 * g + q) := by
  unfold Val.weights dots seg
  rw [headWeights_at, groupDots_at]
  congr 1
  · refine Finset.sum_congr rfl fun n _ => ?_
    pointwise [outDir, inDir]
    rw [H.bc, H.bc]
    simp only [← Nat.add_assoc, Nat.reduceAdd]
  · have h16 : 4 * g + q < 16 := by omega
    pointwise [sumsT]
    rw [H.sums hA, H.sums hA]
    simp only [if_pos h16]

/-- Pair `p` of group `g`: each column is its head's sum over the chunk. -/
theorem Reads.pair (g : ℕ) (hg : Fits g) (hg4 : g < 4) (p q0 q1 : ℕ) (hp : p < 2) (h0 : q0 < 4) (h1 : q1 < 4) (e0 : q0 = 2 * p) (e1 : q1 = 2 * p + 1)
    (l j : Fin 128) :
    twoHeads (Val.weights bc d b a g hg q0 h0) (Val.weights bc d b a g hg q1 h1)
      (extractStridedSlice S128x128 ![0, 256 * g + 128 * p] (Val.xStep xs d b e) (hg.pair p hp)) (ix2 l j) =
      yDiag A k l.val (4 * g + 2 * p + j.val / 64) (j.val % 64) := by
  have hd : (4 * g + 2 * p + j.val / 64) / 4 = g := by omega
  have hj : (256 * g + 128 * p + j.val) / 64 = 4 * g + 2 * p + j.val / 64 := by omega
  have hm : (256 * g + 128 * p + j.val) % 64 = j.val % 64 := by omega
  unfold yDiag
  rw [twoHeads_at, hd]
  refine Finset.sum_congr rfl fun s _ => ?_
  rw [H.weights hA g hg _ _ hg4, H.weights hA g hg _ _ hg4]
  pointwise
  rw [H.xStep hA]
  show _ * xdt A _ ((256 * g + 128 * p + j.val) / 64) ((256 * g + 128 * p + j.val) % 64) = _
  rw [hj, hm]
  by_cases h64 : j.val < 64
  · rw [if_pos h64, show 4 * g + 2 * p + j.val / 64 = 4 * g + q0 by omega]
  · rw [if_neg h64, show 4 * g + 2 * p + j.val / 64 = 4 * g + q1 by omega]

/-- Group `g`'s outputs in chunk `k`, over a state `S`. -/
theorem Reads.out (g : ℕ) (hg : Fits g) (hg4 : g < 4) (st : Vec Ideal S1x128x256 .f32) (S : ℕ → ℕ → ℕ → EReal)
    (hS : ∀ (n : Fin 128) (j : Fin 256), st (ix3 0 n j) = S n.val (4 * g + j.val / 64) (j.val % 64)) (l : Fin 128) (j : Fin 256) :
    Val.out xs bc d b a e st g hg (ix2 l j) = yDiag A k l.val (4 * g + j.val / 64) (j.val % 64) +
      (∑ n : Fin 128, X A (128 * k + l.val) (1536 + 128 * g + n.val) * S n.val (4 * g + j.val / 64) (j.val % 64)) *
        Ideal.exp (cs A k l.val (4 * g + j.val / 64)) := by
  unfold Val.out
  rw [groupOut_at]
  congr 1
  · split
    · rename_i h
      rw [H.pair hA g hg hg4 0 0 1 (by decide) (by decide) (by decide) rfl rfl]
      rfl
    · rename_i h
      rw [H.pair hA g hg hg4 1 2 3 (by decide) (by decide) (by decide) rfl rfl]
      show yDiag A k l.val (4 * g + 2 * 1 + (j.val - 128) / 64) ((j.val - 128) % 64) = _
      rw [show 4 * g + 2 * 1 + (j.val - 128) / 64 = 4 * g + j.val / 64 by omega, show (j.val - 128) % 64 = j.val % 64 by omega]
  · congr 1
    · refine Finset.sum_congr rfl fun n _ => ?_
      rw [hS]
      pointwise [outDir]
      rw [H.bc]
      simp only [← Nat.add_assoc, Nat.reduceAdd]
    · pointwise
      rw [H.startE hA]
      show Ideal.exp (cs A k l.val ((256 * g + j.val) / 64)) = _
      rw [show (256 * g + j.val) / 64 = 4 * g + j.val / 64 by omega]

/-- Group `g`'s state after chunk `k`. -/
theorem Reads.next (g : ℕ) (hg : Fits g) (hg4 : g < 4) (st : Vec Ideal S1x128x256 .f32) (S : ℕ → ℕ → ℕ → EReal)
    (hS : ∀ (n : Fin 128) (j : Fin 256), st (ix3 0 n j) = S n.val (4 * g + j.val / 64) (j.val % 64)) (n : Fin 128) (j : Fin 256) :
    Val.next xs bc d b a e st g hg (ix3 0 n j) =
      Ideal.exp (cs A k 127 (4 * g + j.val / 64)) * S n.val (4 * g + j.val / 64) (j.val % 64) +
        gain A k n.val (4 * g + j.val / 64) (j.val % 64) := by
  have hj : (256 * g + j.val) / 64 = 4 * g + j.val / 64 := by omega
  have hm : (256 * g + j.val) % 64 = j.val % 64 := by omega
  have hd : (4 * g + j.val / 64) / 4 = g := by omega
  unfold Val.next gain
  rw [groupState_at, hS, mul_comm, hd]
  congr 1
  · pointwise
    rw [H.startE hA]
    show Ideal.exp (cs A k 127 ((256 * g + j.val) / 64)) * _ = _
    rw [hj]
  · refine Finset.sum_congr rfl fun l _ => ?_
    pointwise [inDir]
    rw [H.bc, H.xEnd hA]
    show X A _ (1024 + (128 * g + n.val)) * (Ideal.exp (cs A k 127 ((256 * g + j.val) / 64) - cs A k l.val ((256 * g + j.val) / 64)) *
      xdt A _ ((256 * g + j.val) / 64) ((256 * g + j.val) % 64)) = _
    rw [hj, hm, Nat.add_assoc]

/-- The chunk's outputs over the four groups' states. -/
theorem Reads.chunkOut (q : Fin 4 → Vec Ideal S1x128x256 .f32) (S : ℕ → ℕ → ℕ → EReal)
    (hS : ∀ (g : Fin 4) (n : Fin 128) (j : Fin 256), q g (ix3 0 n j) = S n.val (4 * g.val + j.val / 64) (j.val % 64))
    (l : Fin 128) (c : Fin 1024) :
    Val.chunkOut xs bc d b a e q (ix2 l c) = yDiag A k l.val (c.val / 64) (c.val % 64) +
      (∑ n : Fin 128, X A (128 * k + l.val) (1536 + 128 * (c.val / 64 / 4) + n.val) * S n.val (c.val / 64) (c.val % 64)) *
        Ideal.exp (cs A k l.val (c.val / 64)) := by
  have key : ∀ (g : ℕ) (hg4 : g < 4) (j : Fin 256), c.val = 256 * g + j.val →
      Val.out xs bc d b a e (q ⟨g, hg4⟩) g (fits g hg4) (ix2 l j) = yDiag A k l.val (c.val / 64) (c.val % 64) +
      (∑ n : Fin 128, X A (128 * k + l.val) (1536 + 128 * (c.val / 64 / 4) + n.val) * S n.val (c.val / 64) (c.val % 64)) *
        Ideal.exp (cs A k l.val (c.val / 64)) := fun g hg4 j hc => by
    rw [H.out hA g (fits g hg4) hg4 _ S (hS ⟨g, hg4⟩), show 4 * g + j.val / 64 = c.val / 64 by omega,
      show j.val % 64 = c.val % 64 by omega, show c.val / 64 / 4 = g by omega]
  pointwise [Val.chunkOut]
  split
  · exact key 0 (by decide) ⟨c.val, by omega⟩ (by simp)
  · split
    · exact key 1 (by decide) ⟨c.val - 256, by omega⟩ (by simp; omega)
    · split
      · exact key 2 (by decide) ⟨c.val - 256 - 256, by omega⟩ (by simp; omega)
      · exact key 3 (by decide) ⟨c.val - 256 - 256 - 256, by omega⟩ (by simp; omega)

end Cert.KernelIdeal.Val

end
-- ==== Proof.Conv.lean ====
module

public import proofs.«01_k».proof.Proof.Chunk
public import proofs.«01_k».proof.Proof.Spec
public import Idealize.ShloMosaic.Lib.Pointwise

@[expose] public section

set_option maxRecDepth 16384

noncomputable section

namespace Cert.KernelIdeal.Val

open Cert.KernelIdeal Cert.KernelIdeal.Gen Idealize.ShloMosaic Idealize.ShloMosaic.TcCoe
open Cert.KernelIdeal.Facts Ssd

/-! # The convolution at an index -/

/-- A row number equals a shifted one as words exactly when it does as numbers. -/
theorem eq_ofNat (a b : ℕ) (k : ℕ) (ha : a < 2 ^ 31) (hb : b + k < 2 ^ 31) :
    IntOp.cmpi .eq (BitVec.ofNat 32 a) (IntOp.addi (BitVec.ofNat 32 b) (BitVec.ofNat 32 k)) = if a = b + k then 1#1 else 0#1 := by
  have h : (BitVec.ofNat 32 a = BitVec.ofNat 32 b + BitVec.ofNat 32 k) ↔ a = b + k := by
    rw [← BitVec.ofNat_add, ← BitVec.toNat_inj, BitVec.toNat_ofNat, BitVec.toNat_ofNat, Nat.mod_eq_of_lt (by omega), Nat.mod_eq_of_lt (by omega)]
  show BitVec.ofBool (decide (BitVec.ofNat 32 a = BitVec.ofNat 32 b + BitVec.ofNat 32 k)) = _
  by_cases hab : a = b + k
  · rw [if_pos hab, decide_eq_true (h.mpr hab)]; rfl
  · rw [if_neg hab, decide_eq_false (mt h.mp hab)]; rfl

/-- The shift matrix at a cell. -/
theorem shiftMat_at (k : ℕ) (hk : k < 32) (l : Fin 128) (x : Fin 160) :
    shiftMat (F := Ideal) (BitVec.ofNat 32 k) (ix2 l x) = if x.val = l.val + k then 1 else 0 := by
  pointwise [shiftMat]
  rw [eq_ofNat _ _ _ (by omega) (by omega), select_bit]

/-- A side tap at a cell: the shifted row times the tap's weight. -/
theorem sideTap_at (k : ℕ) (hk : k < 32) (ex : FVec Ideal S160x2048 .bf16) (w : Vec Ideal S1x2048 .f32) (l : Fin 128) (c : Fin 2048) :
    sideTap (BitVec.ofNat 32 k) ex w (ix2 l c) = ex (ix2 ⟨l.val + k, by omega⟩ c) * w (ix2 0 c) := by
  pointwise [sideTap]
  simp only [shiftMat_at k hk, ite_mul, one_mul, zero_mul]
  congr 1
  rw [Finset.sum_eq_single (⟨l.val + k, by omega⟩ : Fin 160)]
  · rw [if_pos rfl]
  · intro x _ hx
    rw [if_neg fun h => hx (Fin.ext h)]
  · intro h; exact absurd (Finset.mem_univ _) h

/-- The kernel's silu at a cell. -/
theorem siluTanh_at (x : FVec Ideal S128x2048 .f32) (l : Fin 128) (c : Fin 2048) : siluTanh x (ix2 l c) = silu (x (ix2 l c)) := by
  rw [← tanh_silu, ← half_bits]
  pointwise [siluTanh]

/-- A point's blocks hold the arguments' elements at point `t`. -/
structure Rows (A : Args) (t : ℕ) (x0 : Vec Ideal S512x2048 .bf16) (x1 x2 : Vec Ideal S16x2048 .bf16)
    (x4 : Vec Ideal S8x2048 .f32) (x5 : Vec Ideal S1x2048 .f32) : Prop where
  x0 : ∀ (r : Fin 512) (c : Fin 2048), x0 (ix2 r c) = A.pj (512 * t + r.val) c.val
  x1 : t % 8 ≠ 0 → ∀ (r : Fin 16) (c : Fin 2048), x1 (ix2 r c) = A.pj (512 * t - 16 + r.val) c.val
  x2 : t % 8 ≠ 7 → ∀ (r : Fin 16) (c : Fin 2048), x2 (ix2 r c) = A.pj (512 * t + 512 + r.val) c.val
  x4 : ∀ (r : Fin 8) (c : Fin 2048), r.val < 5 → x4 (ix2 r c) = A.w r.val c.val
  x5 : ∀ (c : Fin 2048), x5 (ix2 0 c) = A.b c.val

section

variable {A : Args} {t : ℕ} {x0 : Vec Ideal S512x2048 .bf16} {x1 x2 : Vec Ideal S16x2048 .bf16}
    {x4 : Vec Ideal S8x2048 .f32} {x5 : Vec Ideal S1x2048 .f32} (H : Rows A t x0 x1 x2 x4 x5)
    (i : grid0.Coords) (hi : (i 1).val = t % 8)
include H hi

/-- The point's rows with their margins: the projection's rows inside the sequence, zero outside. -/
theorem Rows.ext (r : Fin 544) (c : Fin 2048) : extRows i x0 x1 x2 (ix2 r c) =
    if 16 ≤ 512 * t % 4096 + r.val ∧ 512 * t % 4096 + r.val < 4112 then A.pj (512 * t + r.val - 16) c.val else 0 := by
  pointwise [extRows]
  rw [hi]
  have w : ∀ n : ℕ, n < 8 → Scalar.cmpi .eq (BitVec.ofNat 32 (t % 8)) (BitVec.ofNat 32 n) = if t % 8 = n then 1#1 else 0#1 := fun n hn => by
    have h := eq_ofNat (t % 8) 0 n (by omega) (by omega)
    rw [Nat.zero_add] at h
    rw [← h]
    show _ = IntOp.cmpi .eq (BitVec.ofNat 32 (t % 8)) (0#32 + BitVec.ofNat 32 n)
    rw [BitVec.zero_add]
    rfl
  by_cases h1 : r.val < 16
  · refine (dif_pos h1).trans ?_
    rw [w 0 (by decide), select_bit]
    by_cases h0 : t % 8 = 0
    · exact (if_pos h0).trans (if_neg (by omega)).symm
    · refine (if_neg h0).trans (Eq.trans ?_ (if_pos (by omega)).symm)
      refine (H.x1 h0 _ _).trans (congrArg₂ A.pj ?_ rfl)
      show 512 * t - 16 + r.val = _
      omega
  · refine (dif_neg h1).trans ?_
    by_cases h2 : r.val - 16 < 512
    · refine (dif_pos h2).trans (Eq.trans ?_ (if_pos (by omega)).symm)
      refine (H.x0 _ _).trans (congrArg₂ A.pj ?_ rfl)
      show 512 * t + (r.val - 16) = _
      omega
    · refine (dif_neg h2).trans ?_
      rw [w 7 (by decide), select_bit]
      by_cases h7 : t % 8 = 7
      · exact (if_pos h7).trans (if_neg (by omega)).symm
      · refine (if_neg h7).trans (Eq.trans ?_ (if_pos (by omega)).symm)
        refine (H.x2 h7 _ _).trans (congrArg₂ A.pj ?_ rfl)
        show 512 * t + 512 + (r.val - 16 - 512) = _
        omega

/-- The convolution of the chunk at row `o` of the point. -/
theorem Rows.acc (o : ℕ) (ho : Holds o) (ho' : o + 128 ≤ 512) (l : Fin 128) (c : Fin 2048) :
    accAt i x0 x1 x2 x4 x5 o ho (ix2 l c) = conv A (512 * t + o + l.val) c.val := by
  have side : ∀ (n : ℕ) (hn : n < 5) (hin : ∀ a : Fin 2, (![n, 0] : Fin 2 → ℕ) a + (![1, 2048] : Fin 2 → ℕ) a ≤ S8x2048.size a),
      sideTap (BitVec.ofNat 32 (14 + n)) (extractStridedSlice S160x2048 ![o, 0] (extRows i x0 x1 x2) ho.ext) (tapRow x4 n hin) (ix2 l c) =
        tap A (512 * t + o + l.val) c.val n := fun n hn hin => by
    rw [sideTap_at _ (by omega)]
    unfold tap
    congr 1
    · pointwise
      rw [H.ext i hi]
      have e1 : (512 * t + o + l.val) % 4096 = 512 * t % 4096 + o + l.val := by omega
      show (if 16 ≤ 512 * t % 4096 + (o + (l.val + (14 + n))) ∧ 512 * t % 4096 + (o + (l.val + (14 + n))) < 4112 then
        A.pj (512 * t + (o + (l.val + (14 + n))) - 16) c.val else 0) = _
      rw [e1]
      by_cases hc : 2 ≤ 512 * t % 4096 + o + l.val + n ∧ 512 * t % 4096 + o + l.val + n < 4098
      · rw [if_pos hc, if_pos (by omega)]
        exact congrArg₂ A.pj (by omega) rfl
      · rw [if_neg hc, if_neg (by omega)]
    · rw [← H.x4 ⟨n, by omega⟩ c hn]
      pointwise [tapRow]
  have mid : x0 (ix2 ⟨o + l.val, by omega⟩ c) * tapRow x4 2 inb_S8x2048_S1x2048_2_0 (ix2 0 c) = tap A (512 * t + o + l.val) c.val 2 := by
    unfold tap
    rw [if_pos (by omega), H.x0]
    congr 1
    · exact congrArg₂ A.pj (by show 512 * t + (o + l.val) = _; omega) rfl
    · refine Eq.trans ?_ (H.x4 2 c (by decide))
      pointwise [tapRow]
  pointwise [accAt, taps]
  rw [mid, H.x5, side 0 (by decide), side 1 (by decide), side 3 (by decide), side 4 (by decide)]
  unfold conv
  ac_rfl

/-- The inputs of the chunk at row `o`. -/
theorem Rows.xAt (o : ℕ) (ho : Holds o) (ho' : o + 128 ≤ 512) (l : Fin 128) (c : Fin 1024) :
    Val.xAt i x0 x1 x2 x4 x5 o ho (ix2 l c) = X A (512 * t + o + l.val) c.val := by
  pointwise [Val.xAt, convX]
  rw [siluTanh_at, H.acc i hi o ho ho']
  rfl

/-- The directions of the chunk at row `o`. -/
theorem Rows.bcAt (o : ℕ) (ho : Holds o) (ho' : o + 128 ≤ 512) (l : Fin 128) (c : Fin 1024) :
    Val.bcAt i x0 x1 x2 x4 x5 o ho (ix2 l c) = X A (512 * t + o + l.val) (1024 + c.val) := by
  pointwise [Val.bcAt, convBC]
  rw [siluTanh_at, H.acc i hi o ho ho']
  rfl

end

end Cert.KernelIdeal.Val

end
-- ==== Proof.Entry.lean ====
module

public import proofs.«01_k».proof.Proof.Gen.KernelIdeal.Frame
public import proofs.«01_k».proof.Proof.Conv
public import Idealize.ShloMosaic.Lib.StableHlo.Run
public import Idealize.ShloMosaic.Lib.Routing.OpsSet
public import Idealize.ShloMosaic.Lib.Routing.OpsOne

/-! # The arrays that the kernel's windows read, as the host lines leave them -/

@[expose] public section

set_option maxRecDepth 16384

noncomputable section

namespace Cert.KernelIdeal.Val

open Cert.KernelIdeal Cert.KernelIdeal.Gen Idealize.ShloMosaic Idealize.ShloMosaic.TcCoe
open Cert.KernelIdeal.Facts Ssd

variable {F : FTy → Type} [FloatOps F]

/-- Sixteen numbers in the first lanes of a row of zeros. -/
def sixteen (v : FVec F S16 .f32) : FVec F S1x128 .f32 :=
  Host.scatter scatter_S1x128_S2_S16_0_0_01_0 (fun _ b => b) (broadcastInDim S1x128 ![] bcast_S_S1x128 (constant S_ .f32 0x00000000#32))
    (concatenate S2 0 [⟨S1, broadcastInDim S1 ![] bcast_S_S1 (constantI S_ 32 0#32)⟩, ⟨S1, broadcastInDim S1 ![] bcast_S_S1 (constantI S_ 32 0#32)⟩]
      concatenates_S1_S1_S2_d0) v

/-- The number of a column's head. -/
def headOf : IVec S128x1024 32 := shapeCast S128x1024 (iotaInDim S128x16x64 32 1) shapeCasts_S128x16x64_S128x1024

/-- The columns of a head, marked in the rows `h` and `64 + h`. -/
def marks : IVec S128x1024 1 :=
  ori (cmpi .eq (iotaInDim S128x1024 32 0) (addi (broadcastInDim S128x1024 ![] bcast_S_S128x1024 (constantI S_ 32 0#32)) headOf))
    (cmpi .eq (iotaInDim S128x1024 32 0) (addi (broadcastInDim S128x1024 ![] bcast_S_S128x1024 (constantI S_ 32 64#32)) headOf))

variable (m : (ℓ : Loc nD τ sig) → Buf (Elt F) ℓ) (c : Dev nD)

theorem V_v4 : V m c main_v4 = pad S8x2048 ![0, 0] ![3, 0] ![0, 0]
    (shapeCast S5x2048 (m ((c : Thread nD τ).loc main_arg2) : FVec F S1x5x2048 .f32) shapeCasts_S1x5x2048_S5x2048) (sitofp .f32 (constantI S_ 32 0#32)) pads_S5x2048_S8x2048_030_000 h_S_ := by
  unfold V
  simp only [hostOps0, hostOps0_1, hostOps0_2, hostOps0_3, hostOps0_4, List.flatten_cons, List.flatten_nil, List.append_nil, List.cons_append, List.nil_append]
  after_results
  rfl

theorem V_v5 : V m c main_v5 = shapeCast S1x2048 (shapeCast S2048 (m ((c : Thread nD τ).loc main_arg3) : FVec F S1x2048 .f32) shapeCasts_S1x2048_S2048) shapeCasts_S2048_S1x2048 := by
  unfold V
  simp only [hostOps0, hostOps0_1, hostOps0_2, hostOps0_3, hostOps0_4, List.flatten_cons, List.flatten_nil, List.append_nil, List.cons_append, List.nil_append]
  after_results
  rfl

theorem V_v10 : V m c main_v10 = sixteen (shapeCast S16 (m ((c : Thread nD τ).loc main_arg4) : FVec F S1x16 .f32) shapeCasts_S1x16_S16) := by
  unfold V
  simp only [hostOps0, hostOps0_1, hostOps0_2, hostOps0_3, hostOps0_4, List.flatten_cons, List.flatten_nil, List.append_nil, List.cons_append, List.nil_append]
  after_results
  rfl

theorem V_v17 : V m c main_v17 =
    sixteen (Host.negf (Host.exp (shapeCast S16 (m ((c : Thread nD τ).loc main_arg5) : FVec F S1x16 .f32) shapeCasts_S1x16_S16))) := by
  unfold V
  simp only [hostOps0, hostOps0_1, hostOps0_2, hostOps0_3, hostOps0_4, List.flatten_cons, List.flatten_nil, List.append_nil, List.cons_append, List.nil_append]
  after_results
  rfl

theorem V_v29 : V m c main_v29 = truncf .bf16 (select marks (broadcastInDim S128x1024 ![] bcast_S_S128x1024 (constant S_ .f32 0x3F800000#32))
    (broadcastInDim S128x1024 ![] bcast_S_S128x1024 (constant S_ .f32 0x00000000#32))) bitsLt_bf16_f32 := by
  unfold V
  simp only [hostOps0, hostOps0_1, hostOps0_2, hostOps0_3, hostOps0_4, List.flatten_cons, List.flatten_nil, List.append_nil, List.cons_append, List.nil_append]
  after_results
  rfl

/-- Sixteen numbers in the first lanes, at a lane. -/
theorem sixteen_at (v : FVec Ideal S16 .f32) (j : Fin 128) : sixteen v (ix2 0 j) = if h : j.val < 16 then v (ix1 ⟨j.val, h⟩) else 0 := by
  let z : IVec S2 32 := concatenate S2 0 [⟨S1, broadcastInDim S1 ![] bcast_S_S1 (constantI S_ 32 0#32)⟩, ⟨S1, broadcastInDim S1 ![] bcast_S_S1 (constantI S_ 32 0#32)⟩]
      concatenates_S1_S1_S2_d0
  have hz : ∀ q : Fin 2, z (ix1 q) = 0#32 := fun q => by
    unfold z
    pointwise
    exact ite_self _
  have lands : ∀ k : Fin 16, scatter_S1x128_S2_S16_0_0_01_0.resultIdx? (ix1 k) z = some (ix2 0 j) ↔ k.val = j.val := fun k => by
    have w0 : scatter_S1x128_S2_S16_0_0_01_0.window (ix1 k) 0 = 0 := by
      unfold ScatterDims.window
      rw [dif_neg (by decide)]
    have w1 : scatter_S1x128_S2_S16_0_0_01_0.window (ix1 k) 1 = k.val := by
      unfold ScatterDims.window
      rw [dif_pos (by decide)]
      rfl
    have st : ∀ q : Fin 2, scatter_S1x128_S2_S16_0_0_01_0.start (ix1 k) z q = 0 := fun q =>
      (Routing.start_pair (R := 1) (C := 128) scatter_S1x128_S2_S16_0_0_01_0 rfl rfl z (ix1 k) q).trans ((congrArg BitVec.toInt (hz q)).trans rfl)
    refine (Routing.resultIdx?_ix2 (R := 1) (C := 128) scatter_S1x128_S2_S16_0_0_01_0 (ix1 k) z 0 j).trans ?_
    rw [st, st, w0, w1]
    show ((0 : Int) + 0 = 0 ∧ (0 : Int) + (k.val : Int) = j.val) ↔ _
    omega
  have lands' : ∀ k : S16.Idx, scatter_S1x128_S2_S16_0_0_01_0.resultIdx? k z = some (ix2 0 j) → (k 0).val = j.val := fun k hk =>
    (lands (k 0)).1 ((congrArg (fun t => scatter_S1x128_S2_S16_0_0_01_0.resultIdx? t z) (eq_ix1 k)).symm.trans hk)
  by_cases h : j.val < 16
  · rw [dif_pos h]
    refine Routing.scatter_set_hit _ _ z v (ix2 0 j) _ (fun k hk => ?_) (ix1 ⟨j.val, h⟩) ((lands ⟨j.val, h⟩).2 rfl)
    rw [eq_ix1 k]
    exact congrArg (fun t => v (ix1 t)) (Fin.ext (lands' k hk))
  · rw [dif_neg h]
    refine (Routing.scatter_set_miss _ _ z v (ix2 0 j) fun k hk => h ?_).trans ?_
    · rw [← lands' k hk]; exact (k 0).isLt
    · pointwise

/-- The mark of a cell. -/
theorem mark_at (s : Fin 128) (d : Fin 1024) :
    select marks (broadcastInDim S128x1024 ![] bcast_S_S128x1024 (constant (F := Ideal) S_ .f32 0x3F800000#32))
      (broadcastInDim S128x1024 ![] bcast_S_S128x1024 (constant (F := Ideal) S_ .f32 0x00000000#32)) (ix2 s d) =
      if s.val = d.val / 64 ∨ s.val = 64 + d.val / 64 then 1 else 0 := by
  pointwise [marks, headOf]
  have h : ∀ k : ℕ, k < 1000 → IntOp.cmpi .eq (BitVec.ofNat 32 s.val) (IntOp.addi (BitVec.ofNat 32 k) (BitVec.ofNat 32 (d.val / 64))) =
      if s.val = k + d.val / 64 then 1#1 else 0#1 := fun k hk => eq_ofNat s.val k (d.val / 64) (by omega) (by omega)
  rw [h 0 (by decide), h 64 (by decide), Nat.zero_add]
  by_cases h1 : s.val = d.val / 64
  · rw [if_pos h1, if_pos (Or.inl h1)]
    split <;> rfl
  · by_cases h2 : s.val = 64 + d.val / 64
    · rw [if_neg h1, if_pos h2, if_pos (Or.inr h2)]; rfl
    · rw [if_neg h1, if_neg h2, if_neg (by tauto)]; rfl

end Cert.KernelIdeal.Val

end
-- ==== Proof.Opened.lean ====
module

public import proofs.«01_k».proof.Proof.Gen.KernelIdeal.Frame
public import Idealize.ShloMosaic.Lib.Pipeline.ReadBack
public import proofs.«01_k».proof.Proof.Vocab

/-! # What a grid point leaves in its buffers: the pieces the body stores, by the vocabulary of a chunk -/

@[expose] public section

set_option maxRecDepth 16384

noncomputable section

namespace Cert.KernelIdeal.Val

open Cert.KernelIdeal Cert.KernelIdeal.Gen Idealize.ShloMosaic Idealize.ShloMosaic.TcCoe Idealize.SL.Sem

open Cert.KernelIdeal.Facts

variable {F : FTy → Type} [FloatOps F]

section Pieces

variable (i : grid0.Coords) (x0 : Vec F S512x2048 .bf16) (x1 : Vec F S16x2048 .bf16) (x2 : Vec F S16x2048 .bf16) (x3 : Vec F S512x128 .f32) (x4 : Vec F S8x2048 .f32) (x5 : Vec F S1x2048 .f32) (x6 : Vec F S1x128 .f32) (x7 : Vec F S1x128 .f32) (x8 : Vec F S128x1024 .bf16)
  (q : Fin 4 → Vec F S1x128x256 .f32)

/-- The four chunks of outputs a point stores. -/
def yPieces : List (View.Piece (Elt F) S512x1024 .f32) :=
  [⟨Rect.unit ![384, 0] ![128, 1024] inb_S512x1024_S128x1024_384_0, yAt i x0 x1 x2 x3 x4 x5 x6 x7 x8 384 (holds 384 (by decide)) (state3 i x0 x1 x2 x3 x4 x5 x6 x7 x8 q)⟩,
    ⟨Rect.unit ![256, 0] ![128, 1024] inb_S512x1024_S128x1024_256_0, yAt i x0 x1 x2 x3 x4 x5 x6 x7 x8 256 (holds 256 (by decide)) (state2 i x0 x1 x2 x3 x4 x5 x6 x7 x8 q)⟩,
    ⟨Rect.unit ![128, 0] ![128, 1024] inb_S512x1024_S128x1024_128_0, yAt i x0 x1 x2 x3 x4 x5 x6 x7 x8 128 (holds 128 (by decide)) (state1 i x0 x1 x2 x3 x4 x5 x6 x7 x8 q)⟩,
    ⟨Rect.unit ![0, 0] ![128, 1024] inb_S512x1024_S128x1024_0_0, yAt i x0 x1 x2 x3 x4 x5 x6 x7 x8 0 (holds 0 (by decide)) q⟩]

/-- The four chunks of inputs a point stores. -/
def xPieces : List (View.Piece (Elt F) S512x1024 .f32) :=
  [⟨Rect.unit ![384, 0] ![128, 1024] inb_S512x1024_S128x1024_384_0, xAt i x0 x1 x2 x4 x5 384 (holds 384 (by decide))⟩,
    ⟨Rect.unit ![256, 0] ![128, 1024] inb_S512x1024_S128x1024_256_0, xAt i x0 x1 x2 x4 x5 256 (holds 256 (by decide))⟩,
    ⟨Rect.unit ![128, 0] ![128, 1024] inb_S512x1024_S128x1024_128_0, xAt i x0 x1 x2 x4 x5 128 (holds 128 (by decide))⟩,
    ⟨Rect.unit ![0, 0] ![128, 1024] inb_S512x1024_S128x1024_0_0, xAt i x0 x1 x2 x4 x5 0 (holds 0 (by decide))⟩]

/-- The four chunks of directions a point stores. -/
def bcPieces : List (View.Piece (Elt F) S512x1024 .bf16) :=
  [⟨Rect.unit ![384, 0] ![128, 1024] inb_S512x1024_S128x1024_384_0, bcAt i x0 x1 x2 x4 x5 384 (holds 384 (by decide))⟩,
    ⟨Rect.unit ![256, 0] ![128, 1024] inb_S512x1024_S128x1024_256_0, bcAt i x0 x1 x2 x4 x5 256 (holds 256 (by decide))⟩,
    ⟨Rect.unit ![128, 0] ![128, 1024] inb_S512x1024_S128x1024_128_0, bcAt i x0 x1 x2 x4 x5 128 (holds 128 (by decide))⟩,
    ⟨Rect.unit ![0, 0] ![128, 1024] inb_S512x1024_S128x1024_0_0, bcAt i x0 x1 x2 x4 x5 0 (holds 0 (by decide))⟩]

/-- The four groups' states stored over earlier stores. -/
def statePieces (L : List (View.Piece (Elt F) S4x128x256 .f32)) : List (View.Piece (Elt F) S4x128x256 .f32) :=
  ⟨Rect.unit ![3, 0, 0] ![1, 128, 256] inb_S4x128x256_S1x128x256_3_0_0, q 3⟩ ::
    ⟨Rect.unit ![2, 0, 0] ![1, 128, 256] inb_S4x128x256_S1x128x256_2_0_0, q 2⟩ ::
    ⟨Rect.unit ![1, 0, 0] ![1, 128, 256] inb_S4x128x256_S1x128x256_1_0_0, q 1⟩ ::
    ⟨Rect.unit ![0, 0, 0] ![1, 128, 256] inb_S4x128x256_S1x128x256_0_0_0, q 0⟩ :: L

/-- Everything a point stores in the scratch, over earlier stores. -/
def scratchPieces (L : List (View.Piece (Elt F) S4x128x256 .f32)) : List (View.Piece (Elt F) S4x128x256 .f32) :=
  statePieces (state4 i x0 x1 x2 x3 x4 x5 x6 x7 x8 q) (statePieces (state3 i x0 x1 x2 x3 x4 x5 x6 x7 x8 q)
    (statePieces (state2 i x0 x1 x2 x3 x4 x5 x6 x7 x8 q) (statePieces (state1 i x0 x1 x2 x3 x4 x5 x6 x7 x8 q) L)))

end Pieces

section CaseB

variable (c : Dev nD) (i : grid0.Coords) (arg2 : Memref sig .tc .vmem S512x2048 .bf16) (harg2 : arg2.IsWhole) (arg3 : Memref sig .tc .vmem S16x2048 .bf16) (harg3 : arg3.IsWhole) (arg4 : Memref sig .tc .vmem S16x2048 .bf16) (harg4 : arg4.IsWhole) (arg5 : Memref sig .tc .vmem S512x128 .f32) (harg5 : arg5.IsWhole) (arg6 : Memref sig .tc .vmem S8x2048 .f32) (harg6 : arg6.IsWhole) (arg7 : Memref sig .tc .vmem S1x2048 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x1024 .bf16) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S4x128x256 .f32) (harg14 : arg14.IsWhole) (hc0 : ¬cond0_0 i)
  (x0 : Vec F S512x2048 .bf16) (x1 : Vec F S16x2048 .bf16) (x2 : Vec F S16x2048 .bf16) (x3 : Vec F S512x128 .f32) (x4 : Vec F S8x2048 .f32) (x5 : Vec F S1x2048 .f32) (x6 : Vec F S1x128 .f32) (x7 : Vec F S1x128 .f32) (x8 : Vec F S128x1024 .bf16) (xs0 : Vec F S4x128x256 .f32)

/-- The outputs a point leaves after another point. -/
theorem openB_9 :
    out0_B_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0 =
      View.canon (yPieces i x0 x1 x2 x3 x4 x5 x6 x7 x8 (held xs0)) := by
  frame_out [View.readCov_skip, View.readCov_fill, View.readCov_cons_toLoadRect]
  rfl

/-- The inputs a point leaves after another point. -/
theorem openB_10 :
    out0_B_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0 =
      View.canon (xPieces i x0 x1 x2 x4 x5) := by
  frame_out [View.readCov_skip, View.readCov_fill, View.readCov_cons_toLoadRect]
  rfl

/-- The directions a point leaves after another point. -/
theorem openB_11 :
    out0_B_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0 =
      View.canon (bcPieces i x0 x1 x2 x4 x5) := by
  frame_out [View.readCov_skip, View.readCov_fill, View.readCov_cons_toLoadRect]
  rfl

/-- The scratch a point leaves after another point. -/
theorem openB_s :
    sout0_B_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0 =
      View.canon (scratchPieces i x0 x1 x2 x3 x4 x5 x6 x7 x8 (held xs0) []) := by
  frame_out [View.readCov_skip, View.readCov_fill, View.readCov_cons_toLoadRect]
  rfl

end CaseB

section CaseA

variable (c : Dev nD) (i : grid0.Coords) (arg2 : Memref sig .tc .vmem S512x2048 .bf16) (harg2 : arg2.IsWhole) (arg3 : Memref sig .tc .vmem S16x2048 .bf16) (harg3 : arg3.IsWhole) (arg4 : Memref sig .tc .vmem S16x2048 .bf16) (harg4 : arg4.IsWhole) (arg5 : Memref sig .tc .vmem S512x128 .f32) (harg5 : arg5.IsWhole) (arg6 : Memref sig .tc .vmem S8x2048 .f32) (harg6 : arg6.IsWhole) (arg7 : Memref sig .tc .vmem S1x2048 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x1024 .bf16) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S4x128x256 .f32) (harg14 : arg14.IsWhole) (hc0 : cond0_0 i)
  (x0 : Vec F S512x2048 .bf16) (x1 : Vec F S16x2048 .bf16) (x2 : Vec F S16x2048 .bf16) (x3 : Vec F S512x128 .f32) (x4 : Vec F S8x2048 .f32) (x5 : Vec F S1x2048 .f32) (x6 : Vec F S1x128 .f32) (x7 : Vec F S1x128 .f32) (x8 : Vec F S128x1024 .bf16)

/-- The outputs a point leaves at a sequence's start. -/
theorem openA_9 :
    out0_A_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 =
      View.canon (yPieces i x0 x1 x2 x3 x4 x5 x6 x7 x8 (held zeroState)) := by
  frame_out [View.readCov_skip, View.readCov_fill, View.readCov_cons_toLoadRect]
  rfl

/-- The inputs a point leaves at a sequence's start. -/
theorem openA_10 :
    out0_A_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 =
      View.canon (xPieces i x0 x1 x2 x4 x5) := by
  frame_out [View.readCov_skip, View.readCov_fill, View.readCov_cons_toLoadRect]
  rfl

/-- The directions a point leaves at a sequence's start. -/
theorem openA_11 :
    out0_A_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 =
      View.canon (bcPieces i x0 x1 x2 x4 x5) := by
  frame_out [View.readCov_skip, View.readCov_fill, View.readCov_cons_toLoadRect]
  rfl

/-- The scratch a point leaves at a sequence's start. -/
theorem openA_s :
    sout0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 =
      View.canon (scratchPieces i x0 x1 x2 x3 x4 x5 x6 x7 x8 (held zeroState)
      [⟨Rect.unit ![0, 0, 0] ![4, 128, 256] inb_S4x128x256_S4x128x256_0_0_0, zeroState⟩]) := by
  frame_out [View.readCov_skip, View.readCov_fill, View.readCov_cons_toLoadRect]
  rfl

end CaseA

end Cert.KernelIdeal.Val

end
-- ==== Proof.Point.lean ====
module

public import proofs.«01_k».proof.Proof.Conv
public import proofs.«01_k».proof.Proof.Opened
public import proofs.«01_k».proof.Proof.Spec
public import Idealize.ShloMosaic.Lib.Pointwise

@[expose] public section

set_option maxRecDepth 16384

noncomputable section

namespace Cert.KernelIdeal.Val

open Cert.KernelIdeal Cert.KernelIdeal.Gen Idealize.ShloMosaic Idealize.ShloMosaic.TcCoe
open Cert.KernelIdeal.Facts Ssd

/-! # A grid point: its four chunks, its outputs and the states it leaves -/

/-- The nine blocks of point `t` hold the arguments' elements. -/
structure Blocks (A : Args) (t : ℕ) (x0 : Vec Ideal S512x2048 .bf16) (x1 x2 : Vec Ideal S16x2048 .bf16) (x3 : Vec Ideal S512x128 .f32)
    (x4 : Vec Ideal S8x2048 .f32) (x5 : Vec Ideal S1x2048 .f32) (x6 x7 : Vec Ideal S1x128 .f32) (x8 : Vec Ideal S128x1024 .bf16) : Prop
    extends Rows A t x0 x1 x2 x4 x5 where
  d : ∀ (r : Fin 512) (j : Fin 128), x3 (ix2 r j) = A.dr (512 * t + r.val) j.val
  db : ∀ j : Fin 128, j.val < 16 → x6 (ix2 0 j) = A.db j.val
  al : ∀ j : Fin 128, x7 (ix2 0 j) = if j.val < 16 then -(Ideal.exp (A.al j.val)) else 0
  e : ∀ (s : Fin 128) (c : Fin 1024), x8 (ix2 s c) = if s.val = c.val / 64 ∨ s.val = 64 + c.val / 64 then 1 else 0

/-- The four groups' states are those of sequence `b` before its chunk `j`. -/
def Carries (A : Args) (b j : ℕ) (q : Fin 4 → Vec Ideal S1x128x256 .f32) : Prop :=
  ∀ (g : Fin 4) (n : Fin 128) (s : Fin 256), q g (ix3 0 n s) = state A b n.val (4 * g.val + s.val / 64) (s.val % 64) j

section

variable {A : Args} {t : ℕ} {x0 : Vec Ideal S512x2048 .bf16} {x1 x2 : Vec Ideal S16x2048 .bf16} {x3 : Vec Ideal S512x128 .f32}
    {x4 : Vec Ideal S8x2048 .f32} {x5 : Vec Ideal S1x2048 .f32} {x6 x7 : Vec Ideal S1x128 .f32} {x8 : Vec Ideal S128x1024 .bf16}
    (hA : Finite A) (H : Blocks A t x0 x1 x2 x3 x4 x5 x6 x7 x8)
    (i : grid0.Coords) (hi : (i 1).val = t % 8)
include H hi

/-- The chunk at row `o` reads its rows of the arguments. -/
theorem Blocks.reads (k o : ℕ) (ho : Holds o) (ho' : o + 128 ≤ 512) (hk : 128 * k = 512 * t + o) :
    Reads A k (Val.xAt i x0 x1 x2 x4 x5 o ho) (Val.bcAt i x0 x1 x2 x4 x5 o ho) (rawAt x3 o ho) x6 x7 x8 where
  xs l c := by rw [H.toRows.xAt i hi o ho ho', hk]
  bc l c := by rw [H.toRows.bcAt i hi o ho ho', hk]
  d l j := by
    pointwise [rawAt]
    rw [H.d, hk]
    exact congrArg₂ A.dr (by show 512 * t + (o + l.val) = _; omega) rfl
  b := H.db
  a := H.al
  e := H.e

include hA

/-- A chunk takes the states to the next chunk's. -/
theorem Blocks.step (j o : ℕ) (ho : Holds o) (ho' : o + 128 ≤ 512) (hj : 128 * j = 512 * (t % 8) + o)
    (q : Fin 4 → Vec Ideal S1x128x256 .f32) (hq : Carries A (t / 8) j q) :
    Carries A (t / 8) (j + 1) (stepAt i x0 x1 x2 x3 x4 x5 x6 x7 x8 o ho q) := fun g n s => by
  have R := H.reads i hi (32 * (t / 8) + j) o ho ho' (by omega)
  exact R.next hA g.val (fits g.val g.isLt) g.isLt (q g) (fun n h p => state A (t / 8) n h p j) (hq g) n s

/-- A chunk's outputs. -/
theorem Blocks.y (j o : ℕ) (ho : Holds o) (ho' : o + 128 ≤ 512) (hj : 128 * j = 512 * (t % 8) + o)
    (q : Fin 4 → Vec Ideal S1x128x256 .f32) (hq : Carries A (t / 8) j q) (l : Fin 128) (c : Fin 1024) :
    yAt i x0 x1 x2 x3 x4 x5 x6 x7 x8 o ho q (ix2 l c) = Ssd.out A (512 * t + o + l.val) c.val := by
  have R := H.reads i hi (32 * (t / 8) + j) o ho ho' (by omega)
  refine (R.chunkOut hA q (fun n h p => state A (t / 8) n h p j) hq l c).trans ?_
  unfold Ssd.out Y
  rw [show (512 * t + o + l.val) / 4096 = t / 8 by omega, show (512 * t + o + l.val) / 128 % 32 = j by omega,
    show (512 * t + o + l.val) % 128 = l.val by omega]

variable (q : Fin 4 → Vec Ideal S1x128x256 .f32) (hq : Carries A (t / 8) (4 * (t % 8)) q)
include hq

theorem Blocks.carries1 : Carries A (t / 8) (4 * (t % 8) + 1) (state1 i x0 x1 x2 x3 x4 x5 x6 x7 x8 q) :=
  H.step hA i hi (4 * (t % 8)) 0 _ (by decide) (by omega) q hq

theorem Blocks.carries2 : Carries A (t / 8) (4 * (t % 8) + 2) (state2 i x0 x1 x2 x3 x4 x5 x6 x7 x8 q) :=
  H.step hA i hi (4 * (t % 8) + 1) 128 _ (by decide) (by omega) _ (H.carries1 hA i hi q hq)

theorem Blocks.carries3 : Carries A (t / 8) (4 * (t % 8) + 3) (state3 i x0 x1 x2 x3 x4 x5 x6 x7 x8 q) :=
  H.step hA i hi (4 * (t % 8) + 2) 256 _ (by decide) (by omega) _ (H.carries2 hA i hi q hq)

/-- A point takes the states four chunks on. -/
theorem Blocks.carries4 : Carries A (t / 8) (4 * (t % 8) + 4) (state4 i x0 x1 x2 x3 x4 x5 x6 x7 x8 q) :=
  H.step hA i hi (4 * (t % 8) + 3) 384 _ (by decide) (by omega) _ (H.carries3 hA i hi q hq)

/-- The outputs a point stores. -/
theorem Blocks.yBlock (r : Fin 512) (c : Fin 1024) :
    View.canon (yPieces i x0 x1 x2 x3 x4 x5 x6 x7 x8 q) (ix2 r c) = Ssd.out A (512 * t + r.val) c.val := by
  unfold yPieces
  canon_tiles x h
  · idx_vars x
    rw [H.y hA i hi (4 * (t % 8) + 3) 384 _ (by decide) (by omega) _ (H.carries3 hA i hi q hq)]
    exact congrArg₂ (Ssd.out A) (by omega) (by omega)
  · idx_vars x
    rw [H.y hA i hi (4 * (t % 8) + 2) 256 _ (by decide) (by omega) _ (H.carries2 hA i hi q hq)]
    exact congrArg₂ (Ssd.out A) (by omega) (by omega)
  · idx_vars x
    rw [H.y hA i hi (4 * (t % 8) + 1) 128 _ (by decide) (by omega) _ (H.carries1 hA i hi q hq)]
    exact congrArg₂ (Ssd.out A) (by omega) (by omega)
  · idx_vars x
    rw [H.y hA i hi (4 * (t % 8)) 0 _ (by decide) (by omega) _ hq]
    exact congrArg₂ (Ssd.out A) (by omega) (by omega)

omit hA hq in
/-- The inputs a point stores. -/
theorem Blocks.xBlock (r : Fin 512) (c : Fin 1024) :
    View.canon (xPieces i x0 x1 x2 x4 x5) (ix2 r c) = X A (512 * t + r.val) c.val := by
  unfold xPieces
  canon_tiles x h
  all_goals
    idx_vars x
    rw [H.toRows.xAt i hi _ _ (by decide)]
    exact congrArg₂ (X A) (by omega) (by omega)

omit hA hq in
/-- The directions a point stores. -/
theorem Blocks.bcBlock (r : Fin 512) (c : Fin 1024) :
    View.canon (bcPieces i x0 x1 x2 x4 x5) (ix2 r c) = X A (512 * t + r.val) (1024 + c.val) := by
  unfold bcPieces
  canon_tiles x h
  all_goals
    idx_vars x
    rw [H.toRows.bcAt i hi _ _ (by decide)]
    exact congrArg₂ (X A) (by omega) (by omega)

end

/-- A plane stored last is read back; the other planes are the earlier stores'. -/
theorem canon_plane (k : ℕ) (hk : k < 4) (inb) (w : Vec Ideal S1x128x256 .f32) (L : List (View.Piece (Elt Ideal) S4x128x256 .f32))
    (g : Fin 4) (n : Fin 128) (s : Fin 256) :
    View.canon (⟨Rect.unit ![k, 0, 0] ![1, 128, 256] inb, w⟩ :: L) (ix3 g n s) =
      if g.val = k then w (ix3 0 n s) else View.canon L (ix3 g n s) := by
  split
  · rename_i h
    let R : Rect S4x128x256 := Rect.unit ![k, 0, 0] ![1, 128, 256] inb
    have e : R.emb (ix3 0 n s : S1x128x256.Idx) = ix3 g n s := funext fun a => by
      match a with
      | ⟨0, _⟩ => exact Fin.ext h.symm
      | ⟨1, _⟩ => exact Fin.ext (by show 0 + 1 * n.val = n.val; omega)
      | ⟨2, _⟩ => exact Fin.ext (by show 0 + 1 * s.val = s.val; omega)
    have := View.canon_cons_emb (Val := Elt Ideal) R w L (ix3 0 n s : S1x128x256.Idx)
    rw [e] at this
    exact this
  · rename_i h
    refine View.canon_cons_of_not_mem _ _ fun hm => ?_
    have := (Rect.mem_set_unit (s := S4x128x256) (off := ![k, 0, 0]) (size := ![1, 128, 256]) (inb := inb)).mp hm 0
    have h1 : k ≤ g.val := this.1
    have h2 : g.val < k + 1 := this.2
    omega

/-- A group's states are its plane of the scratch. -/
theorem held_at (z : Vec Ideal S4x128x256 .f32) (g : Fin 4) (n : Fin 128) (s : Fin 256) : held z g (ix3 0 n s) = z (ix3 g n s) := by
  refine congrArg z (funext fun a => ?_)
  match a with
  | ⟨0, _⟩ => exact Fin.ext (Nat.add_zero _)
  | ⟨1, _⟩ => exact Fin.ext (by show 0 + 1 * n.val = n.val; omega)
  | ⟨2, _⟩ => exact Fin.ext (by show 0 + 1 * s.val = s.val; omega)

/-- Four planes stored last are what a later point loads. -/
theorem held_canon (q : Fin 4 → Vec Ideal S1x128x256 .f32) (L : List (View.Piece (Elt Ideal) S4x128x256 .f32)) (g : Fin 4) (n : Fin 128) (s : Fin 256) :
    held (View.canon (statePieces q L)) g (ix3 0 n s) = q g (ix3 0 n s) := by
  rw [held_at]
  unfold statePieces
  rw [canon_plane 3 (by decide), canon_plane 2 (by decide), canon_plane 1 (by decide), canon_plane 0 (by decide)]
  match g with
  | ⟨0, _⟩ => rfl
  | ⟨1, _⟩ => rfl
  | ⟨2, _⟩ => rfl
  | ⟨3, _⟩ => rfl

/-- The cleared scratch holds the state before a sequence's first chunk. -/
theorem held_zero (A : Args) (b : ℕ) : Carries A b 0 (held (zeroState (F := Ideal))) := fun g n s => by
  show Ideal.ofBits .f32 0x00000000#32 = 0
  exact Ideal.ofBits_zero_f32

end Cert.KernelIdeal.Val

end
-- ==== Proof.Values.lean ====
module

public import proofs.«01_k».proof.Proof.Entry
public import proofs.«01_k».proof.Proof.Point
public import Idealize.ShloMosaic.Lib.Pipeline.Value

/-! # What each grid point leaves -/

@[expose] public section

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat)
open Cert.KernelIdeal.Facts Ssd

variable (m : (ℓ : Loc nD τ sig) → Buf (Elt Ideal) ℓ) (ρ : Dev nD → PrngReg) (c : Dev nD)

/-- The arguments' elements, from the memory. -/
def argsAt : Args := argsOf (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))

/-! ## Where the windows' blocks lie -/

theorem at0 : ∀ t : Fin cfg0.N, win0_0.index t (0 : Fin 2) = t.val ∧ win0_0.index t (1 : Fin 2) = 0 := (by decide +kernel : ∀ t : Fin grid0.N, _)
theorem at1 : ∀ t : Fin cfg0.N, win0_1.index t (0 : Fin 2) = t.val * 32 - 1 ∧ win0_1.index t (1 : Fin 2) = 0 := (by decide +kernel : ∀ t : Fin grid0.N, _)
theorem at2 : ∀ t : Fin cfg0.N, win0_2.index t (0 : Fin 2) = min (t.val * 32 + 32) 2047 ∧ win0_2.index t (1 : Fin 2) = 0 := (by decide +kernel : ∀ t : Fin grid0.N, _)
theorem at3 : ∀ t : Fin cfg0.N, win0_3.index t (0 : Fin 2) = t.val ∧ win0_3.index t (1 : Fin 2) = 0 := (by decide +kernel : ∀ t : Fin grid0.N, _)
theorem at4 : ∀ t : Fin cfg0.N, win0_4.index t (0 : Fin 2) = 0 ∧ win0_4.index t (1 : Fin 2) = 0 := (by decide +kernel : ∀ t : Fin grid0.N, _)
theorem at5 : ∀ t : Fin cfg0.N, win0_5.index t (0 : Fin 2) = 0 ∧ win0_5.index t (1 : Fin 2) = 0 := (by decide +kernel : ∀ t : Fin grid0.N, _)
theorem at6 : ∀ t : Fin cfg0.N, win0_6.index t (0 : Fin 2) = 0 ∧ win0_6.index t (1 : Fin 2) = 0 := (by decide +kernel : ∀ t : Fin grid0.N, _)
theorem at7 : ∀ t : Fin cfg0.N, win0_7.index t (0 : Fin 2) = 0 ∧ win0_7.index t (1 : Fin 2) = 0 := (by decide +kernel : ∀ t : Fin grid0.N, _)
theorem at8 : ∀ t : Fin cfg0.N, win0_8.index t (0 : Fin 2) = 0 ∧ win0_8.index t (1 : Fin 2) = 0 := (by decide +kernel : ∀ t : Fin grid0.N, _)

/-- The second coordinate of a point is its place in its sequence. -/
theorem place : ∀ t : Fin cfg0.N, ((grid0.coords t) 1).val = t.val % 8 := (by decide +kernel : ∀ t : Fin grid0.N, ((grid0.coords t) 1).val = t.val % 8)

theorem lt64 (t : Fin cfg0.N) : t.val < 64 := lt_of_lt_of_eq t.isLt N_0

/-! ## The blocks' elements -/

theorem blk0 (t : Fin cfg0.N) (r : Fin 512) (d : Fin 2048) :
    (iblk m c 0 t : Vec Ideal S512x2048 .bf16) (ix2 r d) = (argsAt m c).pj (512 * t.val + r.val) d.val := by
  obtain ⟨e0, e1⟩ := at0 t
  have ht := lt64 t
  show V m c main_arg0 (((cfg0.win 0).blk t).view.emb (ix2 r d : S512x2048.Idx)) = _
  rw [V_main_arg0]
  refine Eq.trans (congrArg _ (funext fun a => ?_)) (cell2_of (n := 32768) (m := 8192) (m ((c : Thread nD τ).loc main_arg0)) ⟨512 * t.val + r.val, by omega⟩ ⟨d.val, by omega⟩)
  match a with
  | ⟨0, _⟩ => exact Fin.ext (by show win0_0.index t (0 : Fin 2) * 512 + 1 * r.val = 512 * t.val + r.val; omega)
  | ⟨1, _⟩ => exact Fin.ext (by show win0_0.index t (1 : Fin 2) * 2048 + 1 * d.val = d.val; omega)

theorem blk1 (t : Fin cfg0.N) (h : t.val % 8 ≠ 0) (r : Fin 16) (d : Fin 2048) :
    (iblk m c 1 t : Vec Ideal S16x2048 .bf16) (ix2 r d) = (argsAt m c).pj (512 * t.val - 16 + r.val) d.val := by
  obtain ⟨e0, e1⟩ := at1 t
  have ht := lt64 t
  show V m c main_arg0 (((cfg0.win 1).blk t).view.emb (ix2 r d : S16x2048.Idx)) = _
  rw [V_main_arg0]
  refine Eq.trans (congrArg _ (funext fun a => ?_)) (cell2_of (n := 32768) (m := 8192) (m ((c : Thread nD τ).loc main_arg0)) ⟨512 * t.val - 16 + r.val, by omega⟩ ⟨d.val, by omega⟩)
  match a with
  | ⟨0, _⟩ => exact Fin.ext (by show win0_1.index t (0 : Fin 2) * 16 + 1 * r.val = 512 * t.val - 16 + r.val; omega)
  | ⟨1, _⟩ => exact Fin.ext (by show win0_1.index t (1 : Fin 2) * 2048 + 1 * d.val = d.val; omega)

theorem blk2 (t : Fin cfg0.N) (h : t.val % 8 ≠ 7) (r : Fin 16) (d : Fin 2048) :
    (iblk m c 2 t : Vec Ideal S16x2048 .bf16) (ix2 r d) = (argsAt m c).pj (512 * t.val + 512 + r.val) d.val := by
  obtain ⟨e0, e1⟩ := at2 t
  have ht := lt64 t
  show V m c main_arg0 (((cfg0.win 2).blk t).view.emb (ix2 r d : S16x2048.Idx)) = _
  rw [V_main_arg0]
  refine Eq.trans (congrArg _ (funext fun a => ?_)) (cell2_of (n := 32768) (m := 8192) (m ((c : Thread nD τ).loc main_arg0)) ⟨512 * t.val + 512 + r.val, by omega⟩ ⟨d.val, by omega⟩)
  match a with
  | ⟨0, _⟩ => exact Fin.ext (by show win0_2.index t (0 : Fin 2) * 16 + 1 * r.val = 512 * t.val + 512 + r.val; omega)
  | ⟨1, _⟩ => exact Fin.ext (by show win0_2.index t (1 : Fin 2) * 2048 + 1 * d.val = d.val; omega)

theorem blk3 (t : Fin cfg0.N) (r : Fin 512) (d : Fin 128) :
    (iblk m c 3 t : Vec Ideal S512x128 .f32) (ix2 r d) = (argsAt m c).dr (512 * t.val + r.val) d.val := by
  obtain ⟨e0, e1⟩ := at3 t
  have ht := lt64 t
  show V m c main_arg1 (((cfg0.win 3).blk t).view.emb (ix2 r d : S512x128.Idx)) = _
  rw [V_main_arg1]
  refine Eq.trans (congrArg _ (funext fun a => ?_)) (cell2_of (n := 32768) (m := 128) (m ((c : Thread nD τ).loc main_arg1)) ⟨512 * t.val + r.val, by omega⟩ d)
  match a with
  | ⟨0, _⟩ => exact Fin.ext (by show win0_3.index t (0 : Fin 2) * 512 + 1 * r.val = 512 * t.val + r.val; omega)
  | ⟨1, _⟩ => exact Fin.ext (by show win0_3.index t (1 : Fin 2) * 128 + 1 * d.val = d.val; omega)

/-- The filter padded to eight rows has the filter's own first five. -/
theorem padded_at (v : FVec Ideal S1x5x2048 .f32) (r : Fin 8) (d : Fin 2048) (h : r.val < 5) :
    pad S8x2048 ![0, 0] ![3, 0] ![0, 0] (shapeCast S5x2048 v shapeCasts_S1x5x2048_S5x2048) (sitofp .f32 (constantI S_ 32 0#32)) pads_S5x2048_S8x2048_030_000 h_S_ (ix2 r d) =
      v (ix3 0 ⟨r.val, h⟩ d) := by
  pointwise
  exact dif_pos h

theorem blk4 (t : Fin cfg0.N) (r : Fin 8) (d : Fin 2048) (h : r.val < 5) :
    (iblk m c 4 t : Vec Ideal S8x2048 .f32) (ix2 r d) = (argsAt m c).w r.val d.val := by
  obtain ⟨e0, e1⟩ := at4 t
  show V m c main_v4 (((cfg0.win 4).blk t).view.emb (ix2 r d : S8x2048.Idx)) = _
  rw [V_v4]
  have e : ((cfg0.win 4).blk t).view.emb (ix2 r d : S8x2048.Idx) = (ix2 r d : S8x2048.Idx) := funext fun a => by
    match a with
    | ⟨0, _⟩ => exact Fin.ext (by show win0_4.index t (0 : Fin 2) * 8 + 1 * r.val = r.val; omega)
    | ⟨1, _⟩ => exact Fin.ext (by show win0_4.index t (1 : Fin 2) * 2048 + 1 * d.val = d.val; omega)
  rw [e]
  refine Eq.trans ?_ (cell3_of (n := 5) (m := 2048) (m ((c : Thread nD τ).loc main_arg2)) 0 ⟨r.val, h⟩ d)
  exact padded_at _ r d h

theorem blk5 (t : Fin cfg0.N) (d : Fin 2048) : (iblk m c 5 t : Vec Ideal S1x2048 .f32) (ix2 0 d) = (argsAt m c).b d.val := by
  obtain ⟨e0, e1⟩ := at5 t
  show V m c main_v5 (((cfg0.win 5).blk t).view.emb (ix2 0 d : S1x2048.Idx)) = _
  rw [V_v5]
  have e : ((cfg0.win 5).blk t).view.emb (ix2 0 d : S1x2048.Idx) = (ix2 0 d : S1x2048.Idx) := funext fun a => by
    match a with
    | ⟨0, _⟩ => exact Fin.ext (by show win0_5.index t (0 : Fin 2) * 1 + 1 * 0 = 0; omega)
    | ⟨1, _⟩ => exact Fin.ext (by show win0_5.index t (1 : Fin 2) * 2048 + 1 * d.val = d.val; omega)
  rw [e]
  refine Eq.trans ?_ (cell2_of (n := 1) (m := 2048) (m ((c : Thread nD τ).loc main_arg3)) 0 d)
  pointwise

theorem blk6 (t : Fin cfg0.N) (j : Fin 128) (h : j.val < 16) : (iblk m c 6 t : Vec Ideal S1x128 .f32) (ix2 0 j) = (argsAt m c).db j.val := by
  obtain ⟨e0, e1⟩ := at6 t
  show V m c main_v10 (((cfg0.win 6).blk t).view.emb (ix2 0 j : S1x128.Idx)) = _
  rw [V_v10]
  have e : ((cfg0.win 6).blk t).view.emb (ix2 0 j : S1x128.Idx) = (ix2 0 j : S1x128.Idx) := funext fun a => by
    match a with
    | ⟨0, _⟩ => exact Fin.ext (by show win0_6.index t (0 : Fin 2) * 1 + 1 * 0 = 0; omega)
    | ⟨1, _⟩ => exact Fin.ext (by show win0_6.index t (1 : Fin 2) * 128 + 1 * j.val = j.val; omega)
  rw [e]
  refine Eq.trans ?_ (cell2_of (n := 1) (m := 16) (m ((c : Thread nD τ).loc main_arg4)) 0 ⟨j.val, h⟩)
  refine (sixteen_at _ j).trans ((dif_pos h).trans ?_)
  pointwise

theorem blk7 (t : Fin cfg0.N) (j : Fin 128) : (iblk m c 7 t : Vec Ideal S1x128 .f32) (ix2 0 j) =
    if j.val < 16 then -(Ideal.exp ((argsAt m c).al j.val)) else 0 := by
  obtain ⟨e0, e1⟩ := at7 t
  show V m c main_v17 (((cfg0.win 7).blk t).view.emb (ix2 0 j : S1x128.Idx)) = _
  rw [V_v17]
  have e : ((cfg0.win 7).blk t).view.emb (ix2 0 j : S1x128.Idx) = (ix2 0 j : S1x128.Idx) := funext fun a => by
    match a with
    | ⟨0, _⟩ => exact Fin.ext (by show win0_7.index t (0 : Fin 2) * 1 + 1 * 0 = 0; omega)
    | ⟨1, _⟩ => exact Fin.ext (by show win0_7.index t (1 : Fin 2) * 128 + 1 * j.val = j.val; omega)
  rw [e]
  refine (sixteen_at _ j).trans ?_
  by_cases h : j.val < 16
  · refine (dif_pos h).trans (Eq.trans ?_ (if_pos h).symm)
    refine Eq.trans ?_ (congrArg (fun z => -(Ideal.exp z)) (cell2_of (n := 1) (m := 16) (m ((c : Thread nD τ).loc main_arg5)) 0 ⟨j.val, h⟩))
    pointwise
  · exact (dif_neg h).trans (if_neg h).symm

theorem blk8 (t : Fin cfg0.N) (s : Fin 128) (d : Fin 1024) : (iblk m c 8 t : Vec Ideal S128x1024 .bf16) (ix2 s d) =
    if s.val = d.val / 64 ∨ s.val = 64 + d.val / 64 then (1 : EReal) else 0 := by
  obtain ⟨e0, e1⟩ := at8 t
  show V m c main_v29 (((cfg0.win 8).blk t).view.emb (ix2 s d : S128x1024.Idx)) = _
  rw [V_v29]
  have e : ((cfg0.win 8).blk t).view.emb (ix2 s d : S128x1024.Idx) = (ix2 s d : S128x1024.Idx) := funext fun a => by
    match a with
    | ⟨0, _⟩ => exact Fin.ext (by show win0_8.index t (0 : Fin 2) * 128 + 1 * s.val = s.val; omega)
    | ⟨1, _⟩ => exact Fin.ext (by show win0_8.index t (1 : Fin 2) * 1024 + 1 * d.val = d.val; omega)
  rw [e]
  exact mark_at s d

/-- A point's nine blocks hold the arguments' elements. -/
theorem blocks (t : Fin cfg0.N) : Blocks (argsAt m c) t.val (iblk m c 0 t) (iblk m c 1 t) (iblk m c 2 t) (iblk m c 3 t) (iblk m c 4 t) (iblk m c 5 t)
    (iblk m c 6 t) (iblk m c 7 t) (iblk m c 8 t) where
  x0 := blk0 m c t
  x1 := blk1 m c t
  x2 := blk2 m c t
  x4 := blk4 m c t
  x5 := blk5 m c t
  d := blk3 m c t
  db := blk6 m c t
  al := blk7 m c t
  e := blk8 m c t

/-! ## Point by point -/

/-- One point takes the carried states four chunks on. -/
theorem Blocks.next {A : Args} {t : ℕ} {x0 : Vec Ideal S512x2048 .bf16} {x1 x2 : Vec Ideal S16x2048 .bf16} {x3 : Vec Ideal S512x128 .f32} {x4 : Vec Ideal S8x2048 .f32}
    {x5 : Vec Ideal S1x2048 .f32} {x6 x7 : Vec Ideal S1x128 .f32} {x8 : Vec Ideal S128x1024 .bf16} (B : Blocks A t x0 x1 x2 x3 x4 x5 x6 x7 x8) (hA : Finite A)
    (i : grid0.Coords) (hi : (i 1).val = t % 8) (q : Fin 4 → Vec Ideal S1x128x256 .f32) (hq : Carries A (t / 8) (4 * (t % 8)) q)
    (L : List (View.Piece (Elt Ideal) S4x128x256 .f32)) (z : Vec Ideal S4x128x256 .f32) (hz : z = View.canon (scratchPieces i x0 x1 x2 x3 x4 x5 x6 x7 x8 q L)) :
    Carries A (t / 8) (4 * (t % 8) + 4) (held z) := by
  subst hz
  exact fun g n s => (held_canon _ _ g n s).trans (B.carries4 hA i hi q hq g n s)

/-- The scratch after the first point of a sequence. -/
theorem first (hA : Finite (argsAt m c)) (t : Fin cfg0.N) (h0 : t.val % 8 = 0) :
    Carries (argsAt m c) (t.val / 8) (4 * (t.val % 8) + 4) (held (outsAt0 m c t.val t.isLt).2.2.2) := by
  have hz : Carries (argsAt m c) (t.val / 8) (4 * (t.val % 8)) (held (zeroState (F := Ideal))) := by rw [h0]; exact held_zero _ _
  rw [outsAt0_A m c t h0]
  dsimp only
  rw [openA_s]
  exact (blocks m c t).next hA (grid0.coords t) (place t) _ hz _ _ rfl

/-- The scratch before a later point is what that point needs. -/
theorem carried (A : Args) (t : ℕ) (h0 : ¬t % 8 = 0) (q : Fin 4 → Vec Ideal S1x128x256 .f32) (h : Carries A ((t - 1) / 8) (4 * ((t - 1) % 8) + 4) q) :
    Carries A (t / 8) (4 * (t % 8)) q := by
  rw [show (t - 1) / 8 = t / 8 by omega, show 4 * ((t - 1) % 8) + 4 = 4 * (t % 8) by omega] at h
  exact h

/-- The scratch after a later point. -/
theorem later (hA : Finite (argsAt m c)) (t : Fin cfg0.N) (h0 : ¬t.val % 8 = 0)
    (ih : Carries (argsAt m c) ((t.val - 1) / 8) (4 * ((t.val - 1) % 8) + 4) (held (outsAt0 m c (t.val - 1) (Nat.lt_of_le_of_lt (Nat.sub_le _ _) t.isLt)).2.2.2)) :
    Carries (argsAt m c) (t.val / 8) (4 * (t.val % 8) + 4) (held (outsAt0 m c t.val t.isLt).2.2.2) := by
  have hq := carried _ _ h0 _ ih
  rw [outsAt0_B m c t h0]
  dsimp only
  rw [openB_s]
  exact (blocks m c t).next hA (grid0.coords t) (place t) _ hq _ _ rfl

/-- The scratch after any point. -/
theorem scratch (hA : Finite (argsAt m c)) : ∀ (n : ℕ) (hn : n < cfg0.N),
    Carries (argsAt m c) (n / 8) (4 * (n % 8) + 4) (held (outsAt0 m c n hn).2.2.2)
  | 0, hn => first m c hA ⟨0, hn⟩ rfl
  | n + 1, hn => by
    by_cases h0 : (n + 1) % 8 = 0
    · exact first m c hA ⟨n + 1, hn⟩ h0
    · exact later m c hA ⟨n + 1, hn⟩ h0 (scratch hA n (Nat.lt_of_succ_lt hn))

/-- What the kernel leaves in the window of `y`. -/
theorem y_at (hA : Finite (argsAt m c)) (t : Fin cfg0.N) (r : Fin 512) (d : Fin 1024) :
    ((outsAt0 m c t.val t.isLt).1 : Vec Ideal S512x1024 .f32) (ix2 r d) = Ssd.out (argsAt m c) (512 * t.val + r.val) d.val := by
  by_cases h0 : t.val % 8 = 0
  · have hz : Carries (argsAt m c) (t.val / 8) (4 * (t.val % 8)) (held (zeroState (F := Ideal))) := by rw [h0]; exact held_zero _ _
    rw [outsAt0_A m c t h0]
    dsimp only
    rw [openA_9]
    exact (blocks m c t).yBlock hA (grid0.coords t) (place t) _ hz r d
  · have hq := carried _ _ h0 _ (scratch m c hA (t.val - 1) (Nat.lt_of_le_of_lt (Nat.sub_le _ _) t.isLt))
    rw [outsAt0_B m c t h0]
    dsimp only
    rw [openB_9]
    exact (blocks m c t).yBlock hA (grid0.coords t) (place t) _ hq r d

/-- What it leaves in the window of the convolved channels of `x`. -/
theorem x_at (t : Fin cfg0.N) (r : Fin 512) (d : Fin 1024) :
    ((outsAt0 m c t.val t.isLt).2.1 : Vec Ideal S512x1024 .bf16) (ix2 r d) = Ssd.X (argsAt m c) (512 * t.val + r.val) d.val := by
  by_cases h0 : t.val % 8 = 0
  · rw [outsAt0_A m c t h0]
    dsimp only
    rw [openA_10]
    exact (blocks m c t).xBlock (grid0.coords t) (place t) r d
  · rw [outsAt0_B m c t h0]
    dsimp only
    rw [openB_10]
    exact (blocks m c t).xBlock (grid0.coords t) (place t) r d

/-- And in the window of the channels of `B` and `C`. -/
theorem bc_at (t : Fin cfg0.N) (r : Fin 512) (d : Fin 1024) :
    ((outsAt0 m c t.val t.isLt).2.2.1 : Vec Ideal S512x1024 .bf16) (ix2 r d) = Ssd.X (argsAt m c) (512 * t.val + r.val) (1024 + d.val) := by
  by_cases h0 : t.val % 8 = 0
  · rw [outsAt0_A m c t h0]
    dsimp only
    rw [openA_11]
    exact (blocks m c t).bcBlock (grid0.coords t) (place t) r d
  · rw [outsAt0_B m c t h0]
    dsimp only
    rw [openB_11]
    exact (blocks m c t).bcBlock (grid0.coords t) (place t) r d

end Cert.KernelIdeal.Val

end
-- ==== Proof.Arrays.lean ====
module

public import proofs.«01_k».proof.Proof.Values

/-! # The kernel's run -/

@[expose] public section

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat)
open Cert.KernelIdeal.Facts Ssd

variable (m : (ℓ : Loc nD τ sig) → Buf (Elt Ideal) ℓ) (ρ : Dev nD → PrngReg) (c : Dev nD)

/-- The array of the scan's outputs, by row and channel. -/
def yArr (A : Args) : Vec Ideal S32768x1024 .f32 := fun i => Ssd.out A (i 0).val (i 1).val

/-- Block `t` of that array starts at row `512 t`, and every point writes its block back. -/
theorem at9 : ∀ t : Fin cfg0.N, (cfg0.win 9).flush t = true ∧ win0_9.index t (0 : Fin 2) = t.val ∧ win0_9.index t (1 : Fin 2) = 0 :=
  (by decide +kernel : ∀ t : Fin grid0.N, _)

/-- What a point writes back is its block of the array. -/
theorem wrote9 (hA : Finite (argsAt m c)) (t : Fin cfg0.N) :
    (dats m 0 c).flushed 9 t = ((cfg0.win 9).blk t).view.read (Elt Ideal) (yArr (argsAt m c)) := by
  show (cfg0.win 9).cut (grid0.coords t) ((dats m 0 c).after 9 t) = _
  rw [after0_9]
  obtain ⟨-, e0, e1⟩ := at9 t
  funext y
  have hy0 : (y 0).val < 512 := (y 0).isLt
  have hy1 : (y 1).val < 1024 := (y 1).isLt
  have hb0 : (((cfg0.win 9).blk t).view.emb y 0).val = 512 * t.val + (y 0).val := by
    show win0_9.index t (0 : Fin 2) * 512 + 1 * (y 0).val = _; omega
  have hb1 : (((cfg0.win 9).blk t).view.emb y 1).val = (y 1).val := by
    show win0_9.index t (1 : Fin 2) * 1024 + 1 * (y 1).val = _; omega
  have hx : (cfg0.win 9).xinj (grid0.coords t) y = (ix2 (⟨(y 0).val, hy0⟩ : Fin 512) (⟨(y 1).val, hy1⟩ : Fin 1024) : S512x1024.Idx) := funext fun a => by
    match a with
    | ⟨0, _⟩ => rfl
    | ⟨1, _⟩ => rfl
  show (outsAt0 m c t.val t.isLt).1 ((cfg0.win 9).xinj (grid0.coords t) y) = yArr (argsAt m c) (((cfg0.win 9).blk t).view.emb y)
  rw [hx]
  refine (y_at m c hA t ⟨(y 0).val, hy0⟩ ⟨(y 1).val, hy1⟩).trans ?_
  unfold yArr
  rw [hb0, hb1]

/-- The blocks fill the array. -/
theorem fills9 (i : S32768x1024.Idx) : ∃ t : Fin cfg0.N, (cfg0.win 9).flush t = true ∧ i ∈ ((cfg0.win 9).blk t).view.set := by
  have h0 : (i 0).val < 32768 := (i 0).isLt
  have h1 : (i 1).val < 1024 := (i 1).isLt
  let t : Fin cfg0.N := ⟨(i 0).val / 512, lt_of_lt_of_eq (by omega) N_0.symm⟩
  obtain ⟨ef, e0, e1⟩ := at9 t
  have et : t.val = (i 0).val / 512 := rfl
  refine ⟨t, ef, ?_⟩
  show i ∈ ((View.whole main_v30_0).slice (win0_9.rect t)).set
  rw [View.set_slice_whole, Rect.mem_set_unit]
  intro a
  match a with
  | ⟨0, _⟩ => show win0_9.index t (0 : Fin 2) * 512 ≤ (i 0).val ∧ (i 0).val < win0_9.index t (0 : Fin 2) * 512 + 512; omega
  | ⟨1, _⟩ => show win0_9.index t (1 : Fin 2) * 1024 ≤ (i 1).val ∧ (i 1).val < win0_9.index t (1 : Fin 2) * 1024 + 1024; omega

/-- The array after the run. -/
theorem array9 (hA : Finite (argsAt m c)) : (dats m 0 c).arrAt 9 cfg0.N = yArr (argsAt m c) :=
  (dats m 0 c).arrAt_eq_of_cover 9 _ (fun t _ => wrote9 m c hA t) fills9

/-- The array of the convolved channels of `x`, by row and channel. -/
def xArr (A : Args) : Vec Ideal S32768x1024 .bf16 := fun i => Ssd.X A (i 0).val (i 1).val

/-- Block `t` of that array starts at row `512 t`, and every point writes its block back. -/
theorem at10 : ∀ t : Fin cfg0.N, (cfg0.win 10).flush t = true ∧ win0_10.index t (0 : Fin 2) = t.val ∧ win0_10.index t (1 : Fin 2) = 0 :=
  (by decide +kernel : ∀ t : Fin grid0.N, _)

/-- What a point writes back is its block of the array. -/
theorem wrote10 (t : Fin cfg0.N) :
    (dats m 0 c).flushed 10 t = ((cfg0.win 10).blk t).view.read (Elt Ideal) (xArr (argsAt m c)) := by
  show (cfg0.win 10).cut (grid0.coords t) ((dats m 0 c).after 10 t) = _
  rw [after0_10]
  obtain ⟨-, e0, e1⟩ := at10 t
  funext y
  have hy0 : (y 0).val < 512 := (y 0).isLt
  have hy1 : (y 1).val < 1024 := (y 1).isLt
  have hb0 : (((cfg0.win 10).blk t).view.emb y 0).val = 512 * t.val + (y 0).val := by
    show win0_10.index t (0 : Fin 2) * 512 + 1 * (y 0).val = _; omega
  have hb1 : (((cfg0.win 10).blk t).view.emb y 1).val = (y 1).val := by
    show win0_10.index t (1 : Fin 2) * 1024 + 1 * (y 1).val = _; omega
  have hx : (cfg0.win 10).xinj (grid0.coords t) y = (ix2 (⟨(y 0).val, hy0⟩ : Fin 512) (⟨(y 1).val, hy1⟩ : Fin 1024) : S512x1024.Idx) := funext fun a => by
    match a with
    | ⟨0, _⟩ => rfl
    | ⟨1, _⟩ => rfl
  show (outsAt0 m c t.val t.isLt).2.1 ((cfg0.win 10).xinj (grid0.coords t) y) = xArr (argsAt m c) (((cfg0.win 10).blk t).view.emb y)
  rw [hx]
  refine (x_at m c t ⟨(y 0).val, hy0⟩ ⟨(y 1).val, hy1⟩).trans ?_
  unfold xArr
  rw [hb0, hb1]

/-- The blocks fill the array. -/
theorem fills10 (i : S32768x1024.Idx) : ∃ t : Fin cfg0.N, (cfg0.win 10).flush t = true ∧ i ∈ ((cfg0.win 10).blk t).view.set := by
  have h0 : (i 0).val < 32768 := (i 0).isLt
  have h1 : (i 1).val < 1024 := (i 1).isLt
  let t : Fin cfg0.N := ⟨(i 0).val / 512, lt_of_lt_of_eq (by omega) N_0.symm⟩
  obtain ⟨ef, e0, e1⟩ := at10 t
  have et : t.val = (i 0).val / 512 := rfl
  refine ⟨t, ef, ?_⟩
  show i ∈ ((View.whole main_v30_1).slice (win0_10.rect t)).set
  rw [View.set_slice_whole, Rect.mem_set_unit]
  intro a
  match a with
  | ⟨0, _⟩ => show win0_10.index t (0 : Fin 2) * 512 ≤ (i 0).val ∧ (i 0).val < win0_10.index t (0 : Fin 2) * 512 + 512; omega
  | ⟨1, _⟩ => show win0_10.index t (1 : Fin 2) * 1024 ≤ (i 1).val ∧ (i 1).val < win0_10.index t (1 : Fin 2) * 1024 + 1024; omega

/-- The array after the run. -/
theorem array10 : (dats m 0 c).arrAt 10 cfg0.N = xArr (argsAt m c) :=
  (dats m 0 c).arrAt_eq_of_cover 10 _ (fun t _ => wrote10 m c t) fills10

/-- The array of the convolved channels of `B` and `C`, by row and channel. -/
def bcArr (A : Args) : Vec Ideal S32768x1024 .bf16 := fun i => Ssd.X A (i 0).val (1024 + (i 1).val)

/-- Block `t` of that array starts at row `512 t`, and every point writes its block back. -/
theorem at11 : ∀ t : Fin cfg0.N, (cfg0.win 11).flush t = true ∧ win0_11.index t (0 : Fin 2) = t.val ∧ win0_11.index t (1 : Fin 2) = 0 :=
  (by decide +kernel : ∀ t : Fin grid0.N, _)

/-- What a point writes back is its block of the array. -/
theorem wrote11 (t : Fin cfg0.N) :
    (dats m 0 c).flushed 11 t = ((cfg0.win 11).blk t).view.read (Elt Ideal) (bcArr (argsAt m c)) := by
  show (cfg0.win 11).cut (grid0.coords t) ((dats m 0 c).after 11 t) = _
  rw [after0_11]
  obtain ⟨-, e0, e1⟩ := at11 t
  funext y
  have hy0 : (y 0).val < 512 := (y 0).isLt
  have hy1 : (y 1).val < 1024 := (y 1).isLt
  have hb0 : (((cfg0.win 11).blk t).view.emb y 0).val = 512 * t.val + (y 0).val := by
    show win0_11.index t (0 : Fin 2) * 512 + 1 * (y 0).val = _; omega
  have hb1 : (((cfg0.win 11).blk t).view.emb y 1).val = (y 1).val := by
    show win0_11.index t (1 : Fin 2) * 1024 + 1 * (y 1).val = _; omega
  have hx : (cfg0.win 11).xinj (grid0.coords t) y = (ix2 (⟨(y 0).val, hy0⟩ : Fin 512) (⟨(y 1).val, hy1⟩ : Fin 1024) : S512x1024.Idx) := funext fun a => by
    match a with
    | ⟨0, _⟩ => rfl
    | ⟨1, _⟩ => rfl
  show (outsAt0 m c t.val t.isLt).2.2.1 ((cfg0.win 11).xinj (grid0.coords t) y) = bcArr (argsAt m c) (((cfg0.win 11).blk t).view.emb y)
  rw [hx]
  refine (bc_at m c t ⟨(y 0).val, hy0⟩ ⟨(y 1).val, hy1⟩).trans ?_
  unfold bcArr
  rw [hb0, hb1]

/-- The blocks fill the array. -/
theorem fills11 (i : S32768x1024.Idx) : ∃ t : Fin cfg0.N, (cfg0.win 11).flush t = true ∧ i ∈ ((cfg0.win 11).blk t).view.set := by
  have h0 : (i 0).val < 32768 := (i 0).isLt
  have h1 : (i 1).val < 1024 := (i 1).isLt
  let t : Fin cfg0.N := ⟨(i 0).val / 512, lt_of_lt_of_eq (by omega) N_0.symm⟩
  obtain ⟨ef, e0, e1⟩ := at11 t
  have et : t.val = (i 0).val / 512 := rfl
  refine ⟨t, ef, ?_⟩
  show i ∈ ((View.whole main_v30_2).slice (win0_11.rect t)).set
  rw [View.set_slice_whole, Rect.mem_set_unit]
  intro a
  match a with
  | ⟨0, _⟩ => show win0_11.index t (0 : Fin 2) * 512 ≤ (i 0).val ∧ (i 0).val < win0_11.index t (0 : Fin 2) * 512 + 512; omega
  | ⟨1, _⟩ => show win0_11.index t (1 : Fin 2) * 1024 ≤ (i 1).val ∧ (i 1).val < win0_11.index t (1 : Fin 2) * 1024 + 1024; omega

/-- The array after the run. -/
theorem array11 : (dats m 0 c).arrAt 11 cfg0.N = bcArr (argsAt m c) :=
  (dats m 0 c).arrAt_eq_of_cover 11 _ (fun t _ => wrote11 m c t) fills11

/-- The kernel's run: its outputs are the three arrays of the launched arguments, which it keeps. -/
theorem kernel_run (hA : ∀ c : Dev nD, Finite (argsAt m c)) :
    θ_run defs (onTc (τ := τ) (main (F := Ideal))) ⟨m, fun _ => 0, ρ⟩ fun r => ∀ c : Dev nD,
      r.2.mem ((c : Thread nD τ).loc main_v30_0) = yArr (argsAt m c)
      ∧ r.2.mem ((c : Thread nD τ).loc main_v30_1) = xArr (argsAt m c)
      ∧ r.2.mem ((c : Thread nD τ).loc main_v30_2) = bcArr (argsAt m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1 9).trans (array9 m c (hA c)), ((h c).1 10).trans (array10 m c), ((h c).1 11).trans (array11 m c),
    (((h c).1 2).trans (((dats m 0 c).arrAt_in 2 rfl _).trans ((A_eq m c 2).trans (V_main_arg0 m c)))),
    (((h c).1 3).trans (((dats m 0 c).arrAt_in 3 rfl _).trans ((A_eq m c 3).trans (V_main_arg1 m c)))),
    (((h c).2 main_arg2 (Pipeline.mem_restRefs_of main_arg2 (by decide) (by decide))).trans (V_main_arg2 m c)),
    (((h c).2 main_arg3 (Pipeline.mem_restRefs_of main_arg3 (by decide) (by decide))).trans (V_main_arg3 m c)),
    (((h c).2 main_arg4 (Pipeline.mem_restRefs_of main_arg4 (by decide) (by decide))).trans (V_main_arg4 m c)),
    (((h c).2 main_arg5 (Pipeline.mem_restRefs_of main_arg5 (by decide) (by decide))).trans (V_main_arg5 m c))⟩)
    (run_main m ρ)

end Cert.KernelIdeal.Val

end
-- ==== Proof.RefConv.lean ====
module

public import proofs.«01_k».proof.Proof.Gen.ReferenceIdeal.Run
public import proofs.«01_k».proof.Proof.Spec
public import Idealize.ShloMosaic.Lib.Pointwise
public import Idealize.ShloMosaic.Lib.StableHlo.RunRead
public import Idealize.ShloMosaic.Lib.ValueIdxRank6
public import Idealize.ShloMosaic.Lib.IdealHost

/-! # The reference's lines before its loop, one stretch at a time -/

@[expose] public section

set_option maxRecDepth 16384

noncomputable section

namespace Cert.ReferenceIdeal.Val

open Cert.ReferenceIdeal Cert.ReferenceIdeal.Gen Idealize.ShloMosaic Idealize.ShloMosaic.TcCoe Idealize.SL.Sem
open Idealize.ShloMosaic.StableHlo
open Cert.ReferenceIdeal.Facts Ssd

variable (W : Valuation τ sig (Elt Ideal)) (A : Args)

/-- The projection's first channels, by sequence. -/
theorem seq_at (h : ∀ (r : Fin 32768) (c : Fin 8192), (W (Proc.devRef .tc main_arg0) : Vec Ideal S32768x8192 .bf16) (ix2 r c) = A.pj r.val c.val) (b : Fin 8) (l : Fin 4096) (d : Fin 2048) :
    (after hostOps0 W (Proc.devRef .tc main_v2) : Vec Ideal S8x4096x2048 .f32) (ix3 b l d) = A.pj (4096 * b.val + l.val) d.val := by
  after_reads_simp
  try simp only [id]
  pointwise
  rw [h]
  exact congrArg₂ A.pj (by show b.val * 4096 + l.val = _; omega) rfl

/-- The padding value is zero. -/
theorem zero_at   :
    (after hostOps0 W (Proc.devRef .tc main_c) : Vec Ideal S_ .i32) = constantI S_ 32 0#32 := by
  after_reads_simp

/-- The sequences with two empty rows at either end. -/
theorem padded_at (hc : (W (Proc.devRef .tc main_c) : IVec S_ 32) = constantI S_ 32 0#32)
    (h : ∀ (b : Fin 8) (l : Fin 4096) (d : Fin 2048), (W (Proc.devRef .tc main_v2) : Vec Ideal S8x4096x2048 .f32) (ix3 b l d) = A.pj (4096 * b.val + l.val) d.val) (b : Fin 8) (l : Fin 4100) (d : Fin 2048) :
    (after hostOps0_1 W (Proc.devRef .tc main_v3) : Vec Ideal S8x4100x2048 .f32) (ix3 b l d) = if 2 ≤ l.val ∧ l.val < 4098 then A.pj (4096 * b.val + l.val - 2) d.val else 0 := by
  after_reads_simp
  simp only [TRef.toBuf, TRef.ofBuf, cast_cast, cast_eq]
  try simp only [id]
  pointwise
  by_cases hl : 2 ≤ l.val ∧ l.val < 4098
  · refine (dif_pos ⟨hl.1, by omega⟩).trans (Eq.trans ?_ (if_pos hl).symm)
    refine (h _ _ _).trans (congrArg₂ A.pj ?_ rfl)
    show 4096 * b.val + (l.val - 2) = _
    omega
  · refine (dif_neg (fun e => hl ⟨e.1, by omega⟩)).trans (Eq.trans ?_ (if_neg hl).symm)
    rw [hc]
    show (((0#32 : BitVec 32).toInt : ℝ) : EReal) = 0
    simp

/-- The convolution. -/
theorem conv_at (h : ∀ (b : Fin 8) (l : Fin 4100) (d : Fin 2048), (W (Proc.devRef .tc main_v3) : Vec Ideal S8x4100x2048 .f32) (ix3 b l d) = if 2 ≤ l.val ∧ l.val < 4098 then A.pj (4096 * b.val + l.val - 2) d.val else 0)
    (hw : ∀ (k : Fin 5) (d : Fin 2048), (W (Proc.devRef .tc main_arg2) : Vec Ideal S1x5x2048 .f32) (ix3 0 k d) = A.w k.val d.val)
    (hb : ∀ d : Fin 2048, (W (Proc.devRef .tc main_arg3) : Vec Ideal S1x2048 .f32) (ix2 0 d) = A.b d.val) (b : Fin 8) (l : Fin 4096) (d : Fin 2048) :
    (after hostOps0_2 W (Proc.devRef .tc main_v43) : Vec Ideal S8x4096x2048 .f32) (ix3 b l d) = conv A (4096 * b.val + l.val) d.val := by
  after_reads_simp
  try simp only [id]
  pointwise
  rw [h, h, h, h, h, hw, hw, hw, hw, hw, hb]
  have e : (4096 * b.val + l.val) % 4096 = l.val := by omega
  unfold conv tap
  rw [e]
  have t : ∀ k : ℕ, k < 5 → (if 2 ≤ k + l.val ∧ k + l.val < 4098 then A.pj (4096 * b.val + (k + l.val) - 2) d.val else 0) =
      if 2 ≤ l.val + k ∧ l.val + k < 4098 then A.pj (4096 * b.val + l.val + k - 2) d.val else 0 := fun k _ => by
    rw [Nat.add_comm k, ← Nat.add_assoc]
  have t0 := t 0 (by decide)
  rw [Nat.zero_add] at t0
  exact congrArg (· + A.b d.val) (congrArg₂ (· + ·) (congrArg₂ (· + ·) (congrArg₂ (· + ·) (congrArg₂ (· + ·) (congrArg (· * A.w 0 d.val) t0)
    (congrArg (· * A.w 1 d.val) (t 1 (by decide)))) (congrArg (· * A.w 2 d.val) (t 2 (by decide)))) (congrArg (· * A.w 3 d.val) (t 3 (by decide))))
    (congrArg (· * A.w 4 d.val) (t 4 (by decide))))

/-- The activated convolution. -/
theorem x_at (h : ∀ (b : Fin 8) (l : Fin 4096) (d : Fin 2048), (W (Proc.devRef .tc main_v43) : Vec Ideal S8x4096x2048 .f32) (ix3 b l d) = conv A (4096 * b.val + l.val) d.val) (b : Fin 8) (l : Fin 4096) (d : Fin 2048) :
    (after hostOps0_3 W (Proc.devRef .tc main_v44) : Vec Ideal S8x4096x2048 .f32) (ix3 b l d) = X A (4096 * b.val + l.val) d.val := by
  after_reads_simp
  simp only [TRef.toBuf, TRef.ofBuf, cast_cast, cast_eq]
  try simp only [id]
  pointwise
  rw [h]
  rfl

/-- The inputs by head. -/
theorem input_at (h : ∀ (b : Fin 8) (l : Fin 4096) (d : Fin 2048), (W (Proc.devRef .tc main_v44) : Vec Ideal S8x4096x2048 .f32) (ix3 b l d) = X A (4096 * b.val + l.val) d.val) (b : Fin 8) (l : Fin 4096) (g : Fin 4) (j : Fin 4) (p : Fin 64) :
    (after hostOps0_4 W (Proc.devRef .tc main_v48) : Vec Ideal S8x4096x4x4x64 .f32) (ix5 b l g j p) = X A (4096 * b.val + l.val) (64 * (4 * g.val + j.val) + p.val) := by
  after_reads_simp
  try simp only [id]
  pointwise
  rw [h]
  refine congrArg (X A _) ?_
  show g.val * 256 + j.val * 64 + p.val = _
  omega

/-- The input directions by group. -/
theorem inDir_at (h : ∀ (b : Fin 8) (l : Fin 4096) (d : Fin 2048), (W (Proc.devRef .tc main_v44) : Vec Ideal S8x4096x2048 .f32) (ix3 b l d) = X A (4096 * b.val + l.val) d.val) (b : Fin 8) (l : Fin 4096) (g : Fin 4) (n : Fin 128) :
    (after hostOps0_4 W (Proc.devRef .tc main_v49) : Vec Ideal S8x4096x4x128 .f32) (ix4 b l g n) = X A (4096 * b.val + l.val) (1024 + 128 * g.val + n.val) := by
  after_reads_simp
  try simp only [id]
  pointwise
  rw [h]
  refine congrArg (X A _) ?_
  show 1024 + (g.val * 128 + n.val) = _
  omega

/-- The output directions by group. -/
theorem outDir_at (h : ∀ (b : Fin 8) (l : Fin 4096) (d : Fin 2048), (W (Proc.devRef .tc main_v44) : Vec Ideal S8x4096x2048 .f32) (ix3 b l d) = X A (4096 * b.val + l.val) d.val) (b : Fin 8) (l : Fin 4096) (g : Fin 4) (n : Fin 128) :
    (after hostOps0_4 W (Proc.devRef .tc main_v50) : Vec Ideal S8x4096x4x128 .f32) (ix4 b l g n) = X A (4096 * b.val + l.val) (1536 + 128 * g.val + n.val) := by
  after_reads_simp
  try simp only [id]
  pointwise
  rw [h]
  refine congrArg (X A _) ?_
  show 1536 + (g.val * 128 + n.val) = _
  omega

/-- The raw step sizes with their bias. -/
theorem raw_at (hd : ∀ (r : Fin 32768) (c : Fin 128), (W (Proc.devRef .tc main_arg1) : Vec Ideal S32768x128 .f32) (ix2 r c) = A.dr r.val c.val)
    (hb : ∀ h : Fin 16, (W (Proc.devRef .tc main_arg4) : Vec Ideal S1x16 .f32) (ix2 0 h) = A.db h.val) (r : Fin 32768) (h : Fin 16) :
    (after hostOps0_4 W (Proc.devRef .tc main_v55) : Vec Ideal S32768x16 .f32) (ix2 r h) = A.dr r.val h.val + A.db h.val := by
  after_reads_simp
  try simp only [id]
  pointwise
  rw [hd, hb]

/-- The step sizes. -/
theorem dt_at (hd : ∀ (r : Fin 32768) (h : Fin 16), (W (Proc.devRef .tc main_v55) : Vec Ideal S32768x16 .f32) (ix2 r h) = A.dr r.val h.val + A.db h.val) (r : Fin 32768) (h : Fin 16) :
    (after hostOps0_5 W (Proc.devRef .tc main_v56) : Vec Ideal S32768x16 .f32) (ix2 r h) = dt A r.val h.val := by
  after_reads_simp
  simp only [TRef.toBuf, TRef.ofBuf, cast_cast, cast_eq]
  try simp only [id]
  pointwise
  rw [hd]
  refine (if_neg (fun e => e rfl)).trans ?_
  rfl

/-- The inputs times their step sizes, by chunk. -/
theorem xdt_at (hx : ∀ (b : Fin 8) (l : Fin 4096) (g j : Fin 4) (p : Fin 64), (W (Proc.devRef .tc main_v48) : Vec Ideal S8x4096x4x4x64 .f32) (ix5 b l g j p) = X A (4096 * b.val + l.val) (64 * (4 * g.val + j.val) + p.val))
    (hd : ∀ (r : Fin 32768) (h : Fin 16), (W (Proc.devRef .tc main_v56) : Vec Ideal S32768x16 .f32) (ix2 r h) = dt A r.val h.val) (b : Fin 8) (k : Fin 32) (l : Fin 128) (g : Fin 4) (j : Fin 4) (p : Fin 64) :
    (after hostOps0_6 W (Proc.devRef .tc main_v65) : Vec Ideal S8x32x128x4x4x64 .f32) (ix6 b k l g j p) = xdt A (128 * (32 * b.val + k.val) + l.val) (4 * g.val + j.val) p.val := by
  after_reads_simp
  try simp only [id]
  pointwise
  refine congrArg₂ (· * ·) ((hx _ _ _ _ _).trans ?_) ((hd _ _).trans ?_)
  · exact congrArg₂ (X A) (by show 4096 * b.val + (k.val * 128 + l.val) = _; omega) rfl
  · exact (congrArg₂ (dt A) (by show b.val * 4096 + (k.val * 128 + l.val) = _; omega) (by show g.val * 4 + j.val = _; omega))

/-- The input directions by chunk. -/
theorem inDirChunk_at (h : ∀ (b : Fin 8) (l : Fin 4096) (g : Fin 4) (n : Fin 128), (W (Proc.devRef .tc main_v49) : Vec Ideal S8x4096x4x128 .f32) (ix4 b l g n) = X A (4096 * b.val + l.val) (1024 + 128 * g.val + n.val)) (b : Fin 8) (k : Fin 32) (l : Fin 128) (g : Fin 4) (n : Fin 128) :
    (after hostOps0_6 W (Proc.devRef .tc main_v66) : Vec Ideal S8x32x128x4x128 .f32) (ix5 b k l g n) = X A (128 * (32 * b.val + k.val) + l.val) (1024 + 128 * g.val + n.val) := by
  after_reads_simp
  try simp only [id]
  pointwise
  rw [h]
  exact congrArg₂ (X A) (by show 4096 * b.val + (k.val * 128 + l.val) = _; omega) rfl

/-- The output directions by chunk. -/
theorem outDirChunk_at (h : ∀ (b : Fin 8) (l : Fin 4096) (g : Fin 4) (n : Fin 128), (W (Proc.devRef .tc main_v50) : Vec Ideal S8x4096x4x128 .f32) (ix4 b l g n) = X A (4096 * b.val + l.val) (1536 + 128 * g.val + n.val)) (b : Fin 8) (k : Fin 32) (l : Fin 128) (g : Fin 4) (n : Fin 128) :
    (after hostOps0_6 W (Proc.devRef .tc main_v67) : Vec Ideal S8x32x128x4x128 .f32) (ix5 b k l g n) = X A (128 * (32 * b.val + k.val) + l.val) (1536 + 128 * g.val + n.val) := by
  after_reads_simp
  try simp only [id]
  pointwise
  rw [h]
  exact congrArg₂ (X A) (by show 4096 * b.val + (k.val * 128 + l.val) = _; omega) rfl

/-- The log decays by chunk. -/
theorem da_at (hd : ∀ (r : Fin 32768) (h : Fin 16), (W (Proc.devRef .tc main_v56) : Vec Ideal S32768x16 .f32) (ix2 r h) = dt A r.val h.val) (ha : ∀ h : Fin 16, (W (Proc.devRef .tc main_arg5) : Vec Ideal S1x16 .f32) (ix2 0 h) = A.al h.val) (b : Fin 8) (k : Fin 32) (l : Fin 128) (g : Fin 4) (j : Fin 4) :
    (after hostOps0_6 W (Proc.devRef .tc main_v71) : Vec Ideal S8x32x128x4x4 .f32) (ix5 b k l g j) = da A (128 * (32 * b.val + k.val) + l.val) (4 * g.val + j.val) := by
  after_reads_simp
  try simp only [id]
  pointwise
  rw [hd, ha]
  exact congrArg₂ (· * ·) (congrArg₂ (dt A) (by show b.val * 4096 + (k.val * 128 + l.val) = _; omega) (by show g.val * 4 + j.val = _; omega))
    (congrArg (fun h => -(Ideal.exp (A.al h))) (by show g.val * 4 + j.val = _; omega))

end Cert.ReferenceIdeal.Val

end
-- ==== Proof.RefScan.lean ====
module

public import Idealize.ShloMosaic.Lib.WordCmp
public import proofs.«01_k».proof.Proof.RefConv
public import Idealize.ShloMosaic.Lib.Pointwise
public import Idealize.ShloMosaic.Lib.StableHlo.RunRead
public import Idealize.ShloMosaic.Lib.ValueIdxRank6
public import Idealize.ShloMosaic.Lib.IdealHost

/-! # The reference's chunks, up to its loop's entry -/

@[expose] public section

set_option maxRecDepth 16384

noncomputable section

namespace Cert.ReferenceIdeal.Val

open Cert.ReferenceIdeal Cert.ReferenceIdeal.Gen Idealize.ShloMosaic Idealize.ShloMosaic.TcCoe Idealize.SL.Sem
open Idealize.ShloMosaic.StableHlo
open Cert.ReferenceIdeal.Facts Ssd

/-- A fold of additions from zero is the sum. -/
theorem fold_sum {n : ℕ} (f : Fin n → EReal) : (List.finRange n).foldl (fun r a => r + f a) 0 = ∑ a, f a := by
  rw [Fin.sum_univ_def, List.sum_eq_foldl, List.foldl_map]

/-- A window of 128 padded 127 low, summed at place `l`: the elements up to `l`. -/
theorem window_sum (x : ℕ → EReal) (l : Fin 128) :
    (∑ q : Fin 128, if 127 ≤ l.val + q.val then x (l.val + q.val - 127) else 0) = ∑ s : Fin 128, if s.val ≤ l.val then x s.val else 0 := by
  refine Fintype.sum_equiv (Equiv.addRight (⟨(l.val + 1) % 128, Nat.mod_lt _ (by decide)⟩ : Fin 128)) _ _ fun q => ?_
  have e : ((Equiv.addRight (⟨(l.val + 1) % 128, Nat.mod_lt _ (by decide)⟩ : Fin 128)) q).val = (q.val + (l.val + 1) % 128) % 128 := rfl
  rw [e]
  have hl := l.isLt
  have hq := q.isLt
  by_cases h : 127 ≤ l.val + q.val
  · rw [if_pos h, show (q.val + (l.val + 1) % 128) % 128 = l.val + q.val - 127 by omega, if_pos (by omega)]
  · rw [if_neg h, if_neg (by omega)]

/-- A windowed sum from zero at one place, as a sum over the window's positions. -/
theorem windowed {s t u : Shape} (window strides lo hi : Fin s.rank → ℕ) (x : s.Idx → EReal) (z : u.Idx → EReal)
    (h : s.ReduceWindows window strides lo hi t) (hu : 0 < u.numel) (hz : z (Shape.Idx.first hu) = 0) (j : t.Idx) :
    Host.reduceWindowAdd (F := Ideal) (φ := .f32) window strides lo hi x z h hu j =
      ∑ w : (⟨s.rank, window⟩ : Shape).Idx, if hin : ∀ a, lo a ≤ (j (a.cast h.1.symm)).val * strides a + (w a).val ∧
        (j (a.cast h.1.symm)).val * strides a + (w a).val - lo a < s.size a then
        x (fun a => ⟨(j (a.cast h.1.symm)).val * strides a + (w a).val - lo a, (hin a).2⟩) else 0 := by
  refine Eq.trans ?_ ((fold_sum _).trans (Equiv.sum_comp (⟨s.rank, window⟩ : Shape).rowMajor.symm _))
  unfold Host.reduceWindowAdd
  rw [Ideal.hostReduceWindowAdd_def, hz]
  unfold Ideal.hostReduceWindowAdd Host.reduceWindow
  dsimp only
  refine congrArg (fun f => List.foldl f (0 : EReal) _) (funext fun r => funext fun n => congrArg (r + ·) ?_)
  by_cases hin : ∀ a, lo a ≤ (j (a.cast h.1.symm)).val * strides a + ((⟨s.rank, window⟩ : Shape).rowMajor.symm n a).val ∧
      (j (a.cast h.1.symm)).val * strides a + ((⟨s.rank, window⟩ : Shape).rowMajor.symm n a).val - lo a < s.size a
  · rw [dif_pos hin, dif_pos hin]
  · rw [dif_neg hin, dif_neg hin]

/-- The running sum over a chunk's rows. -/
theorem cumsum_at (x : FVec Ideal S8x32x128x4x4 .f32) (z : FVec Ideal S_ .f32) (hz : z (Shape.Idx.first h_S_) = 0) (b : Fin 8) (k : Fin 32) (l : Fin 128) (g j : Fin 4) :
    Host.reduceWindowAdd ![1, 1, 128, 1, 1] ![1, 1, 1, 1, 1] ![0, 0, 127, 0, 0] ![0, 0, 0, 0, 0] x z
      reduceWindows_S8x32x128x4x4_S8x32x128x4x4_w1s1p0_0_w1s1p0_0_w128s1p127_0_w1s1p0_0_w1s1p0_0 h_S_ (ix5 b k l g j) =
      ∑ s : Fin 128, if s.val ≤ l.val then x (ix5 b k s g j) else 0 := by
  refine (windowed _ _ _ _ x z _ h_S_ hz _).trans ?_
  refine (sum_idx5 (n0 := 1) (n1 := 1) (n2 := 128) (n3 := 1) (n4 := 1) _).trans ?_
  refine (Fin.sum_univ_one _).trans ((Fin.sum_univ_one _).trans ?_)
  let u : ℕ → EReal := fun s => if h : s < 128 then x (ix5 b k ⟨s, h⟩ g j) else 0
  have hu : ∀ s : Fin 128, u s.val = x (ix5 b k s g j) := fun s => dif_pos s.isLt
  refine Eq.trans (Finset.sum_congr rfl fun q _ => ?_) ((window_sum u l).trans (Finset.sum_congr rfl fun s _ => by rw [hu]))
  refine (Fin.sum_univ_one _).trans ((Fin.sum_univ_one _).trans ?_)
  have hl := l.isLt
  have hq := q.isLt
  by_cases h : 127 ≤ l.val + q.val
  · refine (dif_pos fun a => ?_).trans (Eq.trans ?_ (if_pos h).symm)
    · match a with
      | ⟨0, _⟩ => exact ⟨Nat.zero_le _, by show b.val * 1 + 0 - 0 < 8; omega⟩
      | ⟨1, _⟩ => exact ⟨Nat.zero_le _, by show k.val * 1 + 0 - 0 < 32; omega⟩
      | ⟨2, _⟩ => exact ⟨by show 127 ≤ l.val * 1 + q.val; omega, by show l.val * 1 + q.val - 127 < 128; omega⟩
      | ⟨3, _⟩ => exact ⟨Nat.zero_le _, by show g.val * 1 + 0 - 0 < 4; omega⟩
      | ⟨4, _⟩ => exact ⟨Nat.zero_le _, by show j.val * 1 + 0 - 0 < 4; omega⟩
    · refine Eq.trans (congrArg x (funext fun a => ?_)) (hu ⟨l.val + q.val - 127, by omega⟩).symm
      match a with
      | ⟨0, _⟩ => exact Fin.ext (by show b.val * 1 + 0 - 0 = b.val; omega)
      | ⟨1, _⟩ => exact Fin.ext (by show k.val * 1 + 0 - 0 = k.val; omega)
      | ⟨2, _⟩ => exact Fin.ext (by show l.val * 1 + q.val - 127 = l.val + q.val - 127; omega)
      | ⟨3, _⟩ => exact Fin.ext (by show g.val * 1 + 0 - 0 = g.val; omega)
      | ⟨4, _⟩ => exact Fin.ext (by show j.val * 1 + 0 - 0 = j.val; omega)
  · refine (dif_neg fun e => h ?_).trans (if_neg h).symm
    have e2 : 127 ≤ l.val * 1 + q.val := (e (2 : Fin 5)).1
    omega

variable (W : Valuation τ sig (Elt Ideal)) (A : Args)

/-- The running sums. -/
theorem cs_at (h : ∀ (b : Fin 8) (k : Fin 32) (l : Fin 128) (g j : Fin 4), (W (Proc.devRef .tc main_v71) : Vec Ideal S8x32x128x4x4 .f32) (ix5 b k l g j) = da A (128 * (32 * b.val + k.val) + l.val) (4 * g.val + j.val)) (b : Fin 8) (k : Fin 32) (l : Fin 128) (g : Fin 4) (j : Fin 4) :
    (after hostOps0_7 W (Proc.devRef .tc main_v72) : Vec Ideal S8x32x128x4x4 .f32) (ix5 b k l g j) = cs A (32 * b.val + k.val) l.val (4 * g.val + j.val) := by
  after_reads_simp
  simp only [TRef.toBuf, TRef.ofBuf, cast_cast, cast_eq]
  try simp only [id]
  pointwise
  refine (cumsum_at _ _ ?_ b k l g j).trans (Finset.sum_congr rfl fun s _ => ?_)
  · pointwise
  · rw [h]

/-- The running sums, rows last. -/
theorem csT_at (h : ∀ (b : Fin 8) (k : Fin 32) (l : Fin 128) (g j : Fin 4), (W (Proc.devRef .tc main_v72) : Vec Ideal S8x32x128x4x4 .f32) (ix5 b k l g j) = cs A (32 * b.val + k.val) l.val (4 * g.val + j.val)) (b : Fin 8) (k : Fin 32) (g : Fin 4) (j : Fin 4) (l : Fin 128) :
    (after hostOps0_8 W (Proc.devRef .tc main_v73) : Vec Ideal S8x32x4x4x128 .f32) (ix5 b k g j l) = cs A (32 * b.val + k.val) l.val (4 * g.val + j.val) := by
  after_reads_simp
  try simp only [id]
  pointwise
  exact h _ _ _ _ _

/-- The mask before it is cut. -/
theorem ones_at  (l : Fin 128) (s : Fin 128) :
    (after hostOps0_8 W (Proc.devRef .tc main_v74) : Vec Ideal S128x128 .i1) (ix2 l s) = 1#1 := by
  after_reads_simp
  rfl

/-- The lower triangle. -/
theorem tril_at (h : ∀ l s : Fin 128, (W (Proc.devRef .tc main_v74) : Vec Ideal S128x128 .i1) (ix2 l s) = 1#1) (l : Fin 128) (s : Fin 128) :
    (after hostOps0_9 W (Proc.devRef .tc main_v75) : Vec Ideal S128x128 .i1) (ix2 l s) = if s.val ≤ l.val then 1#1 else 0#1 := by
  after_reads_simp
  simp only [TRef.toBuf, TRef.ofBuf, cast_cast, cast_eq]
  try simp only [id]
  pointwise
  rw [show IntOp.addi (BitVec.ofNat 32 l.val) 0#32 = BitVec.ofNat 32 l.val from BitVec.add_zero _,
    WordCmp.cmpi_sge_ofNat (by have := l.isLt; omega) (by have := s.isLt; omega), h]
  by_cases e : s.val ≤ l.val
  · rw [if_pos e, decide_eq_true e]; rfl
  · rw [if_neg e, decide_eq_false e]; rfl

/-- The differences of running sums. -/
theorem diff_at (h : ∀ (b : Fin 8) (k : Fin 32) (g j : Fin 4) (l : Fin 128), (W (Proc.devRef .tc main_v73) : Vec Ideal S8x32x4x4x128 .f32) (ix5 b k g j l) = cs A (32 * b.val + k.val) l.val (4 * g.val + j.val)) (b : Fin 8) (k : Fin 32) (g : Fin 4) (j : Fin 4) (l : Fin 128) (s : Fin 128) :
    (after hostOps0_10 W (Proc.devRef .tc main_v80) : Vec Ideal S8x32x4x4x128x128 .f32) (ix6 b k g j l s) = cs A (32 * b.val + k.val) l.val (4 * g.val + j.val) - cs A (32 * b.val + k.val) s.val (4 * g.val + j.val) := by
  after_reads_simp
  try simp only [id]
  pointwise
  rw [h, h]

/-- The value above the diagonal. -/
theorem bot_at   :
    (after hostOps0_10 W (Proc.devRef .tc main_cst_1) : Vec Ideal S_ .f32) ix0 = (⊥ : EReal) := by
  after_reads_simp
  try simp only [id]
  pointwise
  exact bot_bits

/-- The differences, cut above the diagonal. -/
theorem cut_at (hm : ∀ l s : Fin 128, (W (Proc.devRef .tc main_v75) : Vec Ideal S128x128 .i1) (ix2 l s) = if s.val ≤ l.val then 1#1 else 0#1)
    (hd : ∀ (b : Fin 8) (k : Fin 32) (g j : Fin 4) (l s : Fin 128), (W (Proc.devRef .tc main_v80) : Vec Ideal S8x32x4x4x128x128 .f32) (ix6 b k g j l s) = cs A (32 * b.val + k.val) l.val (4 * g.val + j.val) - cs A (32 * b.val + k.val) s.val (4 * g.val + j.val))
    (hb : (W (Proc.devRef .tc main_cst_1) : Vec Ideal S_ .f32) ix0 = (⊥ : EReal)) (b : Fin 8) (k : Fin 32) (g : Fin 4) (j : Fin 4) (l : Fin 128) (s : Fin 128) :
    (after hostOps0_11 W (Proc.devRef .tc main_v81) : Vec Ideal S8x32x4x4x128x128 .f32) (ix6 b k g j l s) = if s.val ≤ l.val then cs A (32 * b.val + k.val) l.val (4 * g.val + j.val) - cs A (32 * b.val + k.val) s.val (4 * g.val + j.val) else ⊥ := by
  after_reads_simp
  simp only [TRef.toBuf, TRef.ofBuf, cast_cast, cast_eq]
  try simp only [id]
  pointwise
  rw [hm, hd, hb]
  by_cases e : s.val ≤ l.val
  · rw [if_pos e, if_pos e]; rfl
  · rw [if_neg e, if_neg e]; rfl

/-- What a chunk adds to the state. -/
theorem gain_at (h : ∀ (b : Fin 8) (k : Fin 32) (l : Fin 128) (g j : Fin 4), (W (Proc.devRef .tc main_v72) : Vec Ideal S8x32x128x4x4 .f32) (ix5 b k l g j) = cs A (32 * b.val + k.val) l.val (4 * g.val + j.val))
    (hi : ∀ (b : Fin 8) (k : Fin 32) (l : Fin 128) (g : Fin 4) (n : Fin 128), (W (Proc.devRef .tc main_v66) : Vec Ideal S8x32x128x4x128 .f32) (ix5 b k l g n) = X A (128 * (32 * b.val + k.val) + l.val) (1024 + 128 * g.val + n.val))
    (hx : ∀ (b : Fin 8) (k : Fin 32) (l : Fin 128) (g j : Fin 4) (p : Fin 64), (W (Proc.devRef .tc main_v65) : Vec Ideal S8x32x128x4x4x64 .f32) (ix6 b k l g j p) = xdt A (128 * (32 * b.val + k.val) + l.val) (4 * g.val + j.val) p.val) (k : Fin 32) (b : Fin 8) (g : Fin 4) (n : Fin 128) (j : Fin 4) (p : Fin 64) :
    (after hostOps0_12 W (Proc.devRef .tc main_v107_0) : Vec Ideal S32x8x4x128x4x64 .f32) (ix6 k b g n j p) = gain A (32 * b.val + k.val) n.val (4 * g.val + j.val) p.val := by
  after_reads_simp
  try simp only [id]
  pointwise
  have eg : (4 * g.val + j.val) / 4 = g.val := by omega
  unfold gain
  rw [eg]
  refine Finset.sum_congr (M := EReal) rfl fun s _ => ?_
  exact congrArg₂ (· * ·) (hi _ _ _ _ _) (congrArg₂ (· * ·) (congrArg Ideal.exp (congrArg₂ (· - ·) (h _ _ _ _ _) (h _ _ _ _ _))) (hx _ _ _ _ _ _))

/-- A chunk's whole decay. -/
theorem decay_at (h : ∀ (b : Fin 8) (k : Fin 32) (l : Fin 128) (g j : Fin 4), (W (Proc.devRef .tc main_v72) : Vec Ideal S8x32x128x4x4 .f32) (ix5 b k l g j) = cs A (32 * b.val + k.val) l.val (4 * g.val + j.val)) (k : Fin 32) (b : Fin 8) (g : Fin 4) (j : Fin 4) :
    (after hostOps0_12 W (Proc.devRef .tc main_v107_1) : Vec Ideal S32x8x4x4 .f32) (ix4 k b g j) = Ideal.exp (cs A (32 * b.val + k.val) 127 (4 * g.val + j.val)) := by
  after_reads_simp
  try simp only [id]
  pointwise
  exact congrArg Ideal.exp (h _ _ _ _ _)

/-- The output directions, chunks first. -/
theorem dir_at (ho : ∀ (b : Fin 8) (k : Fin 32) (l : Fin 128) (g : Fin 4) (n : Fin 128), (W (Proc.devRef .tc main_v67) : Vec Ideal S8x32x128x4x128 .f32) (ix5 b k l g n) = X A (128 * (32 * b.val + k.val) + l.val) (1536 + 128 * g.val + n.val)) (k : Fin 32) (b : Fin 8) (l : Fin 128) (g : Fin 4) (n : Fin 128) :
    (after hostOps0_12 W (Proc.devRef .tc main_v107_2) : Vec Ideal S32x8x128x4x128 .f32) (ix5 k b l g n) = X A (128 * (32 * b.val + k.val) + l.val) (1536 + 128 * g.val + n.val) := by
  after_reads_simp
  try simp only [id]
  pointwise
  exact ho _ _ _ _ _

/-- The decays from a chunk's start, chunks first. -/
theorem from_at (h : ∀ (b : Fin 8) (k : Fin 32) (l : Fin 128) (g j : Fin 4), (W (Proc.devRef .tc main_v72) : Vec Ideal S8x32x128x4x4 .f32) (ix5 b k l g j) = cs A (32 * b.val + k.val) l.val (4 * g.val + j.val)) (k : Fin 32) (b : Fin 8) (l : Fin 128) (g : Fin 4) (j : Fin 4) :
    (after hostOps0_12 W (Proc.devRef .tc main_v107_3) : Vec Ideal S32x8x128x4x4 .f32) (ix5 k b l g j) = Ideal.exp (cs A (32 * b.val + k.val) l.val (4 * g.val + j.val)) := by
  after_reads_simp
  try simp only [id]
  pointwise
  exact congrArg Ideal.exp (h _ _ _ _ _)

/-- What a chunk's own rows give, chunks first. -/
theorem own_at (hi : ∀ (b : Fin 8) (k : Fin 32) (l : Fin 128) (g : Fin 4) (n : Fin 128), (W (Proc.devRef .tc main_v66) : Vec Ideal S8x32x128x4x128 .f32) (ix5 b k l g n) = X A (128 * (32 * b.val + k.val) + l.val) (1024 + 128 * g.val + n.val))
    (ho : ∀ (b : Fin 8) (k : Fin 32) (l : Fin 128) (g : Fin 4) (n : Fin 128), (W (Proc.devRef .tc main_v67) : Vec Ideal S8x32x128x4x128 .f32) (ix5 b k l g n) = X A (128 * (32 * b.val + k.val) + l.val) (1536 + 128 * g.val + n.val))
    (hx : ∀ (b : Fin 8) (k : Fin 32) (l : Fin 128) (g j : Fin 4) (p : Fin 64), (W (Proc.devRef .tc main_v65) : Vec Ideal S8x32x128x4x4x64 .f32) (ix6 b k l g j p) = xdt A (128 * (32 * b.val + k.val) + l.val) (4 * g.val + j.val) p.val)
    (hd : ∀ (b : Fin 8) (k : Fin 32) (g j : Fin 4) (l s : Fin 128), (W (Proc.devRef .tc main_v81) : Vec Ideal S8x32x4x4x128x128 .f32) (ix6 b k g j l s) = if s.val ≤ l.val then cs A (32 * b.val + k.val) l.val (4 * g.val + j.val) - cs A (32 * b.val + k.val) s.val (4 * g.val + j.val) else ⊥) (k : Fin 32) (b : Fin 8) (g : Fin 4) (j : Fin 4) (l : Fin 128) (p : Fin 64) :
    (after hostOps0_12 W (Proc.devRef .tc main_v107_4) : Vec Ideal S32x8x4x4x128x64 .f32) (ix6 k b g j l p) = yDiag A (32 * b.val + k.val) l.val (4 * g.val + j.val) p.val := by
  after_reads_simp
  try simp only [id]
  pointwise
  have eg : (4 * g.val + j.val) / 4 = g.val := by omega
  unfold yDiag
  rw [eg]
  refine Finset.sum_congr (M := EReal) rfl fun s _ => ?_
  exact congrArg₂ (· * ·) (congrArg₂ (· * ·) (Finset.sum_congr rfl fun n _ => congrArg₂ (· * ·) (ho _ _ _ _ _) (hi _ _ _ _ _))
    (congrArg Ideal.exp (hd _ _ _ _ _ _))) (hx _ _ _ _ _ _)

/-- The loop's counter at its entry. -/
theorem start_at   :
    (after hostOps0_12 W (Proc.devRef .tc main_v107_5) : Vec Ideal S_ .i32) = constantI S_ 32 0#32 := by
  after_reads_simp
  rfl

/-- The state at the loop's entry. -/
theorem empty_at  (b : Fin 8) (g : Fin 4) (n : Fin 128) (j : Fin 4) (p : Fin 64) :
    (after hostOps0_12 W (Proc.devRef .tc main_v107_6) : Vec Ideal S8x4x128x4x64 .f32) (ix5 b g n j p) = (0 : EReal) := by
  after_reads_simp
  try simp only [id]
  pointwise

end Cert.ReferenceIdeal.Val

end
-- ==== Proof.RefStep.lean ====
module

public import Idealize.ShloMosaic.Lib.DynamicIndex
public import proofs.«01_k».proof.Proof.RefScan
public import Idealize.ShloMosaic.Lib.Pointwise
public import Idealize.ShloMosaic.Lib.StableHlo.RunRead
public import Idealize.ShloMosaic.Lib.ValueIdxRank6
public import Idealize.ShloMosaic.Lib.IdealHost

/-! # One turn of the reference's loop -/

@[expose] public section

set_option maxRecDepth 16384

noncomputable section

namespace Cert.ReferenceIdeal.Val

open Cert.ReferenceIdeal Cert.ReferenceIdeal.Gen Cert.ReferenceIdeal.Value Idealize.ShloMosaic Idealize.ShloMosaic.TcCoe Idealize.SL.Sem
open Idealize.ShloMosaic.StableHlo
open Cert.ReferenceIdeal.Facts Ssd

/-- The counter's word read back. -/
theorem counter (k : ℕ) (hk : k < 32) : (BitVec.ofNat 32 k).toInt = (k : Int) := toInt_ofNat_of_lt (by omega)

/-- The starts of a cut of one chunk from an array of 4 axes. -/
theorem starts4 (k : ℕ) (hk : k < 32) : ∀ a : Fin 4, (fun a => (((![fun _ => BitVec.ofNat 32 k, constantI S_ 32 0#32, constantI S_ 32 0#32, constantI S_ 32 0#32] : Fin 4 → (⟨S_, .i32⟩ : BufTy).Contents (Elt Ideal))) a (Shape.Idx.first h_S_)).toInt) a = ((![k, 0, 0, 0] : Fin 4 → ℕ) a : Int) := fun a => by
  match a with
  | ⟨0, _⟩ => exact counter k hk
  | ⟨1, _⟩ => rfl
  | ⟨2, _⟩ => rfl
  | ⟨3, _⟩ => rfl

/-- The starts of a cut of one chunk from an array of 5 axes. -/
theorem starts5 (k : ℕ) (hk : k < 32) : ∀ a : Fin 5, (fun a => (((![fun _ => BitVec.ofNat 32 k, constantI S_ 32 0#32, constantI S_ 32 0#32, constantI S_ 32 0#32, constantI S_ 32 0#32] : Fin 5 → (⟨S_, .i32⟩ : BufTy).Contents (Elt Ideal))) a (Shape.Idx.first h_S_)).toInt) a = ((![k, 0, 0, 0, 0] : Fin 5 → ℕ) a : Int) := fun a => by
  match a with
  | ⟨0, _⟩ => exact counter k hk
  | ⟨1, _⟩ => rfl
  | ⟨2, _⟩ => rfl
  | ⟨3, _⟩ => rfl
  | ⟨4, _⟩ => rfl

/-- The starts of a cut of one chunk from an array of 6 axes. -/
theorem starts6 (k : ℕ) (hk : k < 32) : ∀ a : Fin 6, (fun a => (((![fun _ => BitVec.ofNat 32 k, constantI S_ 32 0#32, constantI S_ 32 0#32, constantI S_ 32 0#32, constantI S_ 32 0#32, constantI S_ 32 0#32] : Fin 6 → (⟨S_, .i32⟩ : BufTy).Contents (Elt Ideal))) a (Shape.Idx.first h_S_)).toInt) a = ((![k, 0, 0, 0, 0, 0] : Fin 6 → ℕ) a : Int) := fun a => by
  match a with
  | ⟨0, _⟩ => exact counter k hk
  | ⟨1, _⟩ => rfl
  | ⟨2, _⟩ => rfl
  | ⟨3, _⟩ => rfl
  | ⟨4, _⟩ => rfl
  | ⟨5, _⟩ => rfl

/-- One chunk cut from the array of rank 6 that holds chunks of S8x4x128x4x64. -/
theorem gain_cut (x : Vec Ideal S32x8x4x128x4x64 .f32) (k : Fin 32) (b : Fin 8) (g : Fin 4) (n : Fin 128) (j : Fin 4) (p : Fin 64) :
    shapeCast S8x4x128x4x64 (Host.dynamicSlice S1x8x4x128x4x64 x (fun a => (((![fun _ => BitVec.ofNat 32 k.val, constantI S_ 32 0#32, constantI S_ 32 0#32, constantI S_ 32 0#32, constantI S_ 32 0#32, constantI S_ 32 0#32] : Fin 6 → (⟨S_, .i32⟩ : BufTy).Contents (Elt Ideal))) a (Shape.Idx.first h_S_)).toInt) sliceFits_S32x8x4x128x4x64_S1x8x4x128x4x64) shapeCasts_S1x8x4x128x4x64_S8x4x128x4x64 (ix5 b g n j p) = x (ix6 k b g n j p) := by
  have hs : (S32x8x4x128x4x64).Slices ![k.val, 0, 0, 0, 0, 0] S1x8x4x128x4x64 := ⟨rfl, fun a => by
    match a with
    | ⟨0, _⟩ => exact (show k.val + 1 ≤ 32 by have := k.isLt; omega)
    | ⟨1, _⟩ => exact (show 0 + 8 ≤ 8 by omega)
    | ⟨2, _⟩ => exact (show 0 + 4 ≤ 4 by omega)
    | ⟨3, _⟩ => exact (show 0 + 128 ≤ 128 by omega)
    | ⟨4, _⟩ => exact (show 0 + 4 ≤ 4 by omega)
    | ⟨5, _⟩ => exact (show 0 + 64 ≤ 64 by omega)⟩
  rw [Host.dynamicSlice_eq_extractStridedSlice S1x8x4x128x4x64 x _ ![k.val, 0, 0, 0, 0, 0] _ hs (starts6 k.val k.isLt)]
  pointwise

/-- One chunk cut from the array of rank 4 that holds chunks of S8x4x4. -/
theorem decay_cut (x : Vec Ideal S32x8x4x4 .f32) (k : Fin 32) (b : Fin 8) (g : Fin 4) (j : Fin 4) :
    shapeCast S8x4x4 (Host.dynamicSlice S1x8x4x4 x (fun a => (((![fun _ => BitVec.ofNat 32 k.val, constantI S_ 32 0#32, constantI S_ 32 0#32, constantI S_ 32 0#32] : Fin 4 → (⟨S_, .i32⟩ : BufTy).Contents (Elt Ideal))) a (Shape.Idx.first h_S_)).toInt) sliceFits_S32x8x4x4_S1x8x4x4) shapeCasts_S1x8x4x4_S8x4x4 (ix3 b g j) = x (ix4 k b g j) := by
  have hs : (S32x8x4x4).Slices ![k.val, 0, 0, 0] S1x8x4x4 := ⟨rfl, fun a => by
    match a with
    | ⟨0, _⟩ => exact (show k.val + 1 ≤ 32 by have := k.isLt; omega)
    | ⟨1, _⟩ => exact (show 0 + 8 ≤ 8 by omega)
    | ⟨2, _⟩ => exact (show 0 + 4 ≤ 4 by omega)
    | ⟨3, _⟩ => exact (show 0 + 4 ≤ 4 by omega)⟩
  rw [Host.dynamicSlice_eq_extractStridedSlice S1x8x4x4 x _ ![k.val, 0, 0, 0] _ hs (starts4 k.val k.isLt)]
  pointwise

/-- One chunk cut from the array of rank 5 that holds chunks of S8x128x4x128. -/
theorem dir_cut (x : Vec Ideal S32x8x128x4x128 .f32) (k : Fin 32) (b : Fin 8) (l : Fin 128) (g : Fin 4) (n : Fin 128) :
    shapeCast S8x128x4x128 (Host.dynamicSlice S1x8x128x4x128 x (fun a => (((![fun _ => BitVec.ofNat 32 k.val, constantI S_ 32 0#32, constantI S_ 32 0#32, constantI S_ 32 0#32, constantI S_ 32 0#32] : Fin 5 → (⟨S_, .i32⟩ : BufTy).Contents (Elt Ideal))) a (Shape.Idx.first h_S_)).toInt) sliceFits_S32x8x128x4x128_S1x8x128x4x128) shapeCasts_S1x8x128x4x128_S8x128x4x128 (ix4 b l g n) = x (ix5 k b l g n) := by
  have hs : (S32x8x128x4x128).Slices ![k.val, 0, 0, 0, 0] S1x8x128x4x128 := ⟨rfl, fun a => by
    match a with
    | ⟨0, _⟩ => exact (show k.val + 1 ≤ 32 by have := k.isLt; omega)
    | ⟨1, _⟩ => exact (show 0 + 8 ≤ 8 by omega)
    | ⟨2, _⟩ => exact (show 0 + 128 ≤ 128 by omega)
    | ⟨3, _⟩ => exact (show 0 + 4 ≤ 4 by omega)
    | ⟨4, _⟩ => exact (show 0 + 128 ≤ 128 by omega)⟩
  rw [Host.dynamicSlice_eq_extractStridedSlice S1x8x128x4x128 x _ ![k.val, 0, 0, 0, 0] _ hs (starts5 k.val k.isLt)]
  pointwise

/-- One chunk cut from the array of rank 5 that holds chunks of S8x128x4x4. -/
theorem from_cut (x : Vec Ideal S32x8x128x4x4 .f32) (k : Fin 32) (b : Fin 8) (l : Fin 128) (g : Fin 4) (j : Fin 4) :
    shapeCast S8x128x4x4 (Host.dynamicSlice S1x8x128x4x4 x (fun a => (((![fun _ => BitVec.ofNat 32 k.val, constantI S_ 32 0#32, constantI S_ 32 0#32, constantI S_ 32 0#32, constantI S_ 32 0#32] : Fin 5 → (⟨S_, .i32⟩ : BufTy).Contents (Elt Ideal))) a (Shape.Idx.first h_S_)).toInt) sliceFits_S32x8x128x4x4_S1x8x128x4x4) shapeCasts_S1x8x128x4x4_S8x128x4x4 (ix4 b l g j) = x (ix5 k b l g j) := by
  have hs : (S32x8x128x4x4).Slices ![k.val, 0, 0, 0, 0] S1x8x128x4x4 := ⟨rfl, fun a => by
    match a with
    | ⟨0, _⟩ => exact (show k.val + 1 ≤ 32 by have := k.isLt; omega)
    | ⟨1, _⟩ => exact (show 0 + 8 ≤ 8 by omega)
    | ⟨2, _⟩ => exact (show 0 + 128 ≤ 128 by omega)
    | ⟨3, _⟩ => exact (show 0 + 4 ≤ 4 by omega)
    | ⟨4, _⟩ => exact (show 0 + 4 ≤ 4 by omega)⟩
  rw [Host.dynamicSlice_eq_extractStridedSlice S1x8x128x4x4 x _ ![k.val, 0, 0, 0, 0] _ hs (starts5 k.val k.isLt)]
  pointwise

/-- One chunk cut from the array of rank 6 that holds chunks of S8x4x4x128x64. -/
theorem own_cut (x : Vec Ideal S32x8x4x4x128x64 .f32) (k : Fin 32) (b : Fin 8) (g : Fin 4) (j : Fin 4) (l : Fin 128) (p : Fin 64) :
    shapeCast S8x4x4x128x64 (Host.dynamicSlice S1x8x4x4x128x64 x (fun a => (((![fun _ => BitVec.ofNat 32 k.val, constantI S_ 32 0#32, constantI S_ 32 0#32, constantI S_ 32 0#32, constantI S_ 32 0#32, constantI S_ 32 0#32] : Fin 6 → (⟨S_, .i32⟩ : BufTy).Contents (Elt Ideal))) a (Shape.Idx.first h_S_)).toInt) sliceFits_S32x8x4x4x128x64_S1x8x4x4x128x64) shapeCasts_S1x8x4x4x128x64_S8x4x4x128x64 (ix5 b g j l p) = x (ix6 k b g j l p) := by
  have hs : (S32x8x4x4x128x64).Slices ![k.val, 0, 0, 0, 0, 0] S1x8x4x4x128x64 := ⟨rfl, fun a => by
    match a with
    | ⟨0, _⟩ => exact (show k.val + 1 ≤ 32 by have := k.isLt; omega)
    | ⟨1, _⟩ => exact (show 0 + 8 ≤ 8 by omega)
    | ⟨2, _⟩ => exact (show 0 + 4 ≤ 4 by omega)
    | ⟨3, _⟩ => exact (show 0 + 4 ≤ 4 by omega)
    | ⟨4, _⟩ => exact (show 0 + 128 ≤ 128 by omega)
    | ⟨5, _⟩ => exact (show 0 + 64 ≤ 64 by omega)⟩
  rw [Host.dynamicSlice_eq_extractStridedSlice S1x8x4x4x128x64 x _ ![k.val, 0, 0, 0, 0, 0] _ hs (starts6 k.val k.isLt)]
  pointwise

/-- One chunk written into the array of chunks. -/
theorem put_at (x : Vec Ideal S32x8x128x4x4x64 .f32) (u : Vec Ideal S1x8x128x4x4x64 .f32) (k : ℕ) (hk : k < 32) (k' : Fin 32) (b : Fin 8) (l : Fin 128) (g j : Fin 4) (p : Fin 64) :
    Host.dynamicUpdateSlice x u (fun a => (((![fun _ => BitVec.ofNat 32 k, constantI S_ 32 0#32, constantI S_ 32 0#32, constantI S_ 32 0#32, constantI S_ 32 0#32, constantI S_ 32 0#32] : Fin 6 → (⟨S_, .i32⟩ : BufTy).Contents (Elt Ideal))) a (Shape.Idx.first h_S_)).toInt) updateFits_S32x8x128x4x4x64_S1x8x128x4x4x64 (ix6 k' b l g j p) =
      if k'.val = k then u (ix6 0 b l g j p) else x (ix6 k' b l g j p) := by
  have hs : S32x8x128x4x4x64.Slices ![k, 0, 0, 0, 0, 0] S1x8x128x4x4x64 := ⟨rfl, fun a => by
    match a with
    | ⟨0, _⟩ => exact (show k + 1 ≤ 32 by omega)
    | ⟨1, _⟩ => exact (show 0 + 8 ≤ 8 by omega)
    | ⟨2, _⟩ => exact (show 0 + 128 ≤ 128 by omega)
    | ⟨3, _⟩ => exact (show 0 + 4 ≤ 4 by omega)
    | ⟨4, _⟩ => exact (show 0 + 4 ≤ 4 by omega)
    | ⟨5, _⟩ => exact (show 0 + 64 ≤ 64 by omega)⟩
  rw [WordCmp.dynamicUpdateSlice_eq_update x u _ _ ![k, 0, 0, 0, 0, 0] hs (starts6 k hk)]
  unfold updateSlice
  by_cases h : k'.val = k
  · refine (dif_pos fun a => ?_).trans (Eq.trans (congrArg u (funext fun a => ?_)) (if_pos h).symm)
    · match a with
      | ⟨0, _⟩ => exact (show k ≤ k'.val ∧ k'.val < k + 1 by omega)
      | ⟨1, _⟩ => exact (show 0 ≤ b.val ∧ b.val < 0 + 8 by omega)
      | ⟨2, _⟩ => exact (show 0 ≤ l.val ∧ l.val < 0 + 128 by omega)
      | ⟨3, _⟩ => exact (show 0 ≤ g.val ∧ g.val < 0 + 4 by omega)
      | ⟨4, _⟩ => exact (show 0 ≤ j.val ∧ j.val < 0 + 4 by omega)
      | ⟨5, _⟩ => exact (show 0 ≤ p.val ∧ p.val < 0 + 64 by omega)
    · match a with
      | ⟨0, _⟩ => exact Fin.ext (show k'.val - k = 0 by omega)
      | ⟨1, _⟩ => exact Fin.ext (Nat.sub_zero _)
      | ⟨2, _⟩ => exact Fin.ext (Nat.sub_zero _)
      | ⟨3, _⟩ => exact Fin.ext (Nat.sub_zero _)
      | ⟨4, _⟩ => exact Fin.ext (Nat.sub_zero _)
      | ⟨5, _⟩ => exact Fin.ext (Nat.sub_zero _)
  · refine (dif_neg fun c => h ?_).trans (if_neg h).symm
    have c1 : k ≤ k'.val ∧ k'.val < k + 1 := c (0 : Fin 6)
    omega

variable (V : Valuation τ sig (Elt Ideal)) (A : Args)

/-- What the loop's buffers hold before turn `k`. -/
structure Inv (k : ℕ) : Prop where
  gains : ∀ (i : Fin 32) (b : Fin 8) (g : Fin 4) (n : Fin 128) (j : Fin 4) (p : Fin 64), (V (Proc.devRef .tc main_v107_0) : Vec Ideal S32x8x4x128x4x64 .f32) (ix6 i b g n j p) = gain A (32 * b.val + i.val) n.val (4 * g.val + j.val) p.val
  decays : ∀ (i : Fin 32) (b : Fin 8) (g j : Fin 4), (V (Proc.devRef .tc main_v107_1) : Vec Ideal S32x8x4x4 .f32) (ix4 i b g j) = Ideal.exp (cs A (32 * b.val + i.val) 127 (4 * g.val + j.val))
  dirs : ∀ (i : Fin 32) (b : Fin 8) (l : Fin 128) (g : Fin 4) (n : Fin 128), (V (Proc.devRef .tc main_v107_2) : Vec Ideal S32x8x128x4x128 .f32) (ix5 i b l g n) = X A (128 * (32 * b.val + i.val) + l.val) (1536 + 128 * g.val + n.val)
  froms : ∀ (i : Fin 32) (b : Fin 8) (l : Fin 128) (g j : Fin 4), (V (Proc.devRef .tc main_v107_3) : Vec Ideal S32x8x128x4x4 .f32) (ix5 i b l g j) = Ideal.exp (cs A (32 * b.val + i.val) l.val (4 * g.val + j.val))
  owns : ∀ (i : Fin 32) (b : Fin 8) (g j : Fin 4) (l : Fin 128) (p : Fin 64), (V (Proc.devRef .tc main_v107_4) : Vec Ideal S32x8x4x4x128x64 .f32) (ix6 i b g j l p) = yDiag A (32 * b.val + i.val) l.val (4 * g.val + j.val) p.val
  count : (V (Proc.devRef .tc main_v107_5) : Vec Ideal S_ .i32) = fun _ => BitVec.ofNat 32 k
  states : ∀ (b : Fin 8) (g : Fin 4) (n : Fin 128) (j : Fin 4) (p : Fin 64), (V (Proc.devRef .tc main_v107_6) : Vec Ideal S8x4x128x4x64 .f32) (ix5 b g n j p) = state A b.val n.val (4 * g.val + j.val) p.val k
  done : ∀ (i : Fin 32) (b : Fin 8) (l : Fin 128) (g j : Fin 4) (p : Fin 64), i.val < k → (V (Proc.devRef .tc main_v107_7) : Vec Ideal S32x8x128x4x4x64 .f32) (ix6 i b l g j p) = Y A b.val i.val l.val (4 * g.val + j.val) p.val

/-- A turn's sum over generic cuts. -/
theorem turn_at (own : Vec Ideal S8x4x4x128x64 .f32) (dir : Vec Ideal S8x128x4x128 .f32) (st : Vec Ideal S8x4x128x4x64 .f32) (fr : Vec Ideal S8x128x4x4 .f32)
    (b : Fin 8) (l : Fin 128) (g j : Fin 4) (p : Fin 64) :
    (broadcastInDim S1x8x128x4x4x64 ![1, 2, 3, 4, 5] bcast_S8x128x4x4x64_S1x8x128x4x4x64_1_2_3_4_5 (addf (transpose S8x128x4x4x64 [0, 3, 1, 2, 4] own transposes_S8x4x4x128x64_S8x128x4x4x64_0_3_1_2_4)
      (transpose S8x128x4x4x64 [0, 2, 1, 3, 4] (mulf (Host.dotGeneral dot_S8x128x4x128_S8x4x128x4x64_S8x4x128x4x64_3_2_1_34_02_01 none (φ₁ := .f32) (φ₂ := .f32) dir st)
        (broadcastInDim S8x4x128x4x64 ![0, 1, 2, 3, 4] bcast_S8x4x128x4x1_S8x4x128x4x64_0_1_2_3_4 (broadcastInDim S8x4x128x4x1 ![0, 1, 2, 3] bcast_S8x4x128x4_S8x4x128x4x1_0_1_2_3
          (transpose S8x4x128x4 [0, 2, 1, 3] fr transposes_S8x128x4x4_S8x4x128x4_0_2_1_3)))) transposes_S8x4x128x4x64_S8x128x4x4x64_0_2_1_3_4)) : FVec Ideal S1x8x128x4x4x64 .f32) (ix6 0 b l g j p) =
      (own (ix5 b g j l p) + (∑ n : Fin 128, dir (ix4 b l g n) * st (ix5 b g n j p)) * fr (ix4 b l g j) : EReal) := by
  pointwise

/-- A turn's state over generic cuts. -/
theorem keep_at (dec : Vec Ideal S8x4x4 .f32) (st add : Vec Ideal S8x4x128x4x64 .f32) (b : Fin 8) (g : Fin 4) (n : Fin 128) (j : Fin 4) (p : Fin 64) :
    (addf (mulf (broadcastInDim S8x4x128x4x64 ![0, 1, 2, 3, 4] bcast_S8x4x1x4x1_S8x4x128x4x64_0_1_2_3_4 (broadcastInDim S8x4x1x4x1 ![0, 1, 3] bcast_S8x4x4_S8x4x1x4x1_0_1_3 dec)) st) add : FVec Ideal S8x4x128x4x64 .f32) (ix5 b g n j p) =
      (dec (ix3 b g j) * st (ix5 b g n j p) + add (ix5 b g n j p) : EReal) := by
  pointwise

/-- The next turn's state. -/
theorem state_next (k : ℕ) (hk : k < 32) (h : Inv V A k) (b : Fin 8) (g : Fin 4) (n : Fin 128) (j : Fin 4) (p : Fin 64) :
    (step_main_v107_6 V : Vec Ideal S8x4x128x4x64 .f32) (ix5 b g n j p) = state A b.val n.val (4 * g.val + j.val) p.val (k + 1) := by
  have h1 := fun x => decay_cut x ⟨k, hk⟩ b g j
  have h0 := fun x => gain_cut x ⟨k, hk⟩ b g n j p
  unfold step_main_v107_6
  rw [h.count]
  refine (keep_at _ _ _ b g n j p).trans ?_
  exact congrArg₂ (· + ·) (congrArg₂ (· * ·) ((h1 _).trans (h.decays _ _ _ _)) (h.states b g n j p)) ((h0 _).trans (h.gains _ _ _ _ _ _))

/-- What turn `k` writes. -/
theorem done_next (k : ℕ) (hk : k < 32) (h : Inv V A k) (i : Fin 32) (b : Fin 8) (l : Fin 128) (g j : Fin 4) (p : Fin 64) (hi : i.val < k + 1) :
    (step_main_v107_7 V : Vec Ideal S32x8x128x4x4x64 .f32) (ix6 i b l g j p) = Y A b.val i.val l.val (4 * g.val + j.val) p.val := by
  have h3 := fun x => from_cut x ⟨k, hk⟩ b l g j
  have h2 := fun x n => dir_cut x ⟨k, hk⟩ b l g n
  have h4 := fun x => own_cut x ⟨k, hk⟩ b g j l p
  have eg : (4 * g.val + j.val) / 4 = g.val := by omega
  unfold step_main_v107_7
  rw [h.count]
  refine (put_at _ _ k hk i b l g j p).trans ?_
  by_cases e : i.val = k
  · refine (if_pos e).trans ?_
    unfold Y
    rw [e, eg]
    refine (turn_at _ _ _ _ b l g j p).trans ?_
    exact congrArg₂ (· + ·) ((h4 _).trans (h.owns _ _ _ _ _ _)) (congrArg₂ (· * ·)
      (Finset.sum_congr rfl fun n _ => congrArg₂ (· * ·) ((h2 _ n).trans (h.dirs _ _ _ _ _)) (h.states b g n j p)) ((h3 _).trans (h.froms _ _ _ _ _)))
  · exact (if_neg e).trans (h.done i b l g j p (by omega))

/-- A turn carries the invariant on. -/
theorem Inv.step (k : ℕ) (hk : k < 32) (h : Inv V A k) : Inv (STEP V) A (k + 1) where
  gains i b g n j p := (congrFun (STEP_main_v107_0 V) _).trans (h.gains i b g n j p)
  decays i b g j := (congrFun (STEP_main_v107_1 V) _).trans (h.decays i b g j)
  dirs i b l g n := (congrFun (STEP_main_v107_2 V) _).trans (h.dirs i b l g n)
  froms i b l g j := (congrFun (STEP_main_v107_3 V) _).trans (h.froms i b l g j)
  owns i b g j l p := (congrFun (STEP_main_v107_4 V) _).trans (h.owns i b g j l p)
  count := by
    refine (STEP_main_v107_5 V).trans ?_
    unfold step_main_v107_5
    rw [h.count]
    funext q
    exact (BitVec.ofNat_add k 1).symm
  states b g n j p := (congrFun (STEP_main_v107_6 V) _).trans (state_next V A k hk h b g n j p)
  done i b l g j p hi := (congrFun (STEP_main_v107_7 V) _).trans (done_next V A k hk h i b l g j p hi)

/-- The invariant after every turn. -/
theorem Inv.all (h : Inv V A 0) : ∀ k, k ≤ 32 → Inv (STEP^[k] V) A k
  | 0, _ => h
  | k + 1, hk => by
    rw [Function.iterate_succ_apply']
    exact Inv.step _ A k (by omega) (Inv.all h k (by omega))

end Cert.ReferenceIdeal.Val

end
-- ==== Proof.RefEntry.lean ====
module

public import proofs.«01_k».proof.Proof.RefStep
public import Idealize.ShloMosaic.Lib.Pointwise
public import Idealize.ShloMosaic.Lib.StableHlo.RunRead
public import Idealize.ShloMosaic.Lib.ValueIdxRank6
public import Idealize.ShloMosaic.Lib.IdealHost

/-! # The reference's loop at its entry -/

@[expose] public section

set_option maxRecDepth 16384

noncomputable section

namespace Cert.ReferenceIdeal.Val

open Cert.ReferenceIdeal Cert.ReferenceIdeal.Gen Cert.ReferenceIdeal.Value Idealize.ShloMosaic Idealize.ShloMosaic.TcCoe Idealize.SL.Sem
open Idealize.ShloMosaic.StableHlo
open Cert.ReferenceIdeal.Facts Ssd

variable (V : Valuation τ sig (Elt Ideal)) (A : Args)

/-- The arguments' buffers hold the named elements. -/
structure Given : Prop where
  proj : ∀ (r : Fin 32768) (c : Fin 8192), (V (Proc.devRef .tc main_arg0) : Vec Ideal S32768x8192 .bf16) (ix2 r c) = A.pj r.val c.val
  raw : ∀ (r : Fin 32768) (c : Fin 128), (V (Proc.devRef .tc main_arg1) : Vec Ideal S32768x128 .f32) (ix2 r c) = A.dr r.val c.val
  taps : ∀ (k : Fin 5) (d : Fin 2048), (V (Proc.devRef .tc main_arg2) : Vec Ideal S1x5x2048 .f32) (ix3 0 k d) = A.w k.val d.val
  bias : ∀ d : Fin 2048, (V (Proc.devRef .tc main_arg3) : Vec Ideal S1x2048 .f32) (ix2 0 d) = A.b d.val
  shift : ∀ h : Fin 16, (V (Proc.devRef .tc main_arg4) : Vec Ideal S1x16 .f32) (ix2 0 h) = A.db h.val
  rate : ∀ h : Fin 16, (V (Proc.devRef .tc main_arg5) : Vec Ideal S1x16 .f32) (ix2 0 h) = A.al h.val

/-- The buffers after stretch 0. -/
def E1 : Valuation τ sig (Elt Ideal) := after hostOps0 V
/-- A buffer that stretch 0 does not write. -/
theorem k1 (r : Ref sig .tc) (h : r ∉ hostOps0_W) : E1 V (Proc.devRef .tc r) = V (Proc.devRef .tc r) :=
  after_of_writes_sub hostOps0 _ hostOps0_writes h

/-- The buffers after stretch 1. -/
def E2 : Valuation τ sig (Elt Ideal) := after hostOps0_1 (E1 V)
/-- A buffer that stretch 1 does not write. -/
theorem k2 (r : Ref sig .tc) (h : r ∉ hostOps0_1_W) : E2 V (Proc.devRef .tc r) = (E1 V) (Proc.devRef .tc r) :=
  after_of_writes_sub hostOps0_1 _ hostOps0_1_writes h

/-- The buffers after stretch 2. -/
def E3 : Valuation τ sig (Elt Ideal) := after hostOps0_2 (E2 V)
/-- A buffer that stretch 2 does not write. -/
theorem k3 (r : Ref sig .tc) (h : r ∉ hostOps0_2_W) : E3 V (Proc.devRef .tc r) = (E2 V) (Proc.devRef .tc r) :=
  after_of_writes_sub hostOps0_2 _ hostOps0_2_writes h

/-- The buffers after stretch 3. -/
def E4 : Valuation τ sig (Elt Ideal) := after hostOps0_3 (E3 V)
/-- A buffer that stretch 3 does not write. -/
theorem k4 (r : Ref sig .tc) (h : r ∉ hostOps0_3_W) : E4 V (Proc.devRef .tc r) = (E3 V) (Proc.devRef .tc r) :=
  after_of_writes_sub hostOps0_3 _ hostOps0_3_writes h

/-- The buffers after stretch 4. -/
def E5 : Valuation τ sig (Elt Ideal) := after hostOps0_4 (E4 V)
/-- A buffer that stretch 4 does not write. -/
theorem k5 (r : Ref sig .tc) (h : r ∉ hostOps0_4_W) : E5 V (Proc.devRef .tc r) = (E4 V) (Proc.devRef .tc r) :=
  after_of_writes_sub hostOps0_4 _ hostOps0_4_writes h

/-- The buffers after stretch 5. -/
def E6 : Valuation τ sig (Elt Ideal) := after hostOps0_5 (E5 V)
/-- A buffer that stretch 5 does not write. -/
theorem k6 (r : Ref sig .tc) (h : r ∉ hostOps0_5_W) : E6 V (Proc.devRef .tc r) = (E5 V) (Proc.devRef .tc r) :=
  after_of_writes_sub hostOps0_5 _ hostOps0_5_writes h

/-- The buffers after stretch 6. -/
def E7 : Valuation τ sig (Elt Ideal) := after hostOps0_6 (E6 V)
/-- A buffer that stretch 6 does not write. -/
theorem k7 (r : Ref sig .tc) (h : r ∉ hostOps0_6_W) : E7 V (Proc.devRef .tc r) = (E6 V) (Proc.devRef .tc r) :=
  after_of_writes_sub hostOps0_6 _ hostOps0_6_writes h

/-- The buffers after stretch 7. -/
def E8 : Valuation τ sig (Elt Ideal) := after hostOps0_7 (E7 V)
/-- A buffer that stretch 7 does not write. -/
theorem k8 (r : Ref sig .tc) (h : r ∉ hostOps0_7_W) : E8 V (Proc.devRef .tc r) = (E7 V) (Proc.devRef .tc r) :=
  after_of_writes_sub hostOps0_7 _ hostOps0_7_writes h

/-- The buffers after stretch 8. -/
def E9 : Valuation τ sig (Elt Ideal) := after hostOps0_8 (E8 V)
/-- A buffer that stretch 8 does not write. -/
theorem k9 (r : Ref sig .tc) (h : r ∉ hostOps0_8_W) : E9 V (Proc.devRef .tc r) = (E8 V) (Proc.devRef .tc r) :=
  after_of_writes_sub hostOps0_8 _ hostOps0_8_writes h

/-- The buffers after stretch 9. -/
def E10 : Valuation τ sig (Elt Ideal) := after hostOps0_9 (E9 V)
/-- A buffer that stretch 9 does not write. -/
theorem k10 (r : Ref sig .tc) (h : r ∉ hostOps0_9_W) : E10 V (Proc.devRef .tc r) = (E9 V) (Proc.devRef .tc r) :=
  after_of_writes_sub hostOps0_9 _ hostOps0_9_writes h

/-- The buffers after stretch 10. -/
def E11 : Valuation τ sig (Elt Ideal) := after hostOps0_10 (E10 V)
/-- A buffer that stretch 10 does not write. -/
theorem k11 (r : Ref sig .tc) (h : r ∉ hostOps0_10_W) : E11 V (Proc.devRef .tc r) = (E10 V) (Proc.devRef .tc r) :=
  after_of_writes_sub hostOps0_10 _ hostOps0_10_writes h

/-- The buffers after stretch 11. -/
def E12 : Valuation τ sig (Elt Ideal) := after hostOps0_11 (E11 V)
/-- A buffer that stretch 11 does not write. -/
theorem k12 (r : Ref sig .tc) (h : r ∉ hostOps0_11_W) : E12 V (Proc.devRef .tc r) = (E11 V) (Proc.devRef .tc r) :=
  after_of_writes_sub hostOps0_11 _ hostOps0_11_writes h

/-- The buffers after stretch 12. -/
def E13 : Valuation τ sig (Elt Ideal) := after hostOps0_12 (E12 V)
/-- A buffer that stretch 12 does not write. -/
theorem k13 (r : Ref sig .tc) (h : r ∉ hostOps0_12_W) : E13 V (Proc.devRef .tc r) = (E12 V) (Proc.devRef .tc r) :=
  after_of_writes_sub hostOps0_12 _ hostOps0_12_writes h

/-- The loop's buffers at its entry. -/
theorem entry_inv (h : Given V A) : Inv (E13 V) A 0 := by
  have s1 := seq_at V A h.proj
  have z1 := zero_at V
  have p2 := padded_at (E1 V) A z1 s1
  have w2 := fun a b => (congrFun (k2 V main_arg2 (by decide)) _).trans ((congrFun (k1 V main_arg2 (by decide)) _).trans (h.taps a b))
  have b2 := fun a => (congrFun (k2 V main_arg3 (by decide)) _).trans ((congrFun (k1 V main_arg3 (by decide)) _).trans (h.bias a))
  have c3 := conv_at (E2 V) A p2 w2 b2
  have x4 := x_at (E3 V) A c3
  have u5 := input_at (E4 V) A x4
  have i5 := inDir_at (E4 V) A x4
  have o5 := outDir_at (E4 V) A x4
  have r4 := fun a b => (congrFun (k4 V main_arg1 (by decide)) _).trans ((congrFun (k3 V main_arg1 (by decide)) _).trans ((congrFun (k2 V main_arg1 (by decide)) _).trans ((congrFun (k1 V main_arg1 (by decide)) _).trans (h.raw a b))))
  have q4 := fun a => (congrFun (k4 V main_arg4 (by decide)) _).trans ((congrFun (k3 V main_arg4 (by decide)) _).trans ((congrFun (k2 V main_arg4 (by decide)) _).trans ((congrFun (k1 V main_arg4 (by decide)) _).trans (h.shift a))))
  have r5 := raw_at (E4 V) A r4 q4
  have d6 := dt_at (E5 V) A r5
  have u6 := fun a b c d e => (congrFun (k6 V main_v48 (by decide)) _).trans (u5 a b c d e)
  have i6 := fun a b c d => (congrFun (k6 V main_v49 (by decide)) _).trans (i5 a b c d)
  have o6 := fun a b c d => (congrFun (k6 V main_v50 (by decide)) _).trans (o5 a b c d)
  have a6 := fun a => (congrFun (k6 V main_arg5 (by decide)) _).trans ((congrFun (k5 V main_arg5 (by decide)) _).trans ((congrFun (k4 V main_arg5 (by decide)) _).trans ((congrFun (k3 V main_arg5 (by decide)) _).trans ((congrFun (k2 V main_arg5 (by decide)) _).trans ((congrFun (k1 V main_arg5 (by decide)) _).trans (h.rate a))))))
  have x7 := xdt_at (E6 V) A u6 d6
  have i7 := inDirChunk_at (E6 V) A i6
  have o7 := outDirChunk_at (E6 V) A o6
  have g7 := da_at (E6 V) A d6 a6
  have c8 := cs_at (E7 V) A g7
  have t9 := csT_at (E8 V) A c8
  have n9 := ones_at (E8 V)
  have m10 := tril_at (E9 V) n9
  have t10 := fun a b c d e => (congrFun (k10 V main_v73 (by decide)) _).trans (t9 a b c d e)
  have f11 := diff_at (E10 V) A t10
  have e11 := bot_at (E10 V)
  have m11 := fun a b => (congrFun (k11 V main_v75 (by decide)) _).trans (m10 a b)
  have v12 := cut_at (E11 V) A m11 f11 e11
  have c12 := fun a b c d e => (congrFun (k12 V main_v72 (by decide)) _).trans ((congrFun (k11 V main_v72 (by decide)) _).trans ((congrFun (k10 V main_v72 (by decide)) _).trans ((congrFun (k9 V main_v72 (by decide)) _).trans (c8 a b c d e))))
  have i12 := fun a b c d e => (congrFun (k12 V main_v66 (by decide)) _).trans ((congrFun (k11 V main_v66 (by decide)) _).trans ((congrFun (k10 V main_v66 (by decide)) _).trans ((congrFun (k9 V main_v66 (by decide)) _).trans ((congrFun (k8 V main_v66 (by decide)) _).trans (i7 a b c d e)))))
  have o12 := fun a b c d e => (congrFun (k12 V main_v67 (by decide)) _).trans ((congrFun (k11 V main_v67 (by decide)) _).trans ((congrFun (k10 V main_v67 (by decide)) _).trans ((congrFun (k9 V main_v67 (by decide)) _).trans ((congrFun (k8 V main_v67 (by decide)) _).trans (o7 a b c d e)))))
  have x12 := fun a b c d e f => (congrFun (k12 V main_v65 (by decide)) _).trans ((congrFun (k11 V main_v65 (by decide)) _).trans ((congrFun (k10 V main_v65 (by decide)) _).trans ((congrFun (k9 V main_v65 (by decide)) _).trans ((congrFun (k8 V main_v65 (by decide)) _).trans (x7 a b c d e f)))))
  exact ⟨fun i b g n j q => gain_at (E12 V) A c12 i12 x12 i b g n j q, fun i b g j => decay_at (E12 V) A c12 i b g j, fun i b l g n => dir_at (E12 V) A o12 i b l g n,
    fun i b l g j => from_at (E12 V) A c12 i b l g j, fun i b g j l q => own_at (E12 V) A i12 o12 x12 v12 i b g j l q, start_at (E12 V),
    fun b g n j q => empty_at (E12 V) b g n j q, fun i b l g j q hi => absurd hi (Nat.not_lt_zero _)⟩

end Cert.ReferenceIdeal.Val

end
-- ==== Proof.RefPost.lean ====
module

public import proofs.«01_k».proof.Proof.RefEntry
public import Idealize.ShloMosaic.Lib.Pointwise
public import Idealize.ShloMosaic.Lib.StableHlo.RunRead
public import Idealize.ShloMosaic.Lib.ValueIdxRank6
public import Idealize.ShloMosaic.Lib.IdealHost

/-! # The reference's results after its loop -/

@[expose] public section

set_option maxRecDepth 16384

noncomputable section

namespace Cert.ReferenceIdeal.Val

open Cert.ReferenceIdeal Cert.ReferenceIdeal.Gen Cert.ReferenceIdeal.Value Idealize.ShloMosaic Idealize.ShloMosaic.TcCoe Idealize.SL.Sem
open Idealize.ShloMosaic.StableHlo
open Cert.ReferenceIdeal.Facts Ssd

variable (V : Valuation τ sig (Elt Ideal)) (A : Args)

/-- The projection's first channels, by sequence, after the loop. -/
theorem last_seq_at (h : ∀ (r : Fin 32768) (c : Fin 8192), (V (Proc.devRef .tc main_arg0) : Vec Ideal S32768x8192 .bf16) (ix2 r c) = A.pj r.val c.val) (b : Fin 8) (l : Fin 4096) (d : Fin 2048) :
    (after hostOps0_13 V (Proc.devRef .tc main_v113) : Vec Ideal S8x4096x2048 .f32) (ix3 b l d) = A.pj (4096 * b.val + l.val) d.val := by
  after_reads_simp
  try simp only [id]
  pointwise
  rw [h]
  exact congrArg₂ A.pj (by show b.val * 4096 + l.val = _; omega) rfl

/-- The padding value is zero, after the loop. -/
theorem last_zero_at   :
    (after hostOps0_13 V (Proc.devRef .tc main_c_5) : Vec Ideal S_ .i32) = constantI S_ 32 0#32 := by
  after_reads_simp

/-- The sequences with two empty rows at either end, after the loop. -/
theorem last_padded_at (hc : (V (Proc.devRef .tc main_c_5) : IVec S_ 32) = constantI S_ 32 0#32)
    (h : ∀ (b : Fin 8) (l : Fin 4096) (d : Fin 2048), (V (Proc.devRef .tc main_v113) : Vec Ideal S8x4096x2048 .f32) (ix3 b l d) = A.pj (4096 * b.val + l.val) d.val) (b : Fin 8) (l : Fin 4100) (d : Fin 2048) :
    (after hostOps0_14 V (Proc.devRef .tc main_v114) : Vec Ideal S8x4100x2048 .f32) (ix3 b l d) = if 2 ≤ l.val ∧ l.val < 4098 then A.pj (4096 * b.val + l.val - 2) d.val else 0 := by
  after_reads_simp
  simp only [TRef.toBuf, TRef.ofBuf, cast_cast, cast_eq]
  try simp only [id]
  pointwise
  by_cases hl : 2 ≤ l.val ∧ l.val < 4098
  · refine (dif_pos ⟨hl.1, by omega⟩).trans (Eq.trans ?_ (if_pos hl).symm)
    refine (h _ _ _).trans (congrArg₂ A.pj ?_ rfl)
    show 4096 * b.val + (l.val - 2) = _
    omega
  · refine (dif_neg (fun e => hl ⟨e.1, by omega⟩)).trans (Eq.trans ?_ (if_neg hl).symm)
    rw [hc]
    show (((0#32 : BitVec 32).toInt : ℝ) : EReal) = 0
    simp

/-- The convolution, after the loop. -/
theorem last_conv_at (h : ∀ (b : Fin 8) (l : Fin 4100) (d : Fin 2048), (V (Proc.devRef .tc main_v114) : Vec Ideal S8x4100x2048 .f32) (ix3 b l d) = if 2 ≤ l.val ∧ l.val < 4098 then A.pj (4096 * b.val + l.val - 2) d.val else 0)
    (hw : ∀ (k : Fin 5) (d : Fin 2048), (V (Proc.devRef .tc main_arg2) : Vec Ideal S1x5x2048 .f32) (ix3 0 k d) = A.w k.val d.val)
    (hb : ∀ d : Fin 2048, (V (Proc.devRef .tc main_arg3) : Vec Ideal S1x2048 .f32) (ix2 0 d) = A.b d.val) (b : Fin 8) (l : Fin 4096) (d : Fin 2048) :
    (after hostOps0_15 V (Proc.devRef .tc main_v154) : Vec Ideal S8x4096x2048 .f32) (ix3 b l d) = conv A (4096 * b.val + l.val) d.val := by
  after_reads_simp
  try simp only [id]
  pointwise
  rw [h, h, h, h, h, hw, hw, hw, hw, hw, hb]
  have e : (4096 * b.val + l.val) % 4096 = l.val := by omega
  unfold conv tap
  rw [e]
  have t : ∀ k : ℕ, k < 5 → (if 2 ≤ k + l.val ∧ k + l.val < 4098 then A.pj (4096 * b.val + (k + l.val) - 2) d.val else 0) =
      if 2 ≤ l.val + k ∧ l.val + k < 4098 then A.pj (4096 * b.val + l.val + k - 2) d.val else 0 := fun k _ => by
    rw [Nat.add_comm k, ← Nat.add_assoc]
  have t0 := t 0 (by decide)
  rw [Nat.zero_add] at t0
  exact congrArg (· + A.b d.val) (congrArg₂ (· + ·) (congrArg₂ (· + ·) (congrArg₂ (· + ·) (congrArg₂ (· + ·) (congrArg (· * A.w 0 d.val) t0)
    (congrArg (· * A.w 1 d.val) (t 1 (by decide)))) (congrArg (· * A.w 2 d.val) (t 2 (by decide)))) (congrArg (· * A.w 3 d.val) (t 3 (by decide))))
    (congrArg (· * A.w 4 d.val) (t 4 (by decide))))

/-- The activated convolution, after the loop. -/
theorem last_x_at (h : ∀ (b : Fin 8) (l : Fin 4096) (d : Fin 2048), (V (Proc.devRef .tc main_v154) : Vec Ideal S8x4096x2048 .f32) (ix3 b l d) = conv A (4096 * b.val + l.val) d.val) (b : Fin 8) (l : Fin 4096) (d : Fin 2048) :
    (after hostOps0_16 V (Proc.devRef .tc main_v155) : Vec Ideal S8x4096x2048 .f32) (ix3 b l d) = X A (4096 * b.val + l.val) d.val := by
  after_reads_simp
  simp only [TRef.toBuf, TRef.ofBuf, cast_cast, cast_eq]
  try simp only [id]
  pointwise
  rw [h]
  rfl

/-- The activated channels as one table's columns. -/
theorem wide_at (h : ∀ (b : Fin 8) (l : Fin 4096) (d : Fin 2048), (V (Proc.devRef .tc main_v155) : Vec Ideal S8x4096x2048 .f32) (ix3 b l d) = X A (4096 * b.val + l.val) d.val) (r : Fin 32768) (c : Fin 1024) :
    (after hostOps0_17 V (Proc.devRef .tc main_v157) : Vec Ideal S32768x1024 .f32) (ix2 r c) = X A r.val c.val := by
  after_reads_simp
  try simp only [id]
  pointwise
  rw [h]
  exact congrArg₂ (X A) (by show 4096 * (r.val / 4096) + r.val % 4096 = _; omega) rfl

/-- The state channels as the other table's columns. -/
theorem narrow_at (h : ∀ (b : Fin 8) (l : Fin 4096) (d : Fin 2048), (V (Proc.devRef .tc main_v155) : Vec Ideal S8x4096x2048 .f32) (ix3 b l d) = X A (4096 * b.val + l.val) d.val) (r : Fin 32768) (c : Fin 1024) :
    (after hostOps0_17 V (Proc.devRef .tc main_v159) : Vec Ideal S32768x1024 .bf16) (ix2 r c) = X A r.val (1024 + c.val) := by
  after_reads_simp
  try simp only [id]
  pointwise
  rw [h]
  exact congrArg₂ (X A) (by show 4096 * (r.val / 4096) + r.val % 4096 = _; omega) rfl

/-- The scan's result as one table. -/
theorem scan_at (h : ∀ (i : Fin 32) (b : Fin 8) (l : Fin 128) (g j : Fin 4) (p : Fin 64), (V (Proc.devRef .tc main_v107_7) : Vec Ideal S32x8x128x4x4x64 .f32) (ix6 i b l g j p) = Y A b.val i.val l.val (4 * g.val + j.val) p.val) (r : Fin 32768) (c : Fin 1024) :
    (out_main_v110 V : Vec Ideal S32768x1024 .f32) (ix2 r c) = Ssd.out A r.val c.val := by
  unfold out_main_v110
  pointwise
  refine (h _ _ _ _ _ _).trans ?_
  have e : 4 * (c.val / 256) + c.val / 64 % 4 = c.val / 64 := by omega
  exact congrArg (fun q => Y A (r.val / 4096) (r.val / 128 % 32) (r.val % 128) q (c.val % 64)) e

/-- The arguments still hold the named elements and every chunk is done. -/
structure Final : Prop where
  proj : ∀ (r : Fin 32768) (c : Fin 8192), (V (Proc.devRef .tc main_arg0) : Vec Ideal S32768x8192 .bf16) (ix2 r c) = A.pj r.val c.val
  taps : ∀ (k : Fin 5) (d : Fin 2048), (V (Proc.devRef .tc main_arg2) : Vec Ideal S1x5x2048 .f32) (ix3 0 k d) = A.w k.val d.val
  bias : ∀ d : Fin 2048, (V (Proc.devRef .tc main_arg3) : Vec Ideal S1x2048 .f32) (ix2 0 d) = A.b d.val
  done : ∀ (i : Fin 32) (b : Fin 8) (l : Fin 128) (g j : Fin 4) (p : Fin 64), (V (Proc.devRef .tc main_v107_7) : Vec Ideal S32x8x128x4x4x64 .f32) (ix6 i b l g j p) = Y A b.val i.val l.val (4 * g.val + j.val) p.val

/-- The activated channels after the last stretch but one. -/
theorem act_at (h : Final V A) (b : Fin 8) (l : Fin 4096) (d : Fin 2048) :
    (after hostOps0_16 (after hostOps0_15 (after hostOps0_14 (after hostOps0_13 V))) (Proc.devRef .tc main_v155) : Vec Ideal S8x4096x2048 .f32) (ix3 b l d) = X A (4096 * b.val + l.val) d.val := by
  have s1 := last_seq_at V A h.proj
  have z1 := last_zero_at V
  have p2 := last_padded_at (after hostOps0_13 V) A z1 s1
  have w2 := fun k d => (congrFun (after_of_writes_sub (r := main_arg2) hostOps0_14 (after hostOps0_13 V) hostOps0_14_writes (by decide)) (ix3 0 k d)).trans
    ((congrFun (after_of_writes_sub (r := main_arg2) hostOps0_13 V hostOps0_13_writes (by decide)) _).trans (h.taps k d))
  have b2 := fun d => (congrFun (after_of_writes_sub (r := main_arg3) hostOps0_14 (after hostOps0_13 V) hostOps0_14_writes (by decide)) (ix2 0 d)).trans
    ((congrFun (after_of_writes_sub (r := main_arg3) hostOps0_13 V hostOps0_13_writes (by decide)) _).trans (h.bias d))
  have c3 := last_conv_at (after hostOps0_14 (after hostOps0_13 V)) A p2 w2 b2
  exact last_x_at (after hostOps0_15 (after hostOps0_14 (after hostOps0_13 V))) A c3 b l d

/-- The second result. -/
theorem out_wide (h : Final V A) (r : Fin 32768) (c : Fin 1024) : (out_main_v157 V : Vec Ideal S32768x1024 .f32) (ix2 r c) = X A r.val c.val := by
  rw [← post_main_v157 V]
  exact wide_at _ A (act_at V A h) r c

/-- The third result. -/
theorem out_narrow (h : Final V A) (r : Fin 32768) (c : Fin 1024) : (out_main_v159 V : Vec Ideal S32768x1024 .bf16) (ix2 r c) = X A r.val (1024 + c.val) := by
  rw [← post_main_v159 V]
  exact narrow_at _ A (act_at V A h) r c

end Cert.ReferenceIdeal.Val

namespace Cert.ReferenceIdeal.Val

open Cert.ReferenceIdeal Cert.ReferenceIdeal.Gen Cert.ReferenceIdeal.Value Idealize.ShloMosaic Idealize.ShloMosaic.TcCoe Idealize.SL.Sem
open Idealize.ShloMosaic.StableHlo
open Cert.ReferenceIdeal.Facts Ssd

variable (m : (ℓ : Loc nD τ sig) → Buf (Elt Ideal) ℓ) (ρ : Dev nD → PrngReg)

/-- The elements of the reference's arguments. -/
def argsAt (c : Dev nD) : Args := argsOf (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))

/-- The launch holds the arguments. -/
theorem given_at (c : Dev nD) : Given (launchContents m c) (argsAt m c) where
  proj r d := cell2_of (m ((c : Thread nD τ).loc main_arg0)) r d
  raw r d := cell2_of (m ((c : Thread nD τ).loc main_arg1)) r d
  taps k d := cell3_of (m ((c : Thread nD τ).loc main_arg2)) 0 k d
  bias d := cell2_of (m ((c : Thread nD τ).loc main_arg3)) 0 d
  shift h := cell2_of (m ((c : Thread nD τ).loc main_arg4)) 0 h
  rate h := cell2_of (m ((c : Thread nD τ).loc main_arg5)) 0 h

/-- The loop has done every chunk. -/
theorem final_at (c : Dev nD) : Final (STEP^[32] (entryContents preI m c)) (argsAt m c) where
  proj r d := (congrFun (iter_main_arg0 m c 32) _).trans (cell2_of (m ((c : Thread nD τ).loc main_arg0)) r d)
  taps k d := (congrFun (iter_main_arg2 m c 32) _).trans (cell3_of (m ((c : Thread nD τ).loc main_arg2)) 0 k d)
  bias d := (congrFun (iter_main_arg3 m c 32) _).trans (cell2_of (m ((c : Thread nD τ).loc main_arg3)) 0 d)
  done i b l g j p := by
    have e : entryContents preI m c = E13 (launchContents m c) := rfl
    have h := Inv.all _ _ (entry_inv _ _ (given_at m c)) 32 (by decide)
    rw [← e] at h
    exact h.done i b l g j p i.isLt

/-- The reference's run: its three results by the arguments' elements, and the arguments kept. -/
theorem reference_run : θ_run (defs (F := Ideal)) (onTc (τ := τ) (main (F := Ideal))) ⟨m, fun _ => 0, ρ⟩ fun r => ∀ c : Dev nD,
      (∀ (i : Fin 32768) (d : Fin 1024), (r.2.mem ((c.tc : Thread nD τ).loc main_v110) : Vec Ideal S32768x1024 .f32) (ix2 i d) = Ssd.out (argsAt m c) i.val d.val)
      ∧ (∀ (i : Fin 32768) (d : Fin 1024), (r.2.mem ((c.tc : Thread nD τ).loc main_v157) : Vec Ideal S32768x1024 .f32) (ix2 i d) = X (argsAt m c) i.val d.val)
      ∧ (∀ (i : Fin 32768) (d : Fin 1024), (r.2.mem ((c.tc : Thread nD τ).loc main_v159) : Vec Ideal S32768x1024 .bf16) (ix2 i d) = X (argsAt m c) i.val (1024 + d.val))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨fun i d => (congrFun (h c).1 (ix2 i d)).trans (scan_at _ _ (final_at m c).done i d),
    fun i d => (congrFun (h c).2.1 (ix2 i d)).trans (out_wide _ _ (final_at m c) i d),
    fun i d => (congrFun (h c).2.2.1 (ix2 i d)).trans (out_narrow _ _ (final_at m c) i d), (h c).2.2.2⟩) (run m ρ)

end Cert.ReferenceIdeal.Val

end
-- ==== Proof.Domain.lean ====
module

public import proofs.«01_k».proof.Defs
public import proofs.«01_k».proof.Proof.Chunk
public import Idealize.ShloMosaic.Lib.Decide

/-! # The precondition: finite step sizes -/

@[expose] public section

set_option maxRecDepth 16384

noncomputable section

namespace Cert.Pre_finite_steps

open Idealize.ShloMosaic Ssd

/-- The precondition's shape relations hold. -/
theorem facts : Facts where
  slices_S32768x128_S32768x16_0_0 := by decide +kernel
  bcast_S_S32768x16 := by decide
  bcast_S_S1x16 := by decide

/-- A number whose absolute value compares below infinity is finite. -/
theorem fine_of_below (x : EReal) (h : Ideal.cmp .olt (max x (-x)) (Ideal.ofBits .f32 0x7F800000#32) = 1#1) : Fine x := by
  rw [top_bits] at h
  induction x with
  | bot => simp [Ideal.cmp] at h
  | coe a => exact ⟨a, rfl⟩
  | top => simp [Ideal.cmp] at h

/-- The precondition makes the step sizes' inputs finite. -/
theorem finite_of [Facts] (x0 : FVec Ideal S32768x8192 .bf16) (x1 : FVec Ideal S32768x128 .f32) (x2 : FVec Ideal S1x5x2048 .f32) (x3 : FVec Ideal S1x2048 .f32)
    (x4 x5 : FVec Ideal S1x16 .f32) (h1 : (fn x0 x1 x2 x3 x4 x5).1 = fun _ => 1#1) (h2 : (fn x0 x1 x2 x3 x4 x5).2.1 = fun _ => 1#1)
    (h3 : (fn x0 x1 x2 x3 x4 x5).2.2 = fun _ => 1#1) : Cert.KernelIdeal.Val.Finite (argsOf x0 x1 x2 x3 x4 x5) where
  dr r h hh := by
    show Fine (cell2 x1 r h)
    unfold cell2
    split
    · rename_i hr
      have e := fine_of_below _ (congrFun h1 (ix2 ⟨r, hr.1⟩ ⟨h, hh⟩))
      have i : (fun a => ⟨(![0, 0] : Fin 2 → ℕ) a + ((ix2 (⟨r, hr.1⟩ : Fin 32768) (⟨h, hh⟩ : Fin 16) : S32768x16.Idx) a).val,
          by match a with | ⟨0, _⟩ => show 0 + r < 32768; omega | ⟨1, _⟩ => show 0 + h < 128; omega⟩ : S32768x128.Idx) = ix2 ⟨r, hr.1⟩ ⟨h, hr.2⟩ := funext fun a => by
        match a with
        | ⟨0, _⟩ => exact Fin.ext (Nat.zero_add _)
        | ⟨1, _⟩ => exact Fin.ext (Nat.zero_add _)
      rw [← i]
      exact e
    · exact Fine.zero
  db h hh := by
    show Fine (cell2 x4 0 h)
    unfold cell2
    split
    · exact fine_of_below _ (congrFun h2 (ix2 ⟨0, by omega⟩ ⟨h, hh⟩))
    · exact Fine.zero
  al h hh := by
    show Fine (cell2 x5 0 h)
    unfold cell2
    split
    · exact fine_of_below _ (congrFun h3 (ix2 ⟨0, by omega⟩ ⟨h, hh⟩))
    · exact Fine.zero

end Cert.Pre_finite_steps

end
-- ==== Proof.InSpec.lean ====
module

public import Idealize.ShloMosaic.Lib.Pointwise

/-! # The input projection of the layer, in mathematics -/

@[expose] public section

noncomputable section

namespace Inp

open Idealize.ShloMosaic

/-- A row scaled to unit mean square, times the gain, then scaled and shifted. -/
def normed (row : Fin 1024 → EReal) (g sc sh : EReal) (d : Fin 1024) : EReal :=
  row d * Ideal.rsqrt (Ideal.div (∑ j, row j * row j) (Scalar.ofBits (F := Ideal) .f32 0x44800000#32) + Scalar.ofBits (F := Ideal) .f32 0x358637BD#32)
    * g * (Scalar.ofBits (F := Ideal) .f32 0x3F800000#32 + sc) + sh

/-- The arguments' elements. -/
structure Args where
  /-- The layer's input, by sequence, position and channel. -/
  x : Fin 8 → Fin 4096 → Fin 1024 → EReal
  /-- The shift of a sequence. -/
  sh : Fin 8 → Fin 1024 → EReal
  /-- The scale of a sequence. -/
  sc : Fin 8 → Fin 1024 → EReal
  /-- The gain. -/
  g : Fin 1024 → EReal
  /-- The weights, by input channel and output column. -/
  w : Fin 1024 → Fin 8224 → EReal

/-- The column of the weights that gives column `c` of the main output: the convolution's channels, then the gate's, then the rest. -/
def src (c : Fin 8192) : Fin 8224 :=
  if h : c.val < 2048 then ⟨1024 + c.val, by omega⟩ else if h' : c.val < 3072 then ⟨c.val - 2048, by omega⟩ else ⟨32 + c.val, by omega⟩

variable (A : Args)

/-- The normalised input. -/
def n1 (b : Fin 8) (s : Fin 4096) (d : Fin 1024) : EReal := normed (A.x b s) (A.g d) (A.sc b d) (A.sh b d) d

/-- The projection onto column `c`. -/
def proj (b : Fin 8) (s : Fin 4096) (c : Fin 8224) : EReal := ∑ d, n1 A b s d * A.w d c

/-- The steps before their bias, and zeros past them. -/
def steps (b : Fin 8) (s : Fin 4096) (c : Fin 128) : EReal := if h : c.val < 32 then proj A b s ⟨3072 + c.val, by omega⟩ else 0

/-- The sequence of a row. -/
def seqOf (r : Fin 32768) : Fin 8 := ⟨r.val / 4096, by omega⟩

/-- A row's position in its sequence. -/
def posOf (r : Fin 32768) : Fin 4096 := ⟨r.val % 4096, by omega⟩

/-- The main output, by row and column. -/
def mainAt (r : Fin 32768) (c : Fin 8192) : EReal := proj A (seqOf r) (posOf r) (src c)

/-- The steps' output, by row and column. -/
def stepsAt (r : Fin 32768) (c : Fin 128) : EReal := steps A (seqOf r) (posOf r) c

end Inp
-- ==== Proof.InEntry.lean ====
module

public import proofs.«01_k».proof.Proof.Gen.Kernel2Ideal.Frame
public import proofs.«01_k».proof.Proof.InSpec
public import Idealize.ShloMosaic.Lib.Pipeline.ValueKit
public import Idealize.ShloMosaic.Lib.StableHlo.Run
public import Idealize.ShloMosaic.Lib.Routing.OpsSet
public import Idealize.ShloMosaic.Lib.Routing.OpsOne

/-! # The arrays that the input projection's windows read, and the windows' blocks -/

@[expose] public section

set_option maxRecDepth 16384

noncomputable section

namespace Cert.Kernel2Ideal.Val

open Cert.Kernel2Ideal Cert.Kernel2Ideal.Gen Idealize.ShloMosaic Idealize.ShloMosaic.TcCoe
open Cert.Kernel2Ideal.Facts Inp

variable (m : (ℓ : Loc nD τ sig) → Buf (Elt Ideal) ℓ) (c : Dev nD)

/-- The arguments' elements, from the memory. -/
def argsAt : Args where
  x := fun b s d => (m ((c : Thread nD τ).loc main_arg0) : Vec Ideal S8x4096x1024 .f32) (ix3 b s d)
  sh := fun b d => (m ((c : Thread nD τ).loc main_arg1) : Vec Ideal S8x1024 .f32) (ix2 b d)
  sc := fun b d => (m ((c : Thread nD τ).loc main_arg2) : Vec Ideal S8x1024 .f32) (ix2 b d)
  g := fun d => (m ((c : Thread nD τ).loc main_arg3) : Vec Ideal S1x1024 .f32) (ix2 (0 : Fin 1) d)
  w := fun d k => (m ((c : Thread nD τ).loc main_arg4) : Vec Ideal S1x1024x8224 .f32) (ix3 (0 : Fin 1) d k)

/-- The input's rows. -/
theorem V_v0 (r : Fin 32768) (d : Fin 1024) : (V m c main_v0 : Vec Ideal S32768x1024 .f32) (ix2 r d) = (argsAt m c).x (seqOf r) (posOf r) d := by
  have e : V m c main_v0 = shapeCast S32768x1024 (m ((c : Thread nD τ).loc main_arg0) : FVec Ideal S8x4096x1024 .f32) shapeCasts_S8x4096x1024_S32768x1024 := by
    unfold V
    simp only [hostOps0, hostOps0_1, hostOps0_2, List.flatten_cons, List.flatten_nil, List.append_nil, List.cons_append, List.nil_append]
    after_results
    rfl
  rw [e]
  refine shapeCast_apply _ _ _ (ix3 (seqOf r) (posOf r) d) ?_
  refine (Shape.rowMajor_val_three _).trans (Eq.trans ?_ (Shape.rowMajor_val_two _).symm)
  show (r.val / 4096 * 4096 + r.val % 4096) * 1024 + d.val = r.val * 1024 + d.val
  omega

/-- The shifts. -/
theorem V_v3 (b : Fin 8) (d : Fin 1024) : (V m c main_v3 : Vec Ideal S8x1x1024 .f32) (ix3 b (0 : Fin 1) d) = (argsAt m c).sh b d := by
  have e : V m c main_v3 = shapeCast S8x1x1024 (m ((c : Thread nD τ).loc main_arg1) : FVec Ideal S8x1024 .f32) shapeCasts_S8x1024_S8x1x1024 := by
    unfold V
    simp only [hostOps0, hostOps0_1, hostOps0_2, List.flatten_cons, List.flatten_nil, List.append_nil, List.cons_append, List.nil_append]
    after_results
    rfl
  rw [e]
  pointwise
  rfl

/-- The scales. -/
theorem V_v4 (b : Fin 8) (d : Fin 1024) : (V m c main_v4 : Vec Ideal S8x1x1024 .f32) (ix3 b (0 : Fin 1) d) = (argsAt m c).sc b d := by
  have e : V m c main_v4 = shapeCast S8x1x1024 (m ((c : Thread nD τ).loc main_arg2) : FVec Ideal S8x1024 .f32) shapeCasts_S8x1024_S8x1x1024 := by
    unfold V
    simp only [hostOps0, hostOps0_1, hostOps0_2, List.flatten_cons, List.flatten_nil, List.append_nil, List.cons_append, List.nil_append]
    after_results
    rfl
  rw [e]
  pointwise
  rfl

/-- The gain. -/
theorem V_v13 (d : Fin 1024) : (V m c main_v13 : Vec Ideal S1x1024 .f32) (ix2 (0 : Fin 1) d) = (argsAt m c).g d := by
  have e : V m c main_v13 = shapeCast S1x1024 (shapeCast S1024 (m ((c : Thread nD τ).loc main_arg3) : FVec Ideal S1x1024 .f32) shapeCasts_S1x1024_S1024) shapeCasts_S1024_S1x1024 := by
    unfold V
    simp only [hostOps0, hostOps0_1, hostOps0_2, List.flatten_cons, List.flatten_nil, List.append_nil, List.cons_append, List.nil_append]
    after_results
    rfl
  rw [e]
  pointwise
  rfl

/-- The weights without their leading axis. -/
def wts (w : FVec Ideal S1x1024x8224 .f32) : FVec Ideal S1024x8224 .f32 := shapeCast S1024x8224 w shapeCasts_S1x1024x8224_S1024x8224

/-- The main weights. -/
theorem V_v9 (d : Fin 1024) (k : Fin 8192) : (V m c main_v9 : Vec Ideal S1024x8192 .bf16) (ix2 d k) = (argsAt m c).w d (src k) := by
  have e : V m c main_v9 = truncf .bf16 (concatenate S1024x8192 1
      [⟨S1024x2048, extractStridedSlice S1024x2048 ![0, 1024] (wts (m ((c : Thread nD τ).loc main_arg4))) slices_S1024x8224_S1024x2048_0_1024⟩,
        ⟨S1024x1024, extractStridedSlice S1024x1024 ![0, 0] (wts (m ((c : Thread nD τ).loc main_arg4))) slices_S1024x8224_S1024x1024_0_0⟩,
        ⟨S1024x5120, extractStridedSlice S1024x5120 ![0, 3104] (wts (m ((c : Thread nD τ).loc main_arg4))) slices_S1024x8224_S1024x5120_0_3104⟩]
      concatenates_S1024x2048_S1024x1024_S1024x5120_S1024x8192_d1 : FVec Ideal S1024x8192 .f32) bitsLt_bf16_f32 := by
    unfold V
    simp only [hostOps0, hostOps0_1, hostOps0_2, List.flatten_cons, List.flatten_nil, List.append_nil, List.cons_append, List.nil_append]
    after_results
    rfl
  rw [e]
  pointwise [wts]
  unfold src
  by_cases h : k.val < 2048
  · rw [dif_pos h, dif_pos h]; rfl
  · rw [dif_neg h, dif_neg h]
    by_cases h' : k.val < 3072
    · rw [dif_pos (by omega), dif_pos h']; rfl
    · rw [dif_neg (by omega), dif_neg h']
      exact congrArg (fun j => (m ((c : Thread nD τ).loc main_arg4) : Vec Ideal S1x1024x8224 .f32) (ix3 (0 : Fin 1) d j)) (Fin.ext (by show 3104 + (k.val - 2048 - 1024) = 32 + k.val; omega))

/-- The whole number zero, as a number. -/
theorem sitofp_zero : (FloatOps.sitofp .f32 0#32 : Ideal .f32) = (0 : EReal) := by
  show (((0#32 : BitVec 32).toInt : ℝ) : EReal) = 0
  rw [show (0#32 : BitVec 32).toInt = 0 from rfl, Int.cast_zero]
  rfl

/-- The steps' weights. -/
theorem V_v12 (d : Fin 1024) (k : Fin 128) : (V m c main_v12 : Vec Ideal S1024x128 .bf16) (ix2 d k) =
    if h : k.val < 32 then (argsAt m c).w d ⟨3072 + k.val, by omega⟩ else (0 : EReal) := by
  have e : V m c main_v12 = truncf .bf16 (pad S1024x128 ![0, 0] ![0, 96] ![0, 0]
      (extractStridedSlice S1024x32 ![0, 3072] (wts (m ((c : Thread nD τ).loc main_arg4))) slices_S1024x8224_S1024x32_0_3072) (sitofp .f32 (constantI S_ 32 0#32))
      pads_S1024x32_S1024x128_000_0960 h_S_ : FVec Ideal S1024x128 .f32) bitsLt_bf16_f32 := by
    unfold V
    simp only [hostOps0, hostOps0_1, hostOps0_2, List.flatten_cons, List.flatten_nil, List.append_nil, List.cons_append, List.nil_append]
    after_results
    rfl
  rw [e]
  pointwise [wts]
  by_cases h : k.val < 32
  · rw [dif_pos h, dif_pos h]; rfl
  · rw [dif_neg h, dif_neg h]
    exact sitofp_zero

/-! ## Where the windows' blocks lie -/

theorem at0 : ∀ t : Fin cfg0.N, win0_0.index t (0 : Fin 2) = t.val ∧ win0_0.index t (1 : Fin 2) = 0 := (by decide +kernel : ∀ t : Fin grid0.N, _)
theorem at1 : ∀ t : Fin cfg0.N, win0_1.index t (0 : Fin 3) = t.val / 8 ∧ win0_1.index t (1 : Fin 3) = 0 ∧ win0_1.index t (2 : Fin 3) = 0 := (by decide +kernel : ∀ t : Fin grid0.N, _)
theorem at2 : ∀ t : Fin cfg0.N, win0_2.index t (0 : Fin 3) = t.val / 8 ∧ win0_2.index t (1 : Fin 3) = 0 ∧ win0_2.index t (2 : Fin 3) = 0 := (by decide +kernel : ∀ t : Fin grid0.N, _)
theorem at3 : ∀ t : Fin cfg0.N, win0_3.index t (0 : Fin 2) = 0 ∧ win0_3.index t (1 : Fin 2) = 0 := (by decide +kernel : ∀ t : Fin grid0.N, _)
theorem at4 : ∀ t : Fin cfg0.N, win0_4.index t (0 : Fin 2) = 0 ∧ win0_4.index t (1 : Fin 2) = 0 := (by decide +kernel : ∀ t : Fin grid0.N, _)
theorem at5 : ∀ t : Fin cfg0.N, win0_5.index t (0 : Fin 2) = 0 ∧ win0_5.index t (1 : Fin 2) = 0 := (by decide +kernel : ∀ t : Fin grid0.N, _)

theorem lt64 (t : Fin cfg0.N) : t.val < 64 := lt_of_lt_of_eq t.isLt N_0

/-- The row of the whole input that row `r` of block `t` is. -/
def rowOf (t : Fin cfg0.N) (r : Fin 512) : Fin 32768 := ⟨512 * t.val + r.val, by have := lt64 t; omega⟩

/-! ## The blocks' elements -/

theorem blk0 (t : Fin cfg0.N) (r : Fin 512) (d : Fin 1024) :
    (iblk m c 0 t : Vec Ideal S512x1024 .f32) (ix2 r d) = (argsAt m c).x (seqOf (rowOf t r)) (posOf (rowOf t r)) d := by
  obtain ⟨e0, e1⟩ := at0 t
  refine Eq.trans (congrArg (V m c main_v0 : Vec Ideal S32768x1024 .f32) (funext fun a => ?_)) (V_v0 m c (rowOf t r) d)
  match a with
  | ⟨0, _⟩ => exact Fin.ext (by show win0_0.index t (0 : Fin 2) * 512 + 1 * r.val = 512 * t.val + r.val; omega)
  | ⟨1, _⟩ => exact Fin.ext (by show win0_0.index t (1 : Fin 2) * 1024 + 1 * d.val = d.val; omega)

theorem blk1 (t : Fin cfg0.N) (r : Fin 512) (d : Fin 1024) :
    (iblk m c 1 t : Vec Ideal S1x1x1024 .f32) (ix3 (0 : Fin 1) (0 : Fin 1) d) = (argsAt m c).sh (seqOf (rowOf t r)) d := by
  obtain ⟨e0, e1, e2⟩ := at1 t
  refine Eq.trans (congrArg (V m c main_v3 : Vec Ideal S8x1x1024 .f32) (funext fun a => ?_)) (V_v3 m c (seqOf (rowOf t r)) d)
  match a with
  | ⟨0, _⟩ => exact Fin.ext (by show win0_1.index t (0 : Fin 3) * 1 + 1 * 0 = (512 * t.val + r.val) / 4096; omega)
  | ⟨1, _⟩ => exact Fin.ext (by show win0_1.index t (1 : Fin 3) * 1 + 1 * 0 = 0; omega)
  | ⟨2, _⟩ => exact Fin.ext (by show win0_1.index t (2 : Fin 3) * 1024 + 1 * d.val = d.val; omega)

theorem blk2 (t : Fin cfg0.N) (r : Fin 512) (d : Fin 1024) :
    (iblk m c 2 t : Vec Ideal S1x1x1024 .f32) (ix3 (0 : Fin 1) (0 : Fin 1) d) = (argsAt m c).sc (seqOf (rowOf t r)) d := by
  obtain ⟨e0, e1, e2⟩ := at2 t
  refine Eq.trans (congrArg (V m c main_v4 : Vec Ideal S8x1x1024 .f32) (funext fun a => ?_)) (V_v4 m c (seqOf (rowOf t r)) d)
  match a with
  | ⟨0, _⟩ => exact Fin.ext (by show win0_2.index t (0 : Fin 3) * 1 + 1 * 0 = (512 * t.val + r.val) / 4096; omega)
  | ⟨1, _⟩ => exact Fin.ext (by show win0_2.index t (1 : Fin 3) * 1 + 1 * 0 = 0; omega)
  | ⟨2, _⟩ => exact Fin.ext (by show win0_2.index t (2 : Fin 3) * 1024 + 1 * d.val = d.val; omega)

theorem blk3 (t : Fin cfg0.N) (d : Fin 1024) : (iblk m c 3 t : Vec Ideal S1x1024 .f32) (ix2 (0 : Fin 1) d) = (argsAt m c).g d := by
  obtain ⟨e0, e1⟩ := at3 t
  refine Eq.trans (congrArg (V m c main_v13 : Vec Ideal S1x1024 .f32) (funext fun a => ?_)) (V_v13 m c d)
  match a with
  | ⟨0, _⟩ => exact Fin.ext (by show win0_3.index t (0 : Fin 2) * 1 + 1 * 0 = 0; omega)
  | ⟨1, _⟩ => exact Fin.ext (by show win0_3.index t (1 : Fin 2) * 1024 + 1 * d.val = d.val; omega)

theorem blk4 (t : Fin cfg0.N) (d : Fin 1024) (k : Fin 8192) : (iblk m c 4 t : Vec Ideal S1024x8192 .bf16) (ix2 d k) = (argsAt m c).w d (src k) := by
  obtain ⟨e0, e1⟩ := at4 t
  refine Eq.trans (congrArg (V m c main_v9 : Vec Ideal S1024x8192 .bf16) (funext fun a => ?_)) (V_v9 m c d k)
  match a with
  | ⟨0, _⟩ => exact Fin.ext (by show win0_4.index t (0 : Fin 2) * 1024 + 1 * d.val = d.val; omega)
  | ⟨1, _⟩ => exact Fin.ext (by show win0_4.index t (1 : Fin 2) * 8192 + 1 * k.val = k.val; omega)

theorem blk5 (t : Fin cfg0.N) (d : Fin 1024) (k : Fin 128) : (iblk m c 5 t : Vec Ideal S1024x128 .bf16) (ix2 d k) =
    if h : k.val < 32 then (argsAt m c).w d ⟨3072 + k.val, by omega⟩ else (0 : EReal) := by
  obtain ⟨e0, e1⟩ := at5 t
  refine Eq.trans (congrArg (V m c main_v12 : Vec Ideal S1024x128 .bf16) (funext fun a => ?_)) (V_v12 m c d k)
  match a with
  | ⟨0, _⟩ => exact Fin.ext (by show win0_5.index t (0 : Fin 2) * 1024 + 1 * d.val = d.val; omega)
  | ⟨1, _⟩ => exact Fin.ext (by show win0_5.index t (1 : Fin 2) * 128 + 1 * k.val = k.val; omega)

end Cert.Kernel2Ideal.Val
-- ==== Proof.InPoint.lean ====
module

public import proofs.«01_k».proof.Proof.Gen.Kernel2Ideal.Frame
public import Idealize.ShloMosaic.Lib.Pipeline.ReadBack
public import Idealize.ShloMosaic.Lib.Pipeline.ValueKit
public import proofs.«01_k».proof.Proof.InSpec

/-! # What a grid point of the input projection stores -/

@[expose] public section

set_option maxRecDepth 16384

noncomputable section

namespace Cert.Kernel2Ideal.Val

open Cert.Kernel2Ideal Cert.Kernel2Ideal.Gen Idealize.ShloMosaic Idealize.ShloMosaic.TcCoe
open Cert.Kernel2Ideal.Facts Inp

/-- The normalised rows of a block. -/
theorem rows_at (v0 : Vec Ideal S512x1024 .f32) (v2 : Vec Ideal S1x1024 .f32) (v4 v6 : Vec Ideal S1x1x1024 .f32) (r : Fin 512) (d : Fin 1024) :
    (k0_pay3 v0 v2 v4 v6 : FVec Ideal S512x1024 .bf16) (ix2 r d) =
      normed (fun j => v0 (ix2 r j)) (v2 (ix2 (0 : Fin 1) d)) (v6 (ix3 (0 : Fin 1) (0 : Fin 1) d)) (v4 (ix3 (0 : Fin 1) (0 : Fin 1) d)) d := by
  pointwise [k0_pay3, normed]

/-- A block of columns of the main output. -/
theorem cols_at (n : FVec Ideal S512x1024 .bf16) (w : Vec Ideal S1024x1024 .bf16) (r : Fin 512) (c : Fin 1024) :
    (k0_pay1 n w : FVec Ideal S512x1024 .bf16) (ix2 r c) = ∑ d : Fin 1024, n (ix2 r d) * w (ix2 d c) := by
  pointwise [k0_pay1]

/-- The steps' block. -/
theorem steps_at (v0 : Vec Ideal S512x1024 .f32) (v2 : Vec Ideal S1x1024 .f32) (v4 v6 : Vec Ideal S1x1x1024 .f32) (w : Vec Ideal S1024x128 .bf16) (r : Fin 512) (c : Fin 128) :
    (k0_pay4 v0 v2 v4 v6 w : FVec Ideal S512x128 .f32) (ix2 r c) = ∑ d : Fin 1024, (k0_pay3 v0 v2 v4 v6 : FVec Ideal S512x1024 .bf16) (ix2 r d) * w (ix2 d c) := by
  unfold k0_pay4
  pointwise

section

variable (b0 : Vec Ideal S512x1024 .f32) (b1 : Vec Ideal S1x1x1024 .f32) (b2 : Vec Ideal S1x1x1024 .f32) (b3 : Vec Ideal S1x1024 .f32) (b4 : Vec Ideal S1024x8192 .bf16) (b5 : Vec Ideal S1024x128 .bf16)

/-- A block of columns of the main weights, read from the whole. -/
theorem ld_w (o : ℕ) (h : ∀ a, (![0, o] : Fin 2 → ℕ) a + S1024x1024.size a ≤ S1024x8192.size a) (d : Fin 1024) (c : Fin 1024) (c' : Fin 8192) (e : c'.val = o + c.val) :
    View.ld b4 (Rect.unit (s := S1024x8192) ![0, o] S1024x1024.size h) (ix2 d c) = b4 (ix2 d c') := by
  refine congrArg b4 (funext fun a => ?_)
  match a with
  | ⟨0, _⟩ => exact Fin.ext (by show 0 + 1 * d.val = d.val; omega)
  | ⟨1, _⟩ => exact Fin.ext (by show o + 1 * c.val = c'.val; omega)

/-- The normalised rows of the blocks that a point loads. -/
theorem loaded_at (r : Fin 512) (d : Fin 1024) :
    (k0_pay3 (View.ld b0 r0_0) (View.ld b3 r0_1) (View.ld b1 r0_2) (View.ld b2 r0_2) : FVec Ideal S512x1024 .bf16) (ix2 r d) =
      normed (fun j => b0 (ix2 r j)) (b3 (ix2 (0 : Fin 1) d)) (b2 (ix3 (0 : Fin 1) (0 : Fin 1) d)) (b1 (ix3 (0 : Fin 1) (0 : Fin 1) d)) d := by
  have z2 : (![0, 0] : Fin 2 → ℕ) = fun _ => 0 := by decide
  have z3 : (![0, 0, 0] : Fin 3 → ℕ) = fun _ => 0 := by decide
  rw [View.ld_unit_zero z2, View.ld_unit_zero z2, View.ld_unit_zero z3, View.ld_unit_zero z3]
  exact rows_at b0 b3 b1 b2 r d

/-- The blocks of columns are computed alike. -/
theorem same2 : k0_pay2 (F := Ideal) = k0_pay1 := rfl
theorem same6 : k0_pay6 (F := Ideal) = k0_pay1 := rfl
theorem same7 : k0_pay7 (F := Ideal) = k0_pay1 := rfl
theorem same8 : k0_pay8 (F := Ideal) = k0_pay1 := rfl
theorem same9 : k0_pay9 (F := Ideal) = k0_pay1 := rfl
theorem same10 : k0_pay10 (F := Ideal) = k0_pay1 := rfl

/-- A block of columns that a point stores. -/
theorem stored_at (o : ℕ) (h : ∀ a, (![0, o] : Fin 2 → ℕ) a + S1024x1024.size a ≤ S1024x8192.size a) (r : Fin 512) (c : Fin 1024) (c' : Fin 8192) (e : c'.val = o + c.val) :
    (k0_pay1 (k0_pay11 b0 b1 b2 b3 b4 b5) (View.ld b4 (Rect.unit (s := S1024x8192) ![0, o] S1024x1024.size h)) : FVec Ideal S512x1024 .bf16) (ix2 r c) =
      ∑ d : Fin 1024, normed (fun j => b0 (ix2 r j)) (b3 (ix2 (0 : Fin 1) d)) (b2 (ix3 (0 : Fin 1) (0 : Fin 1) d)) (b1 (ix3 (0 : Fin 1) (0 : Fin 1) d)) d * b4 (ix2 d c') :=
  (cols_at _ _ r c).trans (Finset.sum_congr (M := EReal) rfl fun d _ => congrArg₂ (· * ·) (loaded_at b0 b1 b2 b3 r d) (ld_w b4 o h d c c' e))

/-- The main output's block. -/
theorem main_block (r : Fin 512) (c : Fin 8192) : out0_6 b0 b1 b2 b3 b4 b5 (ix2 r c) =
    ∑ d : Fin 1024, normed (fun j => b0 (ix2 r j)) (b3 (ix2 (0 : Fin 1) d)) (b2 (ix3 (0 : Fin 1) (0 : Fin 1) d)) (b1 (ix3 (0 : Fin 1) (0 : Fin 1) d)) d * b4 (ix2 d c) := by
  have e5 : k0_pay5 (View.ld b0 r0_0) (View.ld b3 r0_1) (View.ld b1 r0_2) (View.ld b2 r0_2) (View.ld b4 r0_5) = k0_pay1 (k0_pay11 b0 b1 b2 b3 b4 b5) (View.ld b4 r0_5) := rfl
  unfold out0_6
  rw [e5, same2, same6, same7, same8, same9, same10]
  canon_tiles x h
  all_goals
    idx_vars x
    obtain rfl : r = x0 := Fin.ext (by omega)
    exact stored_at b0 b1 b2 b3 b4 b5 _ _ _ _ _ (by omega)

/-- The steps' block. -/
theorem steps_block (r : Fin 512) (c : Fin 128) : out0_7 b0 b1 b2 b3 b4 b5 (ix2 r c) =
    ∑ d : Fin 1024, normed (fun j => b0 (ix2 r j)) (b3 (ix2 (0 : Fin 1) d)) (b2 (ix3 (0 : Fin 1) (0 : Fin 1) d)) (b1 (ix3 (0 : Fin 1) (0 : Fin 1) d)) d * b5 (ix2 d c) := by
  unfold out0_7
  canon_tiles x h
  idx_vars x
  obtain rfl : r = x0 := Fin.ext (by omega)
  obtain rfl : c = x1 := Fin.ext (by omega)
  have z2 : (![0, 0] : Fin 2 → ℕ) = fun _ => 0 := by decide
  refine (steps_at _ _ _ _ _ _ _).trans (Finset.sum_congr (M := EReal) rfl fun d _ => congrArg₂ (· * ·) (loaded_at b0 b1 b2 b3 r d) ?_)
  rw [View.ld_unit_zero z2]

end

end Cert.Kernel2Ideal.Val
-- ==== Proof.InArrays.lean ====
module

public import proofs.«01_k».proof.Proof.Gen.Kernel2Ideal.Value
public import proofs.«01_k».proof.Proof.InEntry
public import proofs.«01_k».proof.Proof.InPoint

/-! # The input projection's run -/

@[expose] public section

set_option maxRecDepth 16384

noncomputable section

namespace Cert.Kernel2Ideal.Val

open Cert.Kernel2Ideal Cert.Kernel2Ideal.Gen Idealize.ShloMosaic Idealize.ShloMosaic.TcCoe Idealize.SL.Sem
open Idealize.ShloMosaic.Pipeline (Dat)
open Cert.Kernel2Ideal.Facts Inp

variable (m : (ℓ : Loc nD τ sig) → Buf (Elt Ideal) ℓ) (ρ : Dev nD → PrngReg) (c : Dev nD)

/-- The normalised rows of a point's blocks. -/
theorem normed_blk (t : Fin cfg0.N) (r : Fin 512) (d : Fin 1024) :
    normed (fun j => (iblk m c 0 t : Vec Ideal S512x1024 .f32) (ix2 r j)) ((iblk m c 3 t : Vec Ideal S1x1024 .f32) (ix2 (0 : Fin 1) d))
      ((iblk m c 2 t : Vec Ideal S1x1x1024 .f32) (ix3 (0 : Fin 1) (0 : Fin 1) d)) ((iblk m c 1 t : Vec Ideal S1x1x1024 .f32) (ix3 (0 : Fin 1) (0 : Fin 1) d)) d =
      n1 (argsAt m c) (seqOf (rowOf t r)) (posOf (rowOf t r)) d := by
  rw [blk1 m c t r d, blk2 m c t r d, blk3 m c t d, show (fun j => (iblk m c 0 t : Vec Ideal S512x1024 .f32) (ix2 r j)) = (argsAt m c).x (seqOf (rowOf t r)) (posOf (rowOf t r)) from
    funext fun j => blk0 m c t r j]
  rfl

/-- The main output that a point leaves. -/
theorem main_at (t : Fin cfg0.N) (r : Fin 512) (k : Fin 8192) :
    out0_6 (iblk m c 0 t) (iblk m c 1 t) (iblk m c 2 t) (iblk m c 3 t) (iblk m c 4 t) (iblk m c 5 t) (ix2 r k) = mainAt (argsAt m c) (rowOf t r) k :=
  (main_block _ _ _ _ _ _ r k).trans (Finset.sum_congr (M := EReal) rfl fun d _ => congrArg₂ (· * ·) (normed_blk m c t r d) (blk4 m c t d k))

/-- The steps that a point leaves. -/
theorem steps_out (t : Fin cfg0.N) (r : Fin 512) (k : Fin 128) :
    out0_7 (iblk m c 0 t) (iblk m c 1 t) (iblk m c 2 t) (iblk m c 3 t) (iblk m c 4 t) (iblk m c 5 t) (ix2 r k) = stepsAt (argsAt m c) (rowOf t r) k := by
  refine (steps_block _ _ _ _ _ _ r k).trans ((Finset.sum_congr (M := EReal) rfl fun d _ => congrArg₂ (· * ·) (normed_blk m c t r d) (blk5 m c t d k)).trans ?_)
  unfold stepsAt steps
  by_cases h : k.val < 32
  · rw [dif_pos h]
    refine Finset.sum_congr (M := EReal) rfl fun d _ => ?_
    rw [dif_pos h]
  · rw [dif_neg h]
    refine Finset.sum_eq_zero fun d _ => ?_
    rw [dif_neg h]
    exact mul_zero _

/-- The array of the main output. -/
def mainArr (A : Args) : Vec Ideal S32768x8192 .bf16 := fun i => mainAt A ⟨(i 0).val, (i 0).isLt⟩ ⟨(i 1).val, (i 1).isLt⟩

/-- Block `t` of that array starts at row `512 t`, and every point writes its block back. -/
theorem at6 : ∀ t : Fin cfg0.N, (cfg0.win 6).flush t = true ∧ win0_6.index t (0 : Fin 2) = t.val ∧ win0_6.index t (1 : Fin 2) = 0 :=
  (by decide +kernel : ∀ t : Fin grid0.N, _)

/-- What a point writes back is its block of the array. -/
theorem wrote6 (t : Fin cfg0.N) : (dats m 0 c).flushed 6 t = ((cfg0.win 6).blk t).view.read (Elt Ideal) (mainArr (argsAt m c)) := by
  rw [Value.flushed6]
  obtain ⟨-, e0, e1⟩ := at6 t
  funext y
  have hy0 : (y 0).val < 512 := (y 0).isLt
  have hy1 : (y 1).val < 8192 := (y 1).isLt
  have hx : (cfg0.win 6).xinj (grid0.coords t) y = (ix2 (⟨(y 0).val, hy0⟩ : Fin 512) (⟨(y 1).val, hy1⟩ : Fin 8192) : S512x8192.Idx) := funext fun a => by
    match a with
    | ⟨0, _⟩ => rfl
    | ⟨1, _⟩ => rfl
  show out0_6 (iblk m c 0 t) (iblk m c 1 t) (iblk m c 2 t) (iblk m c 3 t) (iblk m c 4 t) (iblk m c 5 t) ((cfg0.win 6).xinj (grid0.coords t) y) =
    mainArr (argsAt m c) (((cfg0.win 6).blk t).view.emb y)
  rw [hx]
  refine (main_at m c t ⟨(y 0).val, hy0⟩ ⟨(y 1).val, hy1⟩).trans (congrArg₂ (mainAt (argsAt m c)) (Fin.ext ?_) (Fin.ext ?_))
  · show 512 * t.val + (y 0).val = win0_6.index t (0 : Fin 2) * 512 + 1 * (y 0).val; omega
  · show (y 1).val = win0_6.index t (1 : Fin 2) * 8192 + 1 * (y 1).val; omega

/-- The blocks fill the array. -/
theorem fills6 (i : S32768x8192.Idx) : ∃ t : Fin cfg0.N, (cfg0.win 6).flush t = true ∧ i ∈ ((cfg0.win 6).blk t).view.set := by
  have h0 : (i 0).val < 32768 := (i 0).isLt
  have h1 : (i 1).val < 8192 := (i 1).isLt
  let t : Fin cfg0.N := ⟨(i 0).val / 512, lt_of_lt_of_eq (by omega) N_0.symm⟩
  obtain ⟨ef, e0, e1⟩ := at6 t
  have et : t.val = (i 0).val / 512 := rfl
  refine ⟨t, ef, ?_⟩
  show i ∈ ((View.whole main_v14_0).slice (win0_6.rect t)).set
  rw [View.set_slice_whole, Rect.mem_set_unit]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 8192 ≤ (i 1).val ∧ (i 1).val < win0_6.index t (1 : Fin 2) * 8192 + 8192; omega

/-- The array after the run. -/
theorem array6 : (dats m 0 c).arrAt 6 cfg0.N = mainArr (argsAt m c) :=
  (dats m 0 c).arrAt_eq_of_cover 6 _ (fun t _ => wrote6 m c t) fills6

/-- The array of the steps. -/
def stepsArr (A : Args) : Vec Ideal S32768x128 .f32 := fun i => stepsAt A ⟨(i 0).val, (i 0).isLt⟩ ⟨(i 1).val, (i 1).isLt⟩

/-- Block `t` of that array starts at row `512 t`, and every point writes its block back. -/
theorem at7 : ∀ t : Fin cfg0.N, (cfg0.win 7).flush t = true ∧ win0_7.index t (0 : Fin 2) = t.val ∧ win0_7.index t (1 : Fin 2) = 0 :=
  (by decide +kernel : ∀ t : Fin grid0.N, _)

/-- What a point writes back is its block of the array. -/
theorem wrote7 (t : Fin cfg0.N) : (dats m 0 c).flushed 7 t = ((cfg0.win 7).blk t).view.read (Elt Ideal) (stepsArr (argsAt m c)) := by
  rw [Value.flushed7]
  obtain ⟨-, e0, e1⟩ := at7 t
  funext y
  have hy0 : (y 0).val < 512 := (y 0).isLt
  have hy1 : (y 1).val < 128 := (y 1).isLt
  have hx : (cfg0.win 7).xinj (grid0.coords t) y = (ix2 (⟨(y 0).val, hy0⟩ : Fin 512) (⟨(y 1).val, hy1⟩ : Fin 128) : S512x128.Idx) := funext fun a => by
    match a with
    | ⟨0, _⟩ => rfl
    | ⟨1, _⟩ => rfl
  show out0_7 (iblk m c 0 t) (iblk m c 1 t) (iblk m c 2 t) (iblk m c 3 t) (iblk m c 4 t) (iblk m c 5 t) ((cfg0.win 7).xinj (grid0.coords t) y) =
    stepsArr (argsAt m c) (((cfg0.win 7).blk t).view.emb y)
  rw [hx]
  refine (steps_out m c t ⟨(y 0).val, hy0⟩ ⟨(y 1).val, hy1⟩).trans (congrArg₂ (stepsAt (argsAt m c)) (Fin.ext ?_) (Fin.ext ?_))
  · show 512 * t.val + (y 0).val = win0_7.index t (0 : Fin 2) * 512 + 1 * (y 0).val; omega
  · show (y 1).val = win0_7.index t (1 : Fin 2) * 128 + 1 * (y 1).val; omega

/-- The blocks fill the array. -/
theorem fills7 (i : S32768x128.Idx) : ∃ t : Fin cfg0.N, (cfg0.win 7).flush t = true ∧ i ∈ ((cfg0.win 7).blk t).view.set := by
  have h0 : (i 0).val < 32768 := (i 0).isLt
  have h1 : (i 1).val < 128 := (i 1).isLt
  let t : Fin cfg0.N := ⟨(i 0).val / 512, lt_of_lt_of_eq (by omega) N_0.symm⟩
  obtain ⟨ef, e0, e1⟩ := at7 t
  have et : t.val = (i 0).val / 512 := rfl
  refine ⟨t, ef, ?_⟩
  show i ∈ ((View.whole main_v14_1).slice (win0_7.rect t)).set
  rw [View.set_slice_whole, Rect.mem_set_unit]
  intro a
  match a with
  | ⟨0, _⟩ => show win0_7.index t (0 : Fin 2) * 512 ≤ (i 0).val ∧ (i 0).val < win0_7.index t (0 : Fin 2) * 512 + 512; omega
  | ⟨1, _⟩ => show win0_7.index t (1 : Fin 2) * 128 ≤ (i 1).val ∧ (i 1).val < win0_7.index t (1 : Fin 2) * 128 + 128; omega

/-- The array after the run. -/
theorem array7 : (dats m 0 c).arrAt 7 cfg0.N = stepsArr (argsAt m c) :=
  (dats m 0 c).arrAt_eq_of_cover 7 _ (fun t _ => wrote7 m c t) fills7

/-- The kernel's run leaves both arrays and keeps the arguments. -/
theorem kernel_run : θ_run defs (onTc (τ := τ) (main (F := Ideal))) ⟨m, fun _ => 0, ρ⟩ fun r => ∀ c : Dev nD,
    r.2.mem ((c : Thread nD τ).loc main_v14_0) = mainArr (argsAt m c)
      ∧ r.2.mem ((c : Thread nD τ).loc main_v14_1) = stepsArr (argsAt m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (array6 m c), (h c).2.1.trans (array7 m c), (h c).2.2⟩) (Value.run_blocks m ρ)

end Cert.Kernel2Ideal.Val
-- ==== Proof.InRef.lean ====
module

public import proofs.«01_k».proof.Proof.Gen.Reference2Ideal.Run
public import proofs.«01_k».proof.Proof.InSpec
public import Idealize.ShloMosaic.Lib.Pipeline.ValueKit

/-! # The input projection's reference -/

@[expose] public section

set_option maxRecDepth 16384

noncomputable section

namespace Cert.Reference2Ideal.Val

open Cert.Reference2Ideal Cert.Reference2Ideal.Gen Idealize.ShloMosaic Idealize.ShloMosaic.TcCoe Idealize.SL.Sem
open Cert.Reference2Ideal.Facts Inp

/-! ## The stages of the reference -/

section

variable (x : FVec Ideal S8x4096x1024 .f32) (sh sc : FVec Ideal S8x1024 .f32) (g : FVec Ideal S1x1024 .f32) (w : FVec Ideal S1x1024x8224 .f32)

/-- The reciprocal root of each row's mean square. -/
def invRms : FVec Ideal S8x4096x1 .f32 :=
  let total := Host.reduceAdd (mulf x x) (constant S_ .f32 0x00000000#32) reducesTo_S8x4096x1024_S8x4096_d2 h_S_
  let mean := Host.divf (broadcastInDim S8x4096x1 ![0, 1] bcast_S8x4096_S8x4096x1_0_1 total) (broadcastInDim S8x4096x1 ![] bcast_S_S8x4096x1 (constant S_ .f32 0x44800000#32))
  Host.rsqrt (addf mean (broadcastInDim S8x4096x1 ![] bcast_S_S8x4096x1 (constant S_ .f32 0x358637BD#32)))

/-- The rows of unit mean square, times the gain. -/
def gained : FVec Ideal S8x4096x1024 .f32 :=
  let unit := mulf x (broadcastInDim S8x4096x1024 ![0, 1, 2] bcast_S8x4096x1_S8x4096x1024_0_1_2 (invRms x))
  let gain := broadcastInDim S1x1x1024 ![2] bcast_S1024_S1x1x1024_2 (shapeCast S1024 g shapeCasts_S1x1024_S1024)
  mulf unit (broadcastInDim S8x4096x1024 ![0, 1, 2] bcast_S1x1x1024_S8x4096x1024_0_1_2 gain)

/-- One number per sequence and channel, for every position. -/
def everywhere (v : FVec Ideal S8x1x1024 .f32) : FVec Ideal S8x4096x1024 .f32 := broadcastInDim S8x4096x1024 ![0, 1, 2] bcast_S8x1x1024_S8x4096x1024_0_1_2 v

/-- The normalised input. -/
def nrm : FVec Ideal S8x4096x1024 .f32 :=
  let scale := addf (broadcastInDim S8x1x1024 ![] bcast_S_S8x1x1024 (constant S_ .f32 0x3F800000#32)) (broadcastInDim S8x1x1024 ![0, 2] bcast_S8x1024_S8x1x1024_0_2 sc)
  addf (mulf (gained x g) (everywhere scale)) (everywhere (broadcastInDim S8x1x1024 ![0, 2] bcast_S8x1024_S8x1x1024_0_2 sh))

/-- The projection, by row and column. -/
def flat : FVec Ideal S32768x8224 .f32 :=
  shapeCast S32768x8224 (Host.dotGeneral dot_S8x4096x1024_S1024x8224_S8x4096x8224_2_0_01_1_n_n none (nrm x sh sc g) (shapeCast S1024x8224 w shapeCasts_S1x1024x8224_S1024x8224) : FVec Ideal S8x4096x8224 .f32)
    shapeCasts_S8x4096x8224_S32768x8224

/-- The main output. -/
def mainOut (p : FVec Ideal S32768x8224 .f32) : FVec Ideal S32768x8192 .bf16 :=
  truncf .bf16 (concatenate S32768x8192 1
    [⟨S32768x2048, extractStridedSlice S32768x2048 ![0, 1024] p slices_S32768x8224_S32768x2048_0_1024⟩,
      ⟨S32768x1024, extractStridedSlice S32768x1024 ![0, 0] p slices_S32768x8224_S32768x1024_0_0⟩,
      ⟨S32768x5120, extractStridedSlice S32768x5120 ![0, 3104] p slices_S32768x8224_S32768x5120_0_3104⟩]
    concatenates_S32768x2048_S32768x1024_S32768x5120_S32768x8192_d1 : FVec Ideal S32768x8192 .f32) bitsLt_bf16_f32

/-- The steps' output. -/
def stepsOut (p : FVec Ideal S32768x8224 .f32) : FVec Ideal S32768x128 .f32 :=
  pad S32768x128 ![0, 0] ![0, 96] ![0, 0] (extractStridedSlice S32768x32 ![0, 3072] p slices_S32768x8224_S32768x32_0_3072) (sitofp .f32 (constantI S_ 32 0#32))
    pads_S32768x32_S32768x128_000_0960 h_S_

/-- The arguments' elements. -/
def argsOf : Args where
  x := fun b s d => x (ix3 b s d)
  sh := fun b d => sh (ix2 b d)
  sc := fun b d => sc (ix2 b d)
  g := fun d => g (ix2 (0 : Fin 1) d)
  w := fun d k => w (ix3 (0 : Fin 1) d k)

/-! ## The stages at an index -/

/-- The normalised input at an index. -/
theorem nrm_at (b : Fin 8) (s : Fin 4096) (d : Fin 1024) : nrm x sh sc g (ix3 b s d) = n1 (argsOf x sh sc g w) b s d := by
  pointwise [nrm, everywhere, gained, invRms, n1, normed, argsOf]

/-- The projection at an index. -/
theorem flat_at (r : Fin 32768) (k : Fin 8224) : flat x sh sc g w (ix2 r k) = proj (argsOf x sh sc g w) (seqOf r) (posOf r) k := by
  unfold flat
  refine (shapeCast_apply _ _ _ (ix3 (seqOf r) (posOf r) k) ?_).trans ?_
  · refine (Shape.rowMajor_val_three _).trans (Eq.trans ?_ (Shape.rowMajor_val_two _).symm)
    show (r.val / 4096 * 4096 + r.val % 4096) * 8224 + k.val = r.val * 8224 + k.val
    omega
  · pointwise
    refine Finset.sum_congr (M := EReal) rfl fun d _ => ?_
    exact congrArg (· * _) (nrm_at x sh sc g w (seqOf r) (posOf r) d)

/-- The main output at an index. -/
theorem mainOut_at (p : FVec Ideal S32768x8224 .f32) (r : Fin 32768) (k : Fin 8192) : mainOut p (ix2 r k) = p (ix2 r (src k)) := by
  pointwise [mainOut]
  unfold src
  by_cases h : k.val < 2048
  · rw [dif_pos h, dif_pos h]
  · rw [dif_neg h, dif_neg h]
    by_cases h' : k.val < 3072
    · rw [dif_pos (by omega), dif_pos h']
    · rw [dif_neg (by omega), dif_neg h']
      exact congrArg (fun j => p (ix2 r j)) (Fin.ext (by show 3104 + (k.val - 2048 - 1024) = 32 + k.val; omega))

/-- The whole number zero, as a number. -/
theorem zero_number : (FloatOps.sitofp .f32 0#32 : Ideal .f32) = (0 : EReal) := by
  show (((0#32 : BitVec 32).toInt : ℝ) : EReal) = 0
  rw [show (0#32 : BitVec 32).toInt = 0 from rfl, Int.cast_zero]
  rfl

/-- The steps' output at an index. -/
theorem stepsOut_at (p : FVec Ideal S32768x8224 .f32) (r : Fin 32768) (k : Fin 128) :
    stepsOut p (ix2 r k) = if h : k.val < 32 then p (ix2 r ⟨3072 + k.val, by omega⟩) else (0 : EReal) := by
  pointwise [stepsOut]
  by_cases h : k.val < 32
  · rw [dif_pos h, dif_pos h]
  · rw [dif_neg h, dif_neg h]
    exact zero_number

end

/-! ## The run -/

variable (m : (ℓ : Loc nD τ sig) → Buf (Elt Ideal) ℓ) (ρ : Dev nD → PrngReg)

/-- The projection from the memory. -/
def flatAt (c : Dev nD) : FVec Ideal S32768x8224 .f32 :=
  flat (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4))

/-- The arguments' elements, from the memory. -/
def argsAt (c : Dev nD) : Args :=
  argsOf (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4))

/-- The reference's run leaves both outputs at their values and keeps the arguments. -/
theorem reference_run : θ_run defs (onTc (τ := τ) (main (F := Ideal))) ⟨m, fun _ => 0, ρ⟩ fun r => ∀ c : Dev nD,
    (∀ (i : Fin 32768) (k : Fin 8192), (r.2.mem ((c.tc : Thread nD τ).loc main_v30) : Vec Ideal S32768x8192 .bf16) (ix2 i k) = mainAt (argsAt m c) i k)
      ∧ (∀ (i : Fin 32768) (k : Fin 128), (r.2.mem ((c.tc : Thread nD τ).loc main_v31) : Vec Ideal S32768x128 .f32) (ix2 i k) = stepsAt (argsAt m c) i k)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨?_, ?_, (h c).2.2⟩) (Value.run m ρ)
  · intro i k
    rw [show r.2.mem ((c.tc : Thread nD τ).loc main_v30) = mainOut (flatAt m c) from (h c).1]
    exact (mainOut_at _ i k).trans (flat_at _ _ _ _ _ i (src k))
  · intro i k
    rw [show r.2.mem ((c.tc : Thread nD τ).loc main_v31) = stepsOut (flatAt m c) from (h c).2.1]
    refine (stepsOut_at _ i k).trans ?_
    unfold stepsAt steps
    by_cases e : k.val < 32
    · rw [dif_pos e, dif_pos e]
      exact flat_at _ _ _ _ _ i _
    · rw [dif_neg e, dif_neg e]

end Cert.Reference2Ideal.Val
-- ==== Proof.MixRun.lean ====
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

set_option maxHeartbeats 20000000 in
/-- The body's run on one core. It reads the fourteen input blocks and leaves them as they are, and it stores the new hidden rows and the
1024 tiles of key scores. What its two output blocks hold at the end is found by running it. -/
def body_run (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1024x2048 .bf16) (harg13 : arg13.IsWhole) (arg14 : Memref sig .tc .vmem S2x128x128 .bf16) (harg14 : arg14.IsWhole) (arg15 : Memref sig .tc .vmem S512x1024 .f32) (harg15 : arg15.IsWhole) (arg16 : Memref sig .tc .vmem S16x16x32x128 .f32) (harg16 : arg16.IsWhole)
    (f0 : Buf (Elt F) (arg1.view.loc (c : Thread nD τ))) (f1 : Buf (Elt F) (arg2.view.loc (c : Thread nD τ))) (f2 : Buf (Elt F) (arg3.view.loc (c : Thread nD τ))) (f3 : Buf (Elt F) (arg4.view.loc (c : Thread nD τ))) (f4 : Buf (Elt F) (arg5.view.loc (c : Thread nD τ))) (f5 : Buf (Elt F) (arg6.view.loc (c : Thread nD τ))) (f6 : Buf (Elt F) (arg7.view.loc (c : Thread nD τ))) (f7 : Buf (Elt F) (arg8.view.loc (c : Thread nD τ))) (f8 : Buf (Elt F) (arg9.view.loc (c : Thread nD τ))) (f9 : Buf (Elt F) (arg10.view.loc (c : Thread nD τ))) (f10 : Buf (Elt F) (arg11.view.loc (c : Thread nD τ))) (f11 : Buf (Elt F) (arg12.view.loc (c : Thread nD τ))) (f12 : Buf (Elt F) (arg13.view.loc (c : Thread nD τ))) (f13 : Buf (Elt F) (arg14.view.loc (c : Thread nD τ))) (f14 : Buf (Elt F) (arg15.view.loc (c : Thread nD τ))) (f15 : Buf (Elt F) (arg16.view.loc (c : Thread nD τ))) :
    { W : Buf (Elt F) (arg15.view.loc (c : Thread nD τ)) × Buf (Elt F) (arg16.view.loc (c : Thread nD τ)) //
      ∀ (E : Set ℕ) (K : PUnit → sProp 𝕄),
        iprop((arg1.view.loc (c : Thread nD τ) ↦{fullShare} f0) ∗ (arg2.view.loc (c : Thread nD τ) ↦{fullShare} f1) ∗ (arg3.view.loc (c : Thread nD τ) ↦{fullShare} f2) ∗ (arg4.view.loc (c : Thread nD τ) ↦{fullShare} f3) ∗ (arg5.view.loc (c : Thread nD τ) ↦{fullShare} f4) ∗ (arg6.view.loc (c : Thread nD τ) ↦{fullShare} f5) ∗ (arg7.view.loc (c : Thread nD τ) ↦{fullShare} f6) ∗ (arg8.view.loc (c : Thread nD τ) ↦{fullShare} f7) ∗ (arg9.view.loc (c : Thread nD τ) ↦{fullShare} f8) ∗ (arg10.view.loc (c : Thread nD τ) ↦{fullShare} f9) ∗ (arg11.view.loc (c : Thread nD τ) ↦{fullShare} f10) ∗ (arg12.view.loc (c : Thread nD τ) ↦{fullShare} f11) ∗ (arg13.view.loc (c : Thread nD τ) ↦{fullShare} f12) ∗ (arg14.view.loc (c : Thread nD τ) ↦{fullShare} f13) ∗ (arg15.view.loc (c : Thread nD τ) ↦{fullShare} f14) ∗ (arg16.view.loc (c : Thread nD τ) ↦{fullShare} f15)
          ∗ (iprop((arg1.view.loc (c : Thread nD τ) ↦{fullShare} f0) ∗ (arg2.view.loc (c : Thread nD τ) ↦{fullShare} f1) ∗ (arg3.view.loc (c : Thread nD τ) ↦{fullShare} f2) ∗ (arg4.view.loc (c : Thread nD τ) ↦{fullShare} f3) ∗ (arg5.view.loc (c : Thread nD τ) ↦{fullShare} f4) ∗ (arg6.view.loc (c : Thread nD τ) ↦{fullShare} f5) ∗ (arg7.view.loc (c : Thread nD τ) ↦{fullShare} f6) ∗ (arg8.view.loc (c : Thread nD τ) ↦{fullShare} f7) ∗ (arg9.view.loc (c : Thread nD τ) ↦{fullShare} f8) ∗ (arg10.view.loc (c : Thread nD τ) ↦{fullShare} f9) ∗ (arg11.view.loc (c : Thread nD τ) ↦{fullShare} f10) ∗ (arg12.view.loc (c : Thread nD τ) ↦{fullShare} f11) ∗ (arg13.view.loc (c : Thread nD τ) ↦{fullShare} f12) ∗ (arg14.view.loc (c : Thread nD τ) ↦{fullShare} f13) ∗ (arg15.view.loc (c : Thread nD τ) ↦{fullShare} W.1) ∗ (arg16.view.loc (c : Thread nD τ) ↦{fullShare} W.2)) -∗ K ⟨⟩))
        ⊢ wp frame (wpE (defs₀ (F := F)) Variants.none c none) E (cc0_mix i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨⟨?_, ?_⟩, fun E K => ?run⟩
  case run =>
    iintro ⟨H0, H1, H2, H3, H4, H5, H6, H7, H8, H9, H10, H11, H12, H13, H14, H15, Hk⟩
    simp only [cc0_mix_eq_skeleton]; unfold cc0_mix_skel
    sl_exec_parts
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

end Cert.Kernel3Ideal.Gen

end
-- ==== Proof.MixTile.lean ====
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.ReadBack
public import Idealize.ShloMosaic.Lib.Pipeline.ValueKit
public import Idealize.ShloMosaic.Lib.WritesUnit

/-! # What one point of the mixing leaves in its two output blocks -/

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The gated sum of a point's two branches. -/
def mixedV (x1 : Vec F S512x1024 .bf16) (x2 : Vec F S512x1024 .bf16) (x3 : Vec F S512x1024 .bf16) (x4 : Vec F S512x1024 .bf16) (x9 : Vec F S1024x1024 .bf16) (x10 : Vec F S1024x1024 .bf16) : FVec F S512x1024 .bf16 :=
  k0_pay5 (View.ld x1 (Rect.unit (s := S512x1024) ![0, 0] S512x1024.size inb_S512x1024_S512x1024_0_0)) (View.ld x9 (Rect.unit (s := S1024x1024) ![0, 0] S1024x1024.size inb_S1024x1024_S1024x1024_0_0)) (View.ld x2 (Rect.unit (s := S512x1024) ![0, 0] S512x1024.size inb_S512x1024_S512x1024_0_0)) (View.ld x10 (Rect.unit (s := S1024x1024) ![0, 0] S1024x1024.size inb_S1024x1024_S1024x1024_0_0)) (View.ld x3 (Rect.unit (s := S512x1024) ![0, 0] S512x1024.size inb_S512x1024_S512x1024_0_0)) (View.ld x4 (Rect.unit (s := S512x1024) ![0, 0] S512x1024.size inb_S512x1024_S512x1024_0_0))

/-- A point's new hidden rows: its input rows plus the projected sum of its branches. -/
def hidV (x0 : Vec F S512x1024 .f32) (x1 : Vec F S512x1024 .bf16) (x2 : Vec F S512x1024 .bf16) (x3 : Vec F S512x1024 .bf16) (x4 : Vec F S512x1024 .bf16) (x5 : Vec F S1x1x1024 .f32) (x9 : Vec F S1024x1024 .bf16) (x10 : Vec F S1024x1024 .bf16) (x11 : Vec F S1024x1024 .bf16) : FVec F S512x1024 .f32 :=
  k0_pay6 (k0_pay3 (View.ld x0 (Rect.unit (s := S512x1024) ![0, 0] S512x1024.size inb_S512x1024_S512x1024_0_0))) (k0_pay4 (View.ld x5 (Rect.unit (s := S1x1x1024) ![0, 0, 0] S1x1x1024.size inb_S1x1x1024_S1x1x1024_0_0_0))) (mixedV x1 x2 x3 x4 x9 x10) (View.ld x11 (Rect.unit (s := S1024x1024) ![0, 0] S1024x1024.size inb_S1024x1024_S1024x1024_0_0))

/-- A point's queries. -/
def queryV (x0 : Vec F S512x1024 .f32) (x1 : Vec F S512x1024 .bf16) (x2 : Vec F S512x1024 .bf16) (x3 : Vec F S512x1024 .bf16) (x4 : Vec F S512x1024 .bf16) (x5 : Vec F S1x1x1024 .f32) (x6 : Vec F S1x1x1024 .f32) (x7 : Vec F S1x1x1024 .f32) (x8 : Vec F S1x1024 .f32) (x9 : Vec F S1024x1024 .bf16) (x10 : Vec F S1024x1024 .bf16) (x11 : Vec F S1024x1024 .bf16) (x12 : Vec F S1024x2048 .bf16) : FVec F S512x2048 .bf16 :=
  k0_pay7 (k0_pay3 (View.ld x0 (Rect.unit (s := S512x1024) ![0, 0] S512x1024.size inb_S512x1024_S512x1024_0_0))) (k0_pay4 (View.ld x5 (Rect.unit (s := S1x1x1024) ![0, 0, 0] S1x1x1024.size inb_S1x1x1024_S1x1x1024_0_0_0))) (mixedV x1 x2 x3 x4 x9 x10) (View.ld x11 (Rect.unit (s := S1024x1024) ![0, 0] S1024x1024.size inb_S1024x1024_S1024x1024_0_0)) (View.ld x8 (Rect.unit (s := S1x1024) ![0, 0] S1x1024.size inb_S1x1024_S1x1024_0_0)) (View.ld x6 (Rect.unit (s := S1x1x1024) ![0, 0, 0] S1x1x1024.size inb_S1x1x1024_S1x1x1024_0_0_0)) (View.ld x7 (Rect.unit (s := S1x1x1024) ![0, 0, 0] S1x1x1024.size inb_S1x1x1024_S1x1x1024_0_0_0)) (View.ld x12 (Rect.unit (s := S1024x2048) ![0, 0] S1024x2048.size inb_S1024x2048_S1024x2048_0_0))

/-- A head's half of the queries lies in the row of all the queries. -/
theorem head_slices (z : Fin 16) : S512x2048.Slices ![0, 128 * z.val] S512x128 := by
  revert z; decide

/-- Each half of the keys lies in the block of both. -/
theorem half_inb (z : Fin 16) : ∀ a, (![z.val % 2, 0, 0] : Fin 3 → ℕ) a + S1x128x128.size a ≤ S2x128x128.size a := by
  revert z; decide

/-- The scores of a head's half: its half of the keys against its part of the queries. -/
def headV (q : FVec F S512x2048 .bf16) (ks : Vec F S2x128x128 .bf16) (z : Fin 16) : FVec F S128x512 .f32 :=
  k0_pay9 (extractStridedSlice S512x128 ![0, 128 * z.val] q (head_slices z)) (View.ld ks (Rect.unit (s := S2x128x128) ![z.val % 2, 0, 0] S1x128x128.size (half_inb z)))

/-- Sixteen tables of scores laid out in tiles of eight keys by 128 rows. -/
def laidV (H : Fin 16 → FVec F S128x512 .f32) : Vec F S16x16x32x128 .f32 := fun y =>
  H (y 0) (ix2 ⟨(y 1).val * 8 + (y 2).val % 8, by have := (y 1).isLt; change _ < 16 at this; omega⟩
    ⟨(y 2).val / 8 * 128 + (y 3).val, by have := (y 2).isLt; change _ < 32 at this; have := (y 3).isLt; change _ < 128 at this; omega⟩)

/-- A tile read off its table is that part of the layout. -/
theorem tile_laid (H : Fin 16 → FVec F S128x512 .f32) (z : Fin 16) (b i : ℕ) (y : S16x16x32x128.Idx) (x : S1x1x8x128.Idx)
    (hs : S128x512.Slices ![b * 8, i * 16] S8x128) (hc : S8x128.ShapeCasts S1x1x8x128) (hi : i % 8 = 0)
    (hx : ∀ a, (y a).val = (![z.val, b, i, 0] : Fin 4 → ℕ) a + (x a).val) :
    shapeCast S1x1x8x128 (extractStridedSlice S8x128 ![b * 8, i * 16] (H z) hs) hc x = laidV H y := by
  obtain ⟨p, r, rfl⟩ : ∃ (p : Fin 8) (r : Fin 128), x = ix4 (0 : Fin 1) (0 : Fin 1) p r := ⟨x 2, x 3, funext fun j => by
    match j with
    | ⟨0, _⟩ => exact Fin.ext (by have h : (x 0).val < 1 := (x 0).isLt; show (x 0).val = 0; omega)
    | ⟨1, _⟩ => exact Fin.ext (by have h : (x 1).val < 1 := (x 1).isLt; show (x 1).val = 0; omega)
    | ⟨2, _⟩ => rfl
    | ⟨3, _⟩ => rfl⟩
  have h0 : (y 0).val = z.val + 0 := hx 0
  have h1 : (y 1).val = b + 0 := hx 1
  have h2 : (y 2).val = i + p.val := hx 2
  have h3 : (y 3).val = 0 + r.val := hx 3
  have l1 : (y 1).val < 16 := (y 1).isLt
  have l2 : (y 2).val < 32 := (y 2).isLt
  have ez : y 0 = z := Fin.ext (by omega)
  have e : shapeCast S1x1x8x128 (extractStridedSlice S8x128 ![b * 8, i * 16] (H z) hs) hc (ix4 (0 : Fin 1) (0 : Fin 1) p r) =
      H z (ix2 ⟨b * 8 + p.val, by omega⟩ ⟨i * 16 + r.val, by omega⟩) := by
    pointwise
  refine e.trans ?_
  unfold laidV
  rw [ez]
  congr 2
  · exact Fin.ext (by show b * 8 + p.val = (y 1).val * 8 + (y 2).val % 8; omega)
  · exact Fin.ext (by show i * 16 + r.val = (y 2).val / 8 * 128 + (y 3).val; omega)

/-- Every tile lies in its table. -/
theorem tile_slices (b : Fin 16) (t : Fin 4) : S128x512.Slices ![b.val * 8, 8 * t.val * 16] S8x128 := by
  revert b t; decide

section Tiles

variable {sig' : RefSig} {κ : Kind} {sp : Space}

/-- After the stores `L` over `f`, every tile listed in `T` holds its part of the layout of the tables `H`. -/
def Tiled (v : View sig' κ sp S16x16x32x128 .f32) (f : v.ty.Contents (Elt F)) (H : Fin 16 → FVec F S128x512 .f32)
    (L : List (View.Piece (Elt F) S16x16x32x128 .f32)) (T : List (ℕ × ℕ × ℕ)) : Prop :=
  ∀ y : S16x16x32x128.Idx, ((y 0).val, (y 1).val, (y 2).val / 8) ∈ T → v.read (Elt F) (v.writes (Elt F) f L) y = laidV H y

/-- No tile is claimed before the first store. -/
theorem Tiled.nil (v : View sig' κ sp S16x16x32x128 .f32) (f : v.ty.Contents (Elt F)) (H : Fin 16 → FVec F S128x512 .f32) : Tiled v f H [] [] :=
  fun _ h => absurd h List.not_mem_nil

/-- Storing a table's tile in its place adds that tile to the list. -/
theorem Tiled.cons {v : View sig' κ sp S16x16x32x128 .f32} {f : v.ty.Contents (Elt F)} {H : Fin 16 → FVec F S128x512 .f32}
    {L : List (View.Piece (Elt F) S16x16x32x128 .f32)} {T : List (ℕ × ℕ × ℕ)} (z : Fin 16) {b i : ℕ}
    {inb : ∀ a, (![z.val, b, i, 0] : Fin 4 → ℕ) a + S1x1x8x128.size a ≤ S16x16x32x128.size a}
    {w : (Rect.unit (s := S16x16x32x128) ![z.val, b, i, 0] S1x1x8x128.size inb).shape.Idx → Elt F .f32}
    (hw : ∀ (hs : S128x512.Slices ![b * 8, i * 16] S8x128) (hc : S8x128.ShapeCasts S1x1x8x128), w = shapeCast S1x1x8x128 (extractStridedSlice S8x128 ![b * 8, i * 16] (H z) hs) hc) (hi : i % 8 = 0) (hL : Tiled v f H L T) :
    Tiled v f H ((⟨Rect.unit (s := S16x16x32x128) ![z.val, b, i, 0] S1x1x8x128.size inb, w⟩ : View.Piece (Elt F) S16x16x32x128 .f32) :: L) ((z.val, b, i / 8) :: T) := by
  intro y hy
  rw [View.read_writes_cons_unit v f inb w L y rfl]
  split_ifs with h
  · have hb : b + 1 ≤ 16 := inb (1 : Fin 4)
    have hi' : i + 8 ≤ 32 := inb (2 : Fin 4)
    have hs : S128x512.Slices ![b * 8, i * 16] S8x128 := by
      have e : i = 8 * (i / 8) := by omega
      rw [e]
      exact tile_slices ⟨b, by omega⟩ ⟨i / 8, by omega⟩
    have hc : S8x128.ShapeCasts S1x1x8x128 := by decide
    rw [hw hs hc]
    refine tile_laid H z b i y _ hs hc hi fun a => ?_
    have := h a
    rw [Rect.unitLocal_val]
    omega
  · refine hL y ?_
    rcases List.mem_cons.mp hy with e | e
    · refine absurd (fun a => ?_) h
      have e0 : (y 0).val = z.val := congrArg Prod.fst e
      have e1 : (y 1).val = b := congrArg (fun p => p.2.1) e
      have e2 : (y 2).val / 8 = i / 8 := congrArg (fun p => p.2.2) e
      have l3 : (y 3).val < 128 := (y 3).isLt
      match a with
      | ⟨0, _⟩ => show z.val ≤ (y 0).val ∧ (y 0).val < z.val + 1; omega
      | ⟨1, _⟩ => show b ≤ (y 1).val ∧ (y 1).val < b + 1; omega
      | ⟨2, _⟩ => show i ≤ (y 2).val ∧ (y 2).val < i + 8; omega
      | ⟨3, _⟩ => show 0 ≤ (y 3).val ∧ (y 3).val < 0 + 128; omega
    · exact e

/-- With every tile in the list, the block holds the whole layout. -/
theorem Tiled.all {v : View sig' κ sp S16x16x32x128 .f32} {f : v.ty.Contents (Elt F)} {H : Fin 16 → FVec F S128x512 .f32}
    {L : List (View.Piece (Elt F) S16x16x32x128 .f32)} {T : List (ℕ × ℕ × ℕ)} (h : Tiled v f H L T)
    (hT : ∀ z < 16, ∀ b < 16, ∀ t < 4, (z, b, t) ∈ T) : v.read (Elt F) (v.writes (Elt F) f L) = laidV H :=
  funext fun y => h y (hT _ (y 0).isLt _ (y 1).isLt _ (by have h : (y 2).val < 32 := (y 2).isLt; omega))

end Tiles

/-- A point's scores, laid out in tiles. -/
def scoreV (x0 : Vec F S512x1024 .f32) (x1 : Vec F S512x1024 .bf16) (x2 : Vec F S512x1024 .bf16) (x3 : Vec F S512x1024 .bf16) (x4 : Vec F S512x1024 .bf16) (x5 : Vec F S1x1x1024 .f32) (x6 : Vec F S1x1x1024 .f32) (x7 : Vec F S1x1x1024 .f32) (x8 : Vec F S1x1024 .f32) (x9 : Vec F S1024x1024 .bf16) (x10 : Vec F S1024x1024 .bf16) (x11 : Vec F S1024x1024 .bf16) (x12 : Vec F S1024x2048 .bf16) (x13 : Vec F S2x128x128 .bf16) : Vec F S16x16x32x128 .f32 :=
  laidV (headV (queryV x0 x1 x2 x3 x4 x5 x6 x7 x8 x9 x10 x11 x12) x13)

end Cert.Kernel3Ideal.Gen
-- ==== Proof.MixLaunch.lean ====
module

public import proofs.«01_k».proof.Proof.MixTile
public import Idealize.ShloMosaic.Lib.Pipeline.FrameBody
public import Idealize.ShloMosaic.Lib.Claim
public import Idealize.ShloMosaic.Lib.Ring
public import Idealize.ShloMosaic.Lib.Tactic

/-! # The mixing's launch, from what its body does on one core -/

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's buffers when the launch begins. -/
abbrev V (c : Dev nD) (b : Ref sig .tc) : Buf (Elt F) ((c : Thread nD τ).loc b) := StableHlo.after hostOps0 (fun b => m (c, b)) b

/-- The operations before the launch make no buffer of their own. -/
theorem host_fresh : (hostOps0 : List (HloOp τ sig (Elt F))).Forall fun op => op.fresh = ∅ := by
  simp only [List.Forall]; repeat' constructor

set_option maxHeartbeats 800000 in
/-- The program runs the operations before the launch and then launches. -/
theorem host_main (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub host_fresh main_chain

/-- Argument 0 is still as it came when the launch begins. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall,
      StableHlo.unary_writes, StableHlo.reshape_writes, Finset.mem_singleton]
    repeat' apply And.intro
    all_goals exact StableHlo.devRef_ne_of_ne (by decide)))

/-- Argument 1 is still as it came when the launch begins. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall,
      StableHlo.unary_writes, StableHlo.reshape_writes, Finset.mem_singleton]
    repeat' apply And.intro
    all_goals exact StableHlo.devRef_ne_of_ne (by decide)))

/-- Argument 2 is still as it came when the launch begins. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall,
      StableHlo.unary_writes, StableHlo.reshape_writes, Finset.mem_singleton]
    repeat' apply And.intro
    all_goals exact StableHlo.devRef_ne_of_ne (by decide)))

/-- Argument 3 is still as it came when the launch begins. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall,
      StableHlo.unary_writes, StableHlo.reshape_writes, Finset.mem_singleton]
    repeat' apply And.intro
    all_goals exact StableHlo.devRef_ne_of_ne (by decide)))

/-- Argument 4 is still as it came when the launch begins. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall,
      StableHlo.unary_writes, StableHlo.reshape_writes, Finset.mem_singleton]
    repeat' apply And.intro
    all_goals exact StableHlo.devRef_ne_of_ne (by decide)))

/-- Argument 5 is still as it came when the launch begins. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall,
      StableHlo.unary_writes, StableHlo.reshape_writes, Finset.mem_singleton]
    repeat' apply And.intro
    all_goals exact StableHlo.devRef_ne_of_ne (by decide)))

/-- Argument 6 is still as it came when the launch begins. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append, List.nil_append, List.Forall,
      StableHlo.unary_writes, StableHlo.reshape_writes, Finset.mem_singleton]
    repeat' apply And.intro
    all_goals exact StableHlo.devRef_ne_of_ne (by decide)))

/-- Argument 7 is still as it came when the launch begins. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append, List.nil_append, List.Forall,
      StableHlo.unary_writes, StableHlo.reshape_writes, Finset.mem_singleton]
    repeat' apply And.intro
    all_goals exact StableHlo.devRef_ne_of_ne (by decide)))

/-- Argument 8 is still as it came when the launch begins. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append, List.nil_append, List.Forall,
      StableHlo.unary_writes, StableHlo.reshape_writes, Finset.mem_singleton]
    repeat' apply And.intro
    all_goals exact StableHlo.devRef_ne_of_ne (by decide)))

/-- Argument 9 is still as it came when the launch begins. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append, List.nil_append, List.Forall,
      StableHlo.unary_writes, StableHlo.reshape_writes, Finset.mem_singleton]
    repeat' apply And.intro
    all_goals exact StableHlo.devRef_ne_of_ne (by decide)))

/-- Argument 10 is still as it came when the launch begins. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append, List.nil_append, List.Forall,
      StableHlo.unary_writes, StableHlo.reshape_writes, Finset.mem_singleton]
    repeat' apply And.intro
    all_goals exact StableHlo.devRef_ne_of_ne (by decide)))

/-- Argument 11 is still as it came when the launch begins. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append, List.nil_append, List.Forall,
      StableHlo.unary_writes, StableHlo.reshape_writes, Finset.mem_singleton]
    repeat' apply And.intro
    all_goals exact StableHlo.devRef_ne_of_ne (by decide)))

/-- Argument 12 is still as it came when the launch begins. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append, List.nil_append, List.Forall,
      StableHlo.unary_writes, StableHlo.reshape_writes, Finset.mem_singleton]
    repeat' apply And.intro
    all_goals exact StableHlo.devRef_ne_of_ne (by decide)))

/-- The block that window `w` brings to point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- What the launch keeps track of on a core: the arrays as the launch finds them, and each window's block after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => hidV (iblk m c 0 t) (iblk m c 1 t) (iblk m c 2 t) (iblk m c 3 t) (iblk m c 4 t) (iblk m c 5 t) (iblk m c 9 t) (iblk m c 10 t) (iblk m c 11 t)
    | ⟨15, _⟩ => scoreV (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨_ + 16, h⟩ => absurd h (Nat.not_lt.2 (Nat.le_add_left _ _))
  Φ _ := Pipeline.ΦA spec0 c
  q w := Pipeline.shareOf spec0 w
  owed _ := 0

/-- The arrays it begins with are those the launch finds. -/
theorem A_eq (c : Dev nD) (w : Fin cfg0.W) : (dats m 0 c).A w = V m c (Pipeline.arrRef spec0 w) := by
  dsimp only [dats]

/-- Every point leaves window 0's block as it is. -/
theorem after0_0 (c : Dev nD) (t : Fin cfg0.N) : (dats m 0 c).after 0 t = iblk m c 0 t := by dsimp only [dats]

/-- Every point finds window 0's block in its buffer. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)

/-- Every point leaves window 1's block as it is. -/
theorem after0_1 (c : Dev nD) (t : Fin cfg0.N) : (dats m 0 c).after 1 t = iblk m c 1 t := by dsimp only [dats]

/-- Every point finds window 1's block in its buffer. -/
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)

/-- Every point leaves window 2's block as it is. -/
theorem after0_2 (c : Dev nD) (t : Fin cfg0.N) : (dats m 0 c).after 2 t = iblk m c 2 t := by dsimp only [dats]

/-- Every point finds window 2's block in its buffer. -/
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

/-- Every point leaves window 3's block as it is. -/
theorem after0_3 (c : Dev nD) (t : Fin cfg0.N) : (dats m 0 c).after 3 t = iblk m c 3 t := by dsimp only [dats]

/-- Every point finds window 3's block in its buffer. -/
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

/-- Every point leaves window 4's block as it is. -/
theorem after0_4 (c : Dev nD) (t : Fin cfg0.N) : (dats m 0 c).after 4 t = iblk m c 4 t := by dsimp only [dats]

/-- Every point finds window 4's block in its buffer. -/
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)

/-- Every point leaves window 5's block as it is. -/
theorem after0_5 (c : Dev nD) (t : Fin cfg0.N) : (dats m 0 c).after 5 t = iblk m c 5 t := by dsimp only [dats]

/-- Every point finds window 5's block in its buffer. -/
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)

/-- Every point leaves window 6's block as it is. -/
theorem after0_6 (c : Dev nD) (t : Fin cfg0.N) : (dats m 0 c).after 6 t = iblk m c 6 t := by dsimp only [dats]

/-- Every point finds window 6's block in its buffer. -/
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)

/-- Every point leaves window 7's block as it is. -/
theorem after0_7 (c : Dev nD) (t : Fin cfg0.N) : (dats m 0 c).after 7 t = iblk m c 7 t := by dsimp only [dats]

/-- Every point finds window 7's block in its buffer. -/
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)

/-- Every point leaves window 8's block as it is. -/
theorem after0_8 (c : Dev nD) (t : Fin cfg0.N) : (dats m 0 c).after 8 t = iblk m c 8 t := by dsimp only [dats]

/-- Every point finds window 8's block in its buffer. -/
theorem before0_8 (c : Dev nD) (t : Fin cfg0.N) (d) : (dats m 0 c).before 8 t d = iblk m c 8 t :=
  ((dats m 0 c).before_in_eq_fetched 8 rfl (fun _ => rfl) (fun _ _ _ => rfl) (fun t => by rw [after0_8]; unfold Dat.blockOf iblk; rw [A_eq]; try rfl) t d).trans
    (by unfold Dat.fetched Dat.blockOf iblk; rw [A_eq]; try rfl)

/-- Every point leaves window 9's block as it is. -/
theorem after0_9 (c : Dev nD) (t : Fin cfg0.N) : (dats m 0 c).after 9 t = iblk m c 9 t := by dsimp only [dats]

/-- Every point finds window 9's block in its buffer. -/
theorem before0_9 (c : Dev nD) (t : Fin cfg0.N) (d) : (dats m 0 c).before 9 t d = iblk m c 9 t :=
  ((dats m 0 c).before_in_eq_fetched 9 rfl (fun _ => rfl) (fun _ _ _ => rfl) (fun t => by rw [after0_9]; unfold Dat.blockOf iblk; rw [A_eq]; try rfl) t d).trans
    (by unfold Dat.fetched Dat.blockOf iblk; rw [A_eq]; try rfl)

/-- Every point leaves window 10's block as it is. -/
theorem after0_10 (c : Dev nD) (t : Fin cfg0.N) : (dats m 0 c).after 10 t = iblk m c 10 t := by dsimp only [dats]

/-- Every point finds window 10's block in its buffer. -/
theorem before0_10 (c : Dev nD) (t : Fin cfg0.N) (d) : (dats m 0 c).before 10 t d = iblk m c 10 t :=
  ((dats m 0 c).before_in_eq_fetched 10 rfl (fun _ => rfl) (fun _ _ _ => rfl) (fun t => by rw [after0_10]; unfold Dat.blockOf iblk; rw [A_eq]; try rfl) t d).trans
    (by unfold Dat.fetched Dat.blockOf iblk; rw [A_eq]; try rfl)

/-- Every point leaves window 11's block as it is. -/
theorem after0_11 (c : Dev nD) (t : Fin cfg0.N) : (dats m 0 c).after 11 t = iblk m c 11 t := by dsimp only [dats]

/-- Every point finds window 11's block in its buffer. -/
theorem before0_11 (c : Dev nD) (t : Fin cfg0.N) (d) : (dats m 0 c).before 11 t d = iblk m c 11 t :=
  ((dats m 0 c).before_in_eq_fetched 11 rfl (fun _ => rfl) (fun _ _ _ => rfl) (fun t => by rw [after0_11]; unfold Dat.blockOf iblk; rw [A_eq]; try rfl) t d).trans
    (by unfold Dat.fetched Dat.blockOf iblk; rw [A_eq]; try rfl)

/-- Every point leaves window 12's block as it is. -/
theorem after0_12 (c : Dev nD) (t : Fin cfg0.N) : (dats m 0 c).after 12 t = iblk m c 12 t := by dsimp only [dats]

/-- Every point finds window 12's block in its buffer. -/
theorem before0_12 (c : Dev nD) (t : Fin cfg0.N) (d) : (dats m 0 c).before 12 t d = iblk m c 12 t :=
  ((dats m 0 c).before_in_eq_fetched 12 rfl (fun _ => rfl) (fun _ _ _ => rfl) (fun t => by rw [after0_12]; unfold Dat.blockOf iblk; rw [A_eq]; try rfl) t d).trans
    (by unfold Dat.fetched Dat.blockOf iblk; rw [A_eq]; try rfl)

/-- Every point leaves window 13's block as it is. -/
theorem after0_13 (c : Dev nD) (t : Fin cfg0.N) : (dats m 0 c).after 13 t = iblk m c 13 t := by dsimp only [dats]

/-- Every point finds window 13's block in its buffer. -/
theorem before0_13 (c : Dev nD) (t : Fin cfg0.N) (d) : (dats m 0 c).before 13 t d = iblk m c 13 t :=
  ((dats m 0 c).before_in_eq_fetched 13 rfl (fun _ => rfl) (fun _ _ _ => rfl) (fun t => by rw [after0_13]; unfold Dat.blockOf iblk; rw [A_eq]; try rfl) t d).trans
    (by unfold Dat.fetched Dat.blockOf iblk; rw [A_eq]; try rfl)

/-- A point leaves the new hidden rows in window 14's buffer. -/
theorem after0_14 (c : Dev nD) (t : Fin cfg0.N) : (dats m 0 c).after 14 t = hidV (iblk m c 0 t) (iblk m c 1 t) (iblk m c 2 t) (iblk m c 3 t) (iblk m c 4 t) (iblk m c 5 t) (iblk m c 9 t) (iblk m c 10 t) (iblk m c 11 t) := by dsimp only [dats]

/-- A point leaves the scores in window 15's buffer. -/
theorem after0_15 (c : Dev nD) (t : Fin cfg0.N) : (dats m 0 c).after 15 t = scoreV (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]

/-- What the body is given at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

/-- What the body gives back at a point. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t))

/-- What is to be shown of the body: on whole buffers that hold the input blocks, it runs and leaves the hidden rows and the scores. -/
def BodyRuns : Prop :=
  ∀ (c : Dev nD) (E : Set ℕ) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1024x2048 .bf16) (harg13 : arg13.IsWhole) (arg14 : Memref sig .tc .vmem S2x128x128 .bf16) (harg14 : arg14.IsWhole) (arg15 : Memref sig .tc .vmem S512x1024 .f32) (harg15 : arg15.IsWhole) (arg16 : Memref sig .tc .vmem S16x16x32x128 .f32) (harg16 : arg16.IsWhole) (x0 : Vec F S512x1024 .f32) (x1 : Vec F S512x1024 .bf16) (x2 : Vec F S512x1024 .bf16) (x3 : Vec F S512x1024 .bf16) (x4 : Vec F S512x1024 .bf16) (x5 : Vec F S1x1x1024 .f32) (x6 : Vec F S1x1x1024 .f32) (x7 : Vec F S1x1x1024 .f32) (x8 : Vec F S1x1024 .f32) (x9 : Vec F S1024x1024 .bf16) (x10 : Vec F S1024x1024 .bf16) (x11 : Vec F S1024x1024 .bf16) (x12 : Vec F S1024x2048 .bf16) (x13 : Vec F S2x128x128 .bf16) (K : PUnit → sProp 𝕄),
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare (hidV x0 x1 x2 x3 x4 x5 x9 x10 x11) ∗ owns (c : Thread nD τ) arg16 fullShare (scoreV x0 x1 x2 x3 x4 x5 x6 x7 x8 x9 x10 x11 x12 x13)) -∗ K ⟨⟩))
      ⊢ wp frame (wpE (defs₀ (F := F)) Variants.none c none) E (cc0_mix i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K

/-- The body at any point, from what it does on whole buffers. -/
theorem sound_body (hb : BodyRuns (F := F)) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (hb c Set.univ (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The table's entry for a point is the body at that point. -/
theorem defs₀_row (t : Fin cfg0.N) :
    defs₀ (F := F) .tc cfg0.body (cfg0.bodyArgs t (cfg0.slots t)) = bodyAt0 t := by
  unfold defs₀; rw [Defs.onTc_tc]

/-- The body does at every point what the launch asks of it. -/
theorem body_obligation (hb : BodyRuns (F := F)) (c : Dev nD) : BodyObligation (dats (F := F) m 0 c) (defs₀ (F := F)) Variants.none () Set.univ := fun t => by
  rw [bigSep_W0, bigSep_W0, defs₀_row]
  exact triple_restated (sound_body m hb c t) rfl .rfl fun _ => .rfl

-- the launch theorem's implicit arguments are found by unfolding plain definitions in a type
set_option backward.isDefEq.respectTransparency.types false in
set_option maxHeartbeats 800000 in
/-- The whole program runs: the arrays end at what the launch computes, and every counter at zero. -/
theorem launch_runs (hb : BodyRuns (F := F)) : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m hb c).loose) (hq := fun _ _ _ => rfl)
    (howed := fun _ _ => rfl) (V := V m) (hmain := host_main m Variants.none) (hA := A_eq m) (hΦ := fun _ _ => rfl)

/-- Every final state of the program has its arguments as they came and every counter at zero. -/
theorem frame_of (hb : BodyRuns (F := F)) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun r hr => ⟨fun c => ⟨((hr.1 c).2 main_arg0 (Pipeline.mem_restRefs_of main_arg0 (by decide) (by decide))).trans (V_main_arg0 m c),
      ((hr.1 c).1 1).trans (((dats m 0 c).arrAt_in 1 rfl _).trans ((A_eq m c 1).trans (V_main_arg1 m c))),
      ((hr.1 c).1 2).trans (((dats m 0 c).arrAt_in 2 rfl _).trans ((A_eq m c 2).trans (V_main_arg2 m c))),
      ((hr.1 c).1 4).trans (((dats m 0 c).arrAt_in 4 rfl _).trans ((A_eq m c 4).trans (V_main_arg3 m c))),
      ((hr.1 c).2 main_arg4 (Pipeline.mem_restRefs_of main_arg4 (by decide) (by decide))).trans (V_main_arg4 m c),
      ((hr.1 c).2 main_arg5 (Pipeline.mem_restRefs_of main_arg5 (by decide) (by decide))).trans (V_main_arg5 m c),
      ((hr.1 c).2 main_arg6 (Pipeline.mem_restRefs_of main_arg6 (by decide) (by decide))).trans (V_main_arg6 m c),
      ((hr.1 c).2 main_arg7 (Pipeline.mem_restRefs_of main_arg7 (by decide) (by decide))).trans (V_main_arg7 m c),
      ((hr.1 c).2 main_arg8 (Pipeline.mem_restRefs_of main_arg8 (by decide) (by decide))).trans (V_main_arg8 m c),
      ((hr.1 c).2 main_arg9 (Pipeline.mem_restRefs_of main_arg9 (by decide) (by decide))).trans (V_main_arg9 m c),
      ((hr.1 c).2 main_arg10 (Pipeline.mem_restRefs_of main_arg10 (by decide) (by decide))).trans (V_main_arg10 m c),
      ((hr.1 c).2 main_arg11 (Pipeline.mem_restRefs_of main_arg11 (by decide) (by decide))).trans (V_main_arg11 m c),
      ((hr.1 c).2 main_arg12 (Pipeline.mem_restRefs_of main_arg12 (by decide) (by decide))).trans (V_main_arg12 m c)⟩, hr.2⟩) (launch_runs m ρ hb)

end Cert.Kernel3Ideal.Gen
-- ==== Proof.MixScores.lean ====
module

public import proofs.«01_k».proof.Proof.MixRun
public import proofs.«01_k».proof.Proof.MixLaunch

/-! # What the mixing's run leaves, read back -/

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The places of the first `n` tiles, last to first. -/
def tilesBelow : ℕ → List (ℕ × ℕ × ℕ)
  | 0 => []
  | n + 1 => (n / 64, n / 4 % 16, n % 4) :: tilesBelow n

/-- The place of every tile below `n` is listed. -/
theorem mem_tilesBelow {k n : ℕ} (h : k < n) : (k / 64, k / 4 % 16, k % 4) ∈ tilesBelow n := by
  induction n with
  | zero => omega
  | succ n ih =>
    unfold tilesBelow
    rcases Nat.lt_succ_iff_lt_or_eq.mp h with h | rfl
    · exact List.mem_cons_of_mem _ (ih h)
    · exact List.mem_cons_self

/-- The first 1024 tiles are all of them. -/
theorem tilesBelow_all : ∀ z < 16, ∀ b < 16, ∀ t < 4, (z, b, t) ∈ tilesBelow 1024 := by
  intro z hz b hb t ht
  have h := mem_tilesBelow (k := z * 64 + b * 4 + t) (n := 1024) (by omega)
  rwa [show (z * 64 + b * 4 + t) / 64 = z by omega, show (z * 64 + b * 4 + t) / 4 % 16 = b by omega, show (z * 64 + b * 4 + t) % 4 = t by omega] at h

/-- The first output block holds the new hidden rows. -/
theorem hidden_read (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1024x2048 .bf16) (harg13 : arg13.IsWhole) (arg14 : Memref sig .tc .vmem S2x128x128 .bf16) (harg14 : arg14.IsWhole) (arg15 : Memref sig .tc .vmem S512x1024 .f32) (harg15 : arg15.IsWhole) (arg16 : Memref sig .tc .vmem S16x16x32x128 .f32) (harg16 : arg16.IsWhole)
    (f0 : Buf (Elt F) (arg1.view.loc (c : Thread nD τ))) (f1 : Buf (Elt F) (arg2.view.loc (c : Thread nD τ))) (f2 : Buf (Elt F) (arg3.view.loc (c : Thread nD τ))) (f3 : Buf (Elt F) (arg4.view.loc (c : Thread nD τ))) (f4 : Buf (Elt F) (arg5.view.loc (c : Thread nD τ))) (f5 : Buf (Elt F) (arg6.view.loc (c : Thread nD τ))) (f6 : Buf (Elt F) (arg7.view.loc (c : Thread nD τ))) (f7 : Buf (Elt F) (arg8.view.loc (c : Thread nD τ))) (f8 : Buf (Elt F) (arg9.view.loc (c : Thread nD τ))) (f9 : Buf (Elt F) (arg10.view.loc (c : Thread nD τ))) (f10 : Buf (Elt F) (arg11.view.loc (c : Thread nD τ))) (f11 : Buf (Elt F) (arg12.view.loc (c : Thread nD τ))) (f12 : Buf (Elt F) (arg13.view.loc (c : Thread nD τ))) (f13 : Buf (Elt F) (arg14.view.loc (c : Thread nD τ))) (f14 : Buf (Elt F) (arg15.view.loc (c : Thread nD τ))) (f15 : Buf (Elt F) (arg16.view.loc (c : Thread nD τ))) :
    arg15.view.read (Elt F) (body_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 f0 f1 f2 f3 f4 f5 f6 f7 f8 f9 f10 f11 f12 f13 f14 f15).1.1 = hidV (arg1.view.read (Elt F) f0) (arg2.view.read (Elt F) f1) (arg3.view.read (Elt F) f2) (arg4.view.read (Elt F) f3) (arg5.view.read (Elt F) f4) (arg6.view.read (Elt F) f5) (arg10.view.read (Elt F) f9) (arg11.view.read (Elt F) f10) (arg12.view.read (Elt F) f11) := by
  have z2 : (![0, 0] : Fin 2 → ℕ) = fun _ => 0 := by decide
  unfold body_run; dsimp only
  unfold body_run.sl.H14_1
  refine (View.read_writes_eq_canon _ _ _ (View.cover_of_tiled _ S512x1024.size (by rfl))).trans ?_
  refine (View.canon_unit_zero z2 _ _).trans ?_
  rfl

set_option maxHeartbeats 20000000 in
/-- The second output block holds the scores, every tile in its place. -/
theorem scores_read (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1024x2048 .bf16) (harg13 : arg13.IsWhole) (arg14 : Memref sig .tc .vmem S2x128x128 .bf16) (harg14 : arg14.IsWhole) (arg15 : Memref sig .tc .vmem S512x1024 .f32) (harg15 : arg15.IsWhole) (arg16 : Memref sig .tc .vmem S16x16x32x128 .f32) (harg16 : arg16.IsWhole)
    (f0 : Buf (Elt F) (arg1.view.loc (c : Thread nD τ))) (f1 : Buf (Elt F) (arg2.view.loc (c : Thread nD τ))) (f2 : Buf (Elt F) (arg3.view.loc (c : Thread nD τ))) (f3 : Buf (Elt F) (arg4.view.loc (c : Thread nD τ))) (f4 : Buf (Elt F) (arg5.view.loc (c : Thread nD τ))) (f5 : Buf (Elt F) (arg6.view.loc (c : Thread nD τ))) (f6 : Buf (Elt F) (arg7.view.loc (c : Thread nD τ))) (f7 : Buf (Elt F) (arg8.view.loc (c : Thread nD τ))) (f8 : Buf (Elt F) (arg9.view.loc (c : Thread nD τ))) (f9 : Buf (Elt F) (arg10.view.loc (c : Thread nD τ))) (f10 : Buf (Elt F) (arg11.view.loc (c : Thread nD τ))) (f11 : Buf (Elt F) (arg12.view.loc (c : Thread nD τ))) (f12 : Buf (Elt F) (arg13.view.loc (c : Thread nD τ))) (f13 : Buf (Elt F) (arg14.view.loc (c : Thread nD τ))) (f14 : Buf (Elt F) (arg15.view.loc (c : Thread nD τ))) (f15 : Buf (Elt F) (arg16.view.loc (c : Thread nD τ))) :
    arg16.view.read (Elt F) (body_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 f0 f1 f2 f3 f4 f5 f6 f7 f8 f9 f10 f11 f12 f13 f14 f15).1.2 = scoreV (arg1.view.read (Elt F) f0) (arg2.view.read (Elt F) f1) (arg3.view.read (Elt F) f2) (arg4.view.read (Elt F) f3) (arg5.view.read (Elt F) f4) (arg6.view.read (Elt F) f5) (arg7.view.read (Elt F) f6) (arg8.view.read (Elt F) f7) (arg9.view.read (Elt F) f8) (arg10.view.read (Elt F) f9) (arg11.view.read (Elt F) f10) (arg12.view.read (Elt F) f11) (arg13.view.read (Elt F) f12) (arg14.view.read (Elt F) f13) := by
  unfold body_run; dsimp only
  unfold scoreV
  refine Tiled.all (T := tilesBelow 1024) ?_ tilesBelow_all
  iterate 64
    refine Tiled.cons (⟨15, by decide⟩ : Fin 16) ?_ ?_ ?_
    · exact fun _ _ => rfl
    · rfl
  iterate 64
    refine Tiled.cons (⟨14, by decide⟩ : Fin 16) ?_ ?_ ?_
    · exact fun _ _ => rfl
    · rfl
  iterate 64
    refine Tiled.cons (⟨13, by decide⟩ : Fin 16) ?_ ?_ ?_
    · exact fun _ _ => rfl
    · rfl
  iterate 64
    refine Tiled.cons (⟨12, by decide⟩ : Fin 16) ?_ ?_ ?_
    · exact fun _ _ => rfl
    · rfl
  iterate 64
    refine Tiled.cons (⟨11, by decide⟩ : Fin 16) ?_ ?_ ?_
    · exact fun _ _ => rfl
    · rfl
  iterate 64
    refine Tiled.cons (⟨10, by decide⟩ : Fin 16) ?_ ?_ ?_
    · exact fun _ _ => rfl
    · rfl
  iterate 64
    refine Tiled.cons (⟨9, by decide⟩ : Fin 16) ?_ ?_ ?_
    · exact fun _ _ => rfl
    · rfl
  iterate 64
    refine Tiled.cons (⟨8, by decide⟩ : Fin 16) ?_ ?_ ?_
    · exact fun _ _ => rfl
    · rfl
  iterate 64
    refine Tiled.cons (⟨7, by decide⟩ : Fin 16) ?_ ?_ ?_
    · exact fun _ _ => rfl
    · rfl
  iterate 64
    refine Tiled.cons (⟨6, by decide⟩ : Fin 16) ?_ ?_ ?_
    · exact fun _ _ => rfl
    · rfl
  iterate 64
    refine Tiled.cons (⟨5, by decide⟩ : Fin 16) ?_ ?_ ?_
    · exact fun _ _ => rfl
    · rfl
  iterate 64
    refine Tiled.cons (⟨4, by decide⟩ : Fin 16) ?_ ?_ ?_
    · exact fun _ _ => rfl
    · rfl
  iterate 64
    refine Tiled.cons (⟨3, by decide⟩ : Fin 16) ?_ ?_ ?_
    · exact fun _ _ => rfl
    · rfl
  iterate 64
    refine Tiled.cons (⟨2, by decide⟩ : Fin 16) ?_ ?_ ?_
    · exact fun _ _ => rfl
    · rfl
  iterate 64
    refine Tiled.cons (⟨1, by decide⟩ : Fin 16) ?_ ?_ ?_
    · exact fun _ _ => rfl
    · rfl
  iterate 64
    refine Tiled.cons (⟨0, by decide⟩ : Fin 16) ?_ ?_ ?_
    · exact fun _ _ => rfl
    · rfl
  exact Tiled.nil _ _ _

end Cert.Kernel3Ideal.Gen
-- ==== Proof.MixBody.lean ====
module

public import proofs.«01_k».proof.Proof.MixScores

/-! # The mixing's body at a point -/

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body runs on whole buffers that hold the input blocks, and leaves the hidden rows and the scores. -/
theorem body_runs : BodyRuns (F := F) := by
  intro c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 K
  unfold owns
  rw [harg1.set_eq_univ, harg2.set_eq_univ, harg3.set_eq_univ, harg4.set_eq_univ, harg5.set_eq_univ, harg6.set_eq_univ, harg7.set_eq_univ, harg8.set_eq_univ, harg9.set_eq_univ, harg10.set_eq_univ, harg11.set_eq_univ, harg12.set_eq_univ, harg13.set_eq_univ, harg14.set_eq_univ, harg15.set_eq_univ, harg16.set_eq_univ]
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, Hk⟩
  subst hf0 hf1 hf2 hf3 hf4 hf5 hf6 hf7 hf8 hf9 hf10 hf11 hf12 hf13
  iapply ((body_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 f0 f1 f2 f3 f4 f5 f6 f7 f8 f9 f10 f11 f12 f13 f14 f15).2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iintro ⟨H0, H1, H2, H3, H4, H5, H6, H7, H8, H9, H10, H11, H12, H13, H14, H15⟩
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    exact hidden_read c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 f0 f1 f2 f3 f4 f5 f6 f7 f8 f9 f10 f11 f12 f13 f14 f15
  iexists _; isplitr
  swap; · iexact H15
  ipureintro
  exact scores_read c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 f0 f1 f2 f3 f4 f5 f6 f7 f8 f9 f10 f11 f12 f13 f14 f15

end Cert.Kernel3Ideal.Gen
-- ==== Proof.MixFrame.lean ====
module

public import proofs.«01_k».proof.Proof.MixLaunch
public import proofs.«01_k».proof.Proof.Gen.Kernel3
public import proofs.«01_k».proof.Defs

/-! # The mixing's frame over the chip's floats -/

@[expose] public section

set_option maxRecDepth 100000

noncomputable section

namespace Cert.Proof

open Idealize.ShloMosaic Idealize.SL.Sem

/-- The bodies of the two programs are one text. -/
theorem mixing_body : Cert.Kernel3.cc0_mix (F := Bits) = Cert.Kernel3Ideal.cc0_mix (F := Bits) := rfl

set_option maxHeartbeats 4000000 in
/-- The two programs have the same body table. -/
theorem mixing_defs : Cert.Kernel3.defs₀ (F := Bits) = Cert.Kernel3Ideal.defs₀ (F := Bits) := by
  unfold Cert.Kernel3.defs₀ Cert.Kernel3Ideal.defs₀
  refine congrArg Defs.onTc (funext fun l => funext fun x => ?_)
  match l, x with
  | 0, (t, s) =>
    exact congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (mixing_body) _) _) _) _) _) _) _) _) _) _) _) _) _) _) _) _) _) _) _) _) _) _) _) _) _) _) _) _) _) _) _) _) _

set_option maxHeartbeats 4000000 in
/-- The mixing's kernel terminates, keeps its arguments and leaves every counter at zero. -/
theorem mixing_frame (hb : Cert.Kernel3Ideal.Gen.BodyRuns (F := Bits)) : @Cert.quiescent_Kernel3 Cert.Kernel3.Gen.facts := fun m ρ _ => by
  have e : Cert.Kernel3.defs (F := Bits) = Cert.Kernel3Ideal.defs (F := Bits) := congrArg (Pipeline.defs Cert.Kernel3Ideal.pcfgs) mixing_defs
  have h := Cert.Kernel3Ideal.Gen.frame_of (F := Bits) m ρ hb
  rw [← e] at h
  exact h

end Cert.Proof
-- ==== Proof.MixSpec.lean ====
module

public import Idealize.ShloMosaic.Lib.Pointwise
public import proofs.«01_k».proof.Proof.InSpec
public import proofs.«01_k».proof.Proof.Spec

/-! # The mixing of the layer's two branches, in mathematics -/

@[expose] public section

noncomputable section

namespace Mix

open Idealize.ShloMosaic Inp

/-- The gate's value between zero and one. -/
def gate (z : EReal) : EReal := Ideal.div 1 (1 + Ideal.exp (-z))

/-- A row's two branches, each projected and gated, in sum. -/
def mixedOf (y a gs gn : Fin 1024 → EReal) (ws wn : Fin 1024 → Fin 1024 → EReal) (j : Fin 1024) : EReal :=
  gate (gs j) * ∑ d, y d * ws d j + gate (gn j) * ∑ d, a d * wn d j

/-- A row's input plus its mixed branches, projected and scaled. -/
def sumOf (x g1 μ : Fin 1024 → EReal) (wo : Fin 1024 → Fin 1024 → EReal) (j : Fin 1024) : EReal := x j + g1 j * ∑ k, μ k * wo k j

/-- A row's query. -/
def queryOf (h g sc sh : Fin 1024 → EReal) (wq : Fin 1024 → Fin 2048 → EReal) (k : Fin 2048) : EReal := ∑ d, normed h (g d) (sc d) (sh d) d * wq d k

/-- The column of the query that element `d` of head and half `z` is. -/
def colOf (z : Fin 16) (d : Fin 128) : Fin 2048 := ⟨z.val * 128 + d.val, by omega⟩

/-- Which half's keys the head and half `z` scores against. -/
def halfOf (z : Fin 16) : Fin 2 := ⟨z.val % 2, by omega⟩

/-- A row's score of a key. -/
def scoreOf (q : Fin 2048 → EReal) (ks : Fin 2 → Fin 128 → Fin 128 → EReal) (z : Fin 16) (k : Fin 128) : EReal := ∑ d, ks (halfOf z) k d * q (colOf z d)

/-- The arguments' elements. -/
structure Args where
  /-- The layer's input, by sequence, position and channel. -/
  x : Fin 8 → Fin 4096 → Fin 1024 → EReal
  /-- The first branch, by row and channel. -/
  y : Fin 32768 → Fin 1024 → EReal
  /-- The second branch. -/
  a : Fin 32768 → Fin 1024 → EReal
  /-- The projection that holds the gates. -/
  p : Fin 32768 → Fin 8192 → EReal
  /-- The scale of a sequence's mixed branches. -/
  g1 : Fin 8 → Fin 1024 → EReal
  /-- The shift of a sequence. -/
  sh : Fin 8 → Fin 1024 → EReal
  /-- The scale of a sequence. -/
  sc : Fin 8 → Fin 1024 → EReal
  /-- The gain. -/
  g : Fin 1024 → EReal
  /-- The first branch's weights. -/
  ws : Fin 1024 → Fin 1024 → EReal
  /-- The second branch's weights. -/
  wn : Fin 1024 → Fin 1024 → EReal
  /-- The mixed branches' weights. -/
  wo : Fin 1024 → Fin 1024 → EReal
  /-- The query's weights. -/
  wq : Fin 1024 → Fin 2048 → EReal
  /-- The keys, by half, key and element. -/
  ks : Fin 2 → Fin 128 → Fin 128 → EReal

variable (A : Args)

/-- A row's first gate, before it is squeezed. -/
def gs (r : Fin 32768) (j : Fin 1024) : EReal := A.p r ⟨6144 + j.val, by omega⟩

/-- A row's second gate. -/
def gn (r : Fin 32768) (j : Fin 1024) : EReal := A.p r ⟨7168 + j.val, by omega⟩

/-- The mixed branches. -/
def mixed (r : Fin 32768) (j : Fin 1024) : EReal := mixedOf (A.y r) (A.a r) (gs A r) (gn A r) A.ws A.wn j

/-- The input plus the mixed branches. -/
def hid (r : Fin 32768) (j : Fin 1024) : EReal := sumOf (A.x (seqOf r) (posOf r)) (A.g1 (seqOf r)) (mixed A r) A.wo j

/-- The queries. -/
def query (r : Fin 32768) (k : Fin 2048) : EReal := queryOf (hid A r) A.g (A.sc (seqOf r)) (A.sh (seqOf r)) A.wq k

/-- The scores, by head and half, key and row. -/
def score (z : Fin 16) (k : Fin 128) (r : Fin 32768) : EReal := scoreOf (query A r) A.ks z k

/-- The key that row `i` of group `q` holds. -/
def keyOf (q : Fin 16) (i : ℕ) : Fin 128 := ⟨q.val * 8 + i % 8, by omega⟩

/-- The row that lane `l` of tile row `i` holds. -/
def tokOf (i : Fin 2048) (l : Fin 128) : Fin 32768 := ⟨i.val / 8 * 128 + l.val, by omega⟩

/-- The scores' array. -/
def scoreAt (z q : Fin 16) (i : Fin 2048) (l : Fin 128) : EReal := score A z (keyOf q i.val) (tokOf i l)

/-- The gate by the hyperbolic tangent of the half: at the infinities too. -/
theorem tanh_gate (z : EReal) : ((1 / 2 : ℝ) : EReal) * Ideal.tanh (((1 / 2 : ℝ) : EReal) * z) + ((1 / 2 : ℝ) : EReal) = gate z := by
  unfold gate
  induction z with
  | bot =>
    rw [EReal.coe_mul_bot_of_pos (by norm_num)]
    have h2 : Ideal.div 1 (1 + Ideal.exp (-⊥)) = 0 := by
      show Ideal.div 1 (1 + ⊤) = 0
      rw [EReal.add_top_of_ne_bot (by exact (EReal.coe_ne_bot 1))]
      unfold Ideal.div
      rw [if_neg (by simp)]; simp
    rw [h2]
    show ((1 / 2 : ℝ) : EReal) * (-1 : EReal) + _ = 0
    rw [show (-1 : EReal) = ((-1 : ℝ) : EReal) by simp, ← EReal.coe_mul, ← EReal.coe_add]; norm_num
  | top =>
    rw [EReal.coe_mul_top_of_pos (by norm_num)]
    have h2 : Ideal.div 1 (1 + Ideal.exp (-⊤)) = 1 := by
      show Ideal.div 1 (1 + 0) = 1
      unfold Ideal.div
      rw [if_neg (by simp)]; simp
    rw [h2]
    show ((1 / 2 : ℝ) : EReal) * (1 : EReal) + _ = 1
    rw [← EReal.coe_one, ← EReal.coe_mul, ← EReal.coe_add]; norm_num
  | coe r =>
    have hp : (0 : ℝ) < 1 + Real.exp (-r) := by positivity
    have h2 : Ideal.div 1 (1 + Ideal.exp (-(r : EReal))) = ((1 / (1 + Real.exp (-r)) : ℝ) : EReal) := by
      rw [← EReal.coe_neg]
      show Ideal.div 1 (1 + ((Real.exp (-r) : ℝ) : EReal)) = _
      rw [← EReal.coe_one, ← EReal.coe_add]
      unfold Ideal.div
      rw [if_neg (by intro h; exact absurd (EReal.coe_eq_zero.mp h) hp.ne'), ← EReal.coe_inv, ← EReal.coe_mul, one_div, one_mul]
    rw [h2, ← EReal.coe_mul]
    show ((1 / 2 : ℝ) : EReal) * ((Real.tanh (1 / 2 * r) : ℝ) : EReal) + _ = _
    rw [← EReal.coe_mul, ← EReal.coe_add]
    congr 1
    rw [Real.tanh_eq_sinh_div_cosh, Real.sinh_eq, Real.cosh_eq]
    have e : Real.exp (-r) = Real.exp (-(1 / 2 * r)) * Real.exp (-(1 / 2 * r)) := by rw [← Real.exp_add]; congr 1; ring
    have e' : Real.exp (1 / 2 * r) * Real.exp (-(1 / 2 * r)) = 1 := by rw [← Real.exp_add]; simp
    rw [e]
    have q := Real.exp_pos (-(1 / 2 * r))
    have q' := Real.exp_pos (1 / 2 * r)
    generalize Real.exp (-(1 / 2 * r)) = u at *
    generalize Real.exp (1 / 2 * r) = v at *
    have hv : v = 1 / u := by field_simp; linarith
    subst hv
    field_simp
    ring

end Mix
-- ==== Proof.MixPoint.lean ====
module

public import proofs.«01_k».proof.Proof.Gen.Kernel3Ideal.Skeleton
public import Idealize.ShloMosaic.Lib.Pipeline.ReadBack
public import Idealize.ShloMosaic.Lib.Pipeline.ValueKit
public import proofs.«01_k».proof.Proof.MixSpec

/-! # What a grid point of the mixing computes -/

@[expose] public section

set_option maxRecDepth 16384

noncomputable section

namespace Cert.Kernel3Ideal.Val

open Cert.Kernel3Ideal Cert.Kernel3Ideal.Gen Idealize.ShloMosaic Idealize.ShloMosaic.TcCoe
open Cert.Kernel3Ideal.Facts Inp Mix

/-- The mixed branches of a block. -/
theorem mixed_at (v0 : Vec Ideal S512x1024 .bf16) (v1 : Vec Ideal S1024x1024 .bf16) (v4 : Vec Ideal S512x1024 .bf16) (v5 : Vec Ideal S1024x1024 .bf16)
    (v8 v18 : Vec Ideal S512x1024 .bf16) (r : Fin 512) (j : Fin 1024) :
    (k0_pay5 v0 v1 v4 v5 v8 v18 : FVec Ideal S512x1024 .bf16) (ix2 r j) =
      mixedOf (fun d => v0 (ix2 r d)) (fun d => v4 (ix2 r d)) (fun d => v8 (ix2 r d)) (fun d => v18 (ix2 r d)) (fun d k => v1 (ix2 d k)) (fun d k => v5 (ix2 d k)) j := by
  unfold mixedOf
  rw [← tanh_gate, ← tanh_gate, ← Ssd.half_bits]
  pointwise [k0_pay5]

/-- The input plus the mixed branches of a block. -/
theorem sum_at (v30 : FVec Ideal S512x1024 .f32) (v32 : FVec Ideal S1x1024 .f32) (v33 : FVec Ideal S512x1024 .bf16) (v34 : Vec Ideal S1024x1024 .bf16) (r : Fin 512) (j : Fin 1024) :
    (k0_pay6 v30 v32 v33 v34 : FVec Ideal S512x1024 .f32) (ix2 r j) =
      sumOf (fun d => v30 (ix2 r d)) (fun d => v32 (ix2 (0 : Fin 1) d)) (fun d => v33 (ix2 r d)) (fun d k => v34 (ix2 d k)) j := by
  pointwise [k0_pay6, sumOf]

/-- The queries of a block. -/
theorem query_at (v30 : FVec Ideal S512x1024 .f32) (v32 : FVec Ideal S1x1024 .f32) (v33 : FVec Ideal S512x1024 .bf16) (v34 : Vec Ideal S1024x1024 .bf16)
    (v41 : Vec Ideal S1x1024 .f32) (v43 v45 : Vec Ideal S1x1x1024 .f32) (v66 : Vec Ideal S1024x2048 .bf16) (r : Fin 512) (k : Fin 2048) :
    (k0_pay7 v30 v32 v33 v34 v41 v43 v45 v66 : FVec Ideal S512x2048 .bf16) (ix2 r k) =
      queryOf (fun d => (k0_pay6 v30 v32 v33 v34 : FVec Ideal S512x1024 .f32) (ix2 r d)) (fun d => v41 (ix2 (0 : Fin 1) d)) (fun d => v45 (ix3 (0 : Fin 1) (0 : Fin 1) d))
        (fun d => v43 (ix3 (0 : Fin 1) (0 : Fin 1) d)) (fun d k => v66 (ix2 d k)) k := by
  unfold k0_pay7
  generalize k0_pay6 v30 v32 v33 v34 = h
  pointwise [queryOf, normed]

/-- A head's scores: the keys against the columns of the query from `o`. -/
def headScores (o : ℕ) (ho : S512x2048.Slices ![0, o] S512x128) (q : FVec Ideal S512x2048 .bf16) (ks : Vec Ideal S1x128x128 .bf16) : FVec Ideal S128x512 .f32 :=
  k0_pay9 (extractStridedSlice S512x128 ![0, o] q ho) ks

/-- A head's scores at a key and a row. -/
theorem headScores_at (o : ℕ) (ho : S512x2048.Slices ![0, o] S512x128) (z : Fin 16) (ez : o = z.val * 128) (q : FVec Ideal S512x2048 .bf16) (ks : Vec Ideal S1x128x128 .bf16)
    (k : Fin 128) (r : Fin 512) : headScores o ho q ks (ix2 k r) = ∑ d : Fin 128, ks (ix3 (0 : Fin 1) k d) * q (ix2 r (colOf z d)) := by
  subst ez
  pointwise [headScores, k0_pay9, colOf]

end Cert.Kernel3Ideal.Val
-- ==== Proof.MixBlock.lean ====
module

public import proofs.«01_k».proof.Proof.MixTile
public import proofs.«01_k».proof.Proof.MixPoint

/-! # What a grid point of the mixing leaves, in numbers -/

@[expose] public section

set_option maxRecDepth 16384

noncomputable section

namespace Cert.Kernel3Ideal.Val

open Cert.Kernel3Ideal Cert.Kernel3Ideal.Gen Idealize.ShloMosaic Idealize.ShloMosaic.TcCoe Idealize.SL.Sem
open Idealize.ShloMosaic.Pipeline (Dat)
open Cert.Kernel3Ideal.Facts Inp Mix

variable (b0 : Vec Ideal S512x1024 .f32) (b1 b2 b3 b4 : Vec Ideal S512x1024 .bf16) (b5 b6 b7 : Vec Ideal S1x1x1024 .f32) (b8 : Vec Ideal S1x1024 .f32)
  (b9 b10 b11 : Vec Ideal S1024x1024 .bf16) (b12 : Vec Ideal S1024x2048 .bf16) (b13 : Vec Ideal S2x128x128 .bf16)

/-- The mixed branches of the blocks' row `r`. -/
def blkMixed (r : Fin 512) (j : Fin 1024) : EReal :=
  mixedOf (fun d => b1 (ix2 r d)) (fun d => b2 (ix2 r d)) (fun d => b3 (ix2 r d)) (fun d => b4 (ix2 r d)) (fun d k => b9 (ix2 d k)) (fun d k => b10 (ix2 d k)) j

/-- Its input plus its mixed branches. -/
def blkSum (r : Fin 512) (j : Fin 1024) : EReal :=
  sumOf (fun d => b0 (ix2 r d)) (fun d => b5 (ix3 (0 : Fin 1) (0 : Fin 1) d)) (blkMixed b1 b2 b3 b4 b9 b10 r) (fun d k => b11 (ix2 d k)) j

/-- Its query. -/
def blkQuery (r : Fin 512) (k : Fin 2048) : EReal :=
  queryOf (blkSum b0 b1 b2 b3 b4 b5 b9 b10 b11 r) (fun d => b8 (ix2 (0 : Fin 1) d)) (fun d => b7 (ix3 (0 : Fin 1) (0 : Fin 1) d)) (fun d => b6 (ix3 (0 : Fin 1) (0 : Fin 1) d))
    (fun d k => b12 (ix2 d k)) k

/-- The mixed branches that a point computes. -/
theorem mixed_blk (r : Fin 512) (j : Fin 1024) : (mixedV b1 b2 b3 b4 b9 b10 : FVec Ideal S512x1024 .bf16) (ix2 r j) = blkMixed b1 b2 b3 b4 b9 b10 r j := by
  have z2 : (![0, 0] : Fin 2 → ℕ) = fun _ => 0 := by decide
  unfold mixedV
  rw [View.ld_unit_zero z2, View.ld_unit_zero z2, View.ld_unit_zero z2, View.ld_unit_zero z2, View.ld_unit_zero z2, View.ld_unit_zero z2]
  exact mixed_at _ _ _ _ _ _ r j

/-- The hidden rows that a point computes. -/
theorem hid_blk (r : Fin 512) (j : Fin 1024) : (hidV b0 b1 b2 b3 b4 b5 b9 b10 b11 : FVec Ideal S512x1024 .f32) (ix2 r j) = blkSum b0 b1 b2 b3 b4 b5 b9 b10 b11 r j := by
  have z2 : (![0, 0] : Fin 2 → ℕ) = fun _ => 0 := by decide
  have z3 : (![0, 0, 0] : Fin 3 → ℕ) = fun _ => 0 := by decide
  unfold hidV
  rw [View.ld_unit_zero z2, View.ld_unit_zero z3, View.ld_unit_zero z2]
  refine (sum_at _ _ _ _ r j).trans ?_
  unfold blkSum
  congr 1
  · funext d
    pointwise [k0_pay3]
  · funext d
    pointwise [k0_pay4]
  · funext d
    exact mixed_blk b1 b2 b3 b4 b9 b10 r d

/-- The queries that a point computes. -/
theorem query_blk (r : Fin 512) (k : Fin 2048) :
    (queryV b0 b1 b2 b3 b4 b5 b6 b7 b8 b9 b10 b11 b12 : FVec Ideal S512x2048 .bf16) (ix2 r k) = blkQuery b0 b1 b2 b3 b4 b5 b6 b7 b8 b9 b10 b11 b12 r k := by
  have z2 : (![0, 0] : Fin 2 → ℕ) = fun _ => 0 := by decide
  have z3 : (![0, 0, 0] : Fin 3 → ℕ) = fun _ => 0 := by decide
  unfold queryV
  refine (query_at _ _ _ _ _ _ _ _ r k).trans ?_
  unfold blkQuery
  rw [← show (fun d => (hidV b0 b1 b2 b3 b4 b5 b9 b10 b11 : FVec Ideal S512x1024 .f32) (ix2 r d)) = blkSum b0 b1 b2 b3 b4 b5 b9 b10 b11 r from
    funext fun d => hid_blk b0 b1 b2 b3 b4 b5 b9 b10 b11 r d]
  rw [View.ld_unit_zero (X := b8) z2, View.ld_unit_zero (X := b6) z3, View.ld_unit_zero (X := b7) z3, View.ld_unit_zero (X := b12) z2]
  rfl

/-- A half's keys, read from both. -/
theorem ld_keys (z : Fin 16) (k d : Fin 128) :
    View.ld b13 (Rect.unit (s := S2x128x128) ![z.val % 2, 0, 0] S1x128x128.size (half_inb z)) (ix3 (0 : Fin 1) k d) = b13 (ix3 (halfOf z) k d) := by
  refine congrArg b13 (funext fun i => ?_)
  match i with
  | ⟨0, _⟩ => exact Fin.ext (by show z.val % 2 + 1 * 0 = z.val % 2; omega)
  | ⟨1, _⟩ => exact Fin.ext (by show 0 + 1 * k.val = k.val; omega)
  | ⟨2, _⟩ => exact Fin.ext (by show 0 + 1 * d.val = d.val; omega)

/-- The scores that a point computes for a head and half. -/
theorem head_blk (q : FVec Ideal S512x2048 .bf16) (z : Fin 16) (k : Fin 128) (r : Fin 512) :
    (headV q b13 z : FVec Ideal S128x512 .f32) (ix2 k r) = scoreOf (fun j => q (ix2 r j)) (fun a k d => b13 (ix3 a k d)) z k := by
  refine (headScores_at _ (head_slices z) z (Nat.mul_comm _ _) q _ k r).trans ?_
  exact Finset.sum_congr (M := EReal) rfl fun d _ => congrArg (· * q (ix2 r (colOf z d))) (ld_keys b13 z k d)

/-- The scores that a point leaves. -/
theorem score_blk (z q : Fin 16) (i : Fin 32) (l : Fin 128) :
    (scoreV b0 b1 b2 b3 b4 b5 b6 b7 b8 b9 b10 b11 b12 b13 : Vec Ideal S16x16x32x128 .f32) (ix4 z q i l) =
      scoreOf (blkQuery b0 b1 b2 b3 b4 b5 b6 b7 b8 b9 b10 b11 b12 ⟨i.val / 8 * 128 + l.val, by omega⟩) (fun a k d => b13 (ix3 a k d)) z (keyOf q i.val) := by
  refine (head_blk b13 _ z (keyOf q i.val) ⟨i.val / 8 * 128 + l.val, by omega⟩).trans ?_
  congr 1
  exact funext fun j => query_blk b0 b1 b2 b3 b4 b5 b6 b7 b8 b9 b10 b11 b12 _ j

end Cert.Kernel3Ideal.Val
-- ==== Proof.MixEntry.lean ====
module

public import proofs.«01_k».proof.Proof.MixLaunch
public import proofs.«01_k».proof.Proof.MixSpec
public import Idealize.ShloMosaic.Lib.Pipeline.ValueKit
public import Idealize.ShloMosaic.Lib.StableHlo.Run
public import Idealize.ShloMosaic.Lib.Routing.OpsSet
public import Idealize.ShloMosaic.Lib.Routing.OpsOne

/-! # The arrays that the mixing's windows read, and the windows' blocks -/

@[expose] public section

set_option maxRecDepth 16384

noncomputable section

namespace Cert.Kernel3Ideal.Val

open Cert.Kernel3Ideal Cert.Kernel3Ideal.Gen Idealize.ShloMosaic Idealize.ShloMosaic.TcCoe Idealize.SL.Sem
open Idealize.ShloMosaic.Pipeline (Dat)
open Cert.Kernel3Ideal.Facts Inp Mix

variable (m : (ℓ : Loc nD τ sig) → Buf (Elt Ideal) ℓ) (c : Dev nD)

/-- The arguments' elements, from the memory. -/
def argsAt : Mix.Args where
  x := fun b s d => (m ((c : Thread nD τ).loc main_arg0) : Vec Ideal S8x4096x1024 .f32) (ix3 b s d)
  y := fun r d => (m ((c : Thread nD τ).loc main_arg1) : Vec Ideal S32768x1024 .bf16) (ix2 r d)
  a := fun r d => (m ((c : Thread nD τ).loc main_arg2) : Vec Ideal S32768x1024 .bf16) (ix2 r d)
  p := fun r k => (m ((c : Thread nD τ).loc main_arg3) : Vec Ideal S32768x8192 .bf16) (ix2 r k)
  g1 := fun b d => (m ((c : Thread nD τ).loc main_arg4) : Vec Ideal S8x1024 .f32) (ix2 b d)
  sh := fun b d => (m ((c : Thread nD τ).loc main_arg5) : Vec Ideal S8x1024 .f32) (ix2 b d)
  sc := fun b d => (m ((c : Thread nD τ).loc main_arg6) : Vec Ideal S8x1024 .f32) (ix2 b d)
  g := fun d => (m ((c : Thread nD τ).loc main_arg7) : Vec Ideal S1x1024 .f32) (ix2 (0 : Fin 1) d)
  ws := fun d k => (m ((c : Thread nD τ).loc main_arg8) : Vec Ideal S1x1024x1024 .f32) (ix3 (0 : Fin 1) d k)
  wn := fun d k => (m ((c : Thread nD τ).loc main_arg9) : Vec Ideal S1x1024x1024 .f32) (ix3 (0 : Fin 1) d k)
  wo := fun d k => (m ((c : Thread nD τ).loc main_arg10) : Vec Ideal S1x1024x1024 .f32) (ix3 (0 : Fin 1) d k)
  wq := fun d k => (m ((c : Thread nD τ).loc main_arg11) : Vec Ideal S1x1024x2048 .f32) (ix3 (0 : Fin 1) d k)
  ks := fun a k d => (m ((c : Thread nD τ).loc main_arg12) : Vec Ideal S1x2x128x128 .f32) (ix4 (0 : Fin 1) a k d)

/-- A square table of weights without its leading axis. -/
theorem square_at (w : FVec Ideal S1x1024x1024 .f32) (d k : Fin 1024) :
    (truncf .bf16 (shapeCast S1024x1024 w shapeCasts_S1x1024x1024_S1024x1024 : FVec Ideal S1024x1024 .f32) bitsLt_bf16_f32 : FVec Ideal S1024x1024 .bf16) (ix2 d k) = w (ix3 (0 : Fin 1) d k) := by
  pointwise

/-- The query's table of weights without its leading axis. -/
theorem wide_at (w : FVec Ideal S1x1024x2048 .f32) (d : Fin 1024) (k : Fin 2048) :
    (truncf .bf16 (shapeCast S1024x2048 w shapeCasts_S1x1024x2048_S1024x2048 : FVec Ideal S1024x2048 .f32) bitsLt_bf16_f32 : FVec Ideal S1024x2048 .bf16) (ix2 d k) = w (ix3 (0 : Fin 1) d k) := by
  pointwise

/-- The keys without their leading axis. -/
theorem halves_at (w : FVec Ideal S1x2x128x128 .f32) (a : Fin 2) (k d : Fin 128) :
    (truncf .bf16 (shapeCast S2x128x128 w shapeCasts_S1x2x128x128_S2x128x128 : FVec Ideal S2x128x128 .f32) bitsLt_bf16_f32 : FVec Ideal S2x128x128 .bf16) (ix3 a k d) = w (ix4 (0 : Fin 1) a k d) := by
  pointwise

/-- The input's rows. -/
theorem V_v0 (r : Fin 32768) (d : Fin 1024) : (V m c main_v0 : Vec Ideal S32768x1024 .f32) (ix2 r d) = (argsAt m c).x (seqOf r) (posOf r) d := by
  have e : V m c main_v0 = shapeCast S32768x1024 (m ((c : Thread nD τ).loc main_arg0) : FVec Ideal S8x4096x1024 .f32) shapeCasts_S8x4096x1024_S32768x1024 := by
    unfold V
    simp only [hostOps0, List.flatten_cons, List.flatten_nil, List.append_nil, List.cons_append, List.nil_append]
    after_results
    rfl
  rw [e]
  refine shapeCast_apply _ _ _ (ix3 (seqOf r) (posOf r) d) ?_
  refine (Shape.rowMajor_val_three _).trans (Eq.trans ?_ (Shape.rowMajor_val_two _).symm)
  show (r.val / 4096 * 4096 + r.val % 4096) * 1024 + d.val = r.val * 1024 + d.val
  omega

/-- The scales of the mixed branches. -/
theorem V_v7 (b : Fin 8) (d : Fin 1024) : (V m c main_v7 : Vec Ideal S8x1x1024 .f32) (ix3 b (0 : Fin 1) d) = (argsAt m c).g1 b d := by
  have e : V m c main_v7 = shapeCast S8x1x1024 (m ((c : Thread nD τ).loc main_arg4) : FVec Ideal S8x1024 .f32) shapeCasts_S8x1024_S8x1x1024 := by
    unfold V
    simp only [hostOps0, List.flatten_cons, List.flatten_nil, List.append_nil, List.cons_append, List.nil_append]
    after_results
    rfl
  rw [e]
  pointwise
  rfl

/-- The shifts. -/
theorem V_v8 (b : Fin 8) (d : Fin 1024) : (V m c main_v8 : Vec Ideal S8x1x1024 .f32) (ix3 b (0 : Fin 1) d) = (argsAt m c).sh b d := by
  have e : V m c main_v8 = shapeCast S8x1x1024 (m ((c : Thread nD τ).loc main_arg5) : FVec Ideal S8x1024 .f32) shapeCasts_S8x1024_S8x1x1024 := by
    unfold V
    simp only [hostOps0, List.flatten_cons, List.flatten_nil, List.append_nil, List.cons_append, List.nil_append]
    after_results
    rfl
  rw [e]
  pointwise
  rfl

/-- The scales. -/
theorem V_v9 (b : Fin 8) (d : Fin 1024) : (V m c main_v9 : Vec Ideal S8x1x1024 .f32) (ix3 b (0 : Fin 1) d) = (argsAt m c).sc b d := by
  have e : V m c main_v9 = shapeCast S8x1x1024 (m ((c : Thread nD τ).loc main_arg6) : FVec Ideal S8x1024 .f32) shapeCasts_S8x1024_S8x1x1024 := by
    unfold V
    simp only [hostOps0, List.flatten_cons, List.flatten_nil, List.append_nil, List.cons_append, List.nil_append]
    after_results
    rfl
  rw [e]
  pointwise
  rfl

/-- The gain. -/
theorem V_v10 (d : Fin 1024) : (V m c main_v10 : Vec Ideal S1x1024 .f32) (ix2 (0 : Fin 1) d) = (argsAt m c).g d := by
  have e : V m c main_v10 = shapeCast S1x1024 (shapeCast S1024 (m ((c : Thread nD τ).loc main_arg7) : FVec Ideal S1x1024 .f32) shapeCasts_S1x1024_S1024) shapeCasts_S1024_S1x1024 := by
    unfold V
    simp only [hostOps0, List.flatten_cons, List.flatten_nil, List.append_nil, List.cons_append, List.nil_append]
    after_results
    rfl
  rw [e]
  pointwise
  rfl

/-- The first branch's weights. -/
theorem V_v11 (d : Fin 1024) (k : Fin 1024) : (V m c main_v11 : Vec Ideal S1024x1024 .bf16) (ix2 d k) = (argsAt m c).ws d k := by
  have e : V m c main_v11 = truncf .bf16 (shapeCast S1024x1024 (m ((c : Thread nD τ).loc main_arg8) : FVec Ideal S1x1024x1024 .f32) shapeCasts_S1x1024x1024_S1024x1024 : FVec Ideal S1024x1024 .f32) bitsLt_bf16_f32 := by
    unfold V
    simp only [hostOps0, List.flatten_cons, List.flatten_nil, List.append_nil, List.cons_append, List.nil_append]
    after_results
    rfl
  rw [e]
  exact square_at _ d k

/-- The second branch's weights. -/
theorem V_v12 (d : Fin 1024) (k : Fin 1024) : (V m c main_v12 : Vec Ideal S1024x1024 .bf16) (ix2 d k) = (argsAt m c).wn d k := by
  have e : V m c main_v12 = truncf .bf16 (shapeCast S1024x1024 (m ((c : Thread nD τ).loc main_arg9) : FVec Ideal S1x1024x1024 .f32) shapeCasts_S1x1024x1024_S1024x1024 : FVec Ideal S1024x1024 .f32) bitsLt_bf16_f32 := by
    unfold V
    simp only [hostOps0, List.flatten_cons, List.flatten_nil, List.append_nil, List.cons_append, List.nil_append]
    after_results
    rfl
  rw [e]
  exact square_at _ d k

/-- The mixed branches' weights. -/
theorem V_v13 (d : Fin 1024) (k : Fin 1024) : (V m c main_v13 : Vec Ideal S1024x1024 .bf16) (ix2 d k) = (argsAt m c).wo d k := by
  have e : V m c main_v13 = truncf .bf16 (shapeCast S1024x1024 (m ((c : Thread nD τ).loc main_arg10) : FVec Ideal S1x1024x1024 .f32) shapeCasts_S1x1024x1024_S1024x1024 : FVec Ideal S1024x1024 .f32) bitsLt_bf16_f32 := by
    unfold V
    simp only [hostOps0, List.flatten_cons, List.flatten_nil, List.append_nil, List.cons_append, List.nil_append]
    after_results
    rfl
  rw [e]
  exact square_at _ d k

/-- The query's weights. -/
theorem V_v14 (d : Fin 1024) (k : Fin 2048) : (V m c main_v14 : Vec Ideal S1024x2048 .bf16) (ix2 d k) = (argsAt m c).wq d k := by
  have e : V m c main_v14 = truncf .bf16 (shapeCast S1024x2048 (m ((c : Thread nD τ).loc main_arg11) : FVec Ideal S1x1024x2048 .f32) shapeCasts_S1x1024x2048_S1024x2048 : FVec Ideal S1024x2048 .f32) bitsLt_bf16_f32 := by
    unfold V
    simp only [hostOps0, List.flatten_cons, List.flatten_nil, List.append_nil, List.cons_append, List.nil_append]
    after_results
    rfl
  rw [e]
  exact wide_at _ d k

/-- The keys. -/
theorem V_v15 (a : Fin 2) (k d : Fin 128) : (V m c main_v15 : Vec Ideal S2x128x128 .bf16) (ix3 a k d) = (argsAt m c).ks a k d := by
  have e : V m c main_v15 = truncf .bf16 (shapeCast S2x128x128 (m ((c : Thread nD τ).loc main_arg12) : FVec Ideal S1x2x128x128 .f32) shapeCasts_S1x2x128x128_S2x128x128 : FVec Ideal S2x128x128 .f32) bitsLt_bf16_f32 := by
    unfold V
    simp only [hostOps0, List.flatten_cons, List.flatten_nil, List.append_nil, List.cons_append, List.nil_append]
    after_results
    rfl
  rw [e]
  exact halves_at _ a k d

/-! ## Where the windows' blocks lie -/

/-- Where window 0's block lies at a point. -/
theorem at0 : ∀ t : Fin cfg0.N, win0_0.index t (0 : Fin 2) = t.val ∧ win0_0.index t (1 : Fin 2) = 0 := (by decide +kernel : ∀ t : Fin grid0.N, _)

/-- Where window 1's block lies at a point. -/
theorem at1 : ∀ t : Fin cfg0.N, win0_1.index t (0 : Fin 2) = t.val ∧ win0_1.index t (1 : Fin 2) = 0 := (by decide +kernel : ∀ t : Fin grid0.N, _)

/-- Where window 2's block lies at a point. -/
theorem at2 : ∀ t : Fin cfg0.N, win0_2.index t (0 : Fin 2) = t.val ∧ win0_2.index t (1 : Fin 2) = 0 := (by decide +kernel : ∀ t : Fin grid0.N, _)

/-- Where window 3's block lies at a point. -/
theorem at3 : ∀ t : Fin cfg0.N, win0_3.index t (0 : Fin 2) = t.val ∧ win0_3.index t (1 : Fin 2) = 6 := (by decide +kernel : ∀ t : Fin grid0.N, _)

/-- Where window 4's block lies at a point. -/
theorem at4 : ∀ t : Fin cfg0.N, win0_4.index t (0 : Fin 2) = t.val ∧ win0_4.index t (1 : Fin 2) = 7 := (by decide +kernel : ∀ t : Fin grid0.N, _)

/-- Where window 5's block lies at a point. -/
theorem at5 : ∀ t : Fin cfg0.N, win0_5.index t (0 : Fin 3) = t.val / 8 ∧ win0_5.index t (1 : Fin 3) = 0 ∧ win0_5.index t (2 : Fin 3) = 0 := (by decide +kernel : ∀ t : Fin grid0.N, _)

/-- Where window 6's block lies at a point. -/
theorem at6 : ∀ t : Fin cfg0.N, win0_6.index t (0 : Fin 3) = t.val / 8 ∧ win0_6.index t (1 : Fin 3) = 0 ∧ win0_6.index t (2 : Fin 3) = 0 := (by decide +kernel : ∀ t : Fin grid0.N, _)

/-- Where window 7's block lies at a point. -/
theorem at7 : ∀ t : Fin cfg0.N, win0_7.index t (0 : Fin 3) = t.val / 8 ∧ win0_7.index t (1 : Fin 3) = 0 ∧ win0_7.index t (2 : Fin 3) = 0 := (by decide +kernel : ∀ t : Fin grid0.N, _)

/-- Where window 8's block lies at a point. -/
theorem at8 : ∀ t : Fin cfg0.N, win0_8.index t (0 : Fin 2) = 0 ∧ win0_8.index t (1 : Fin 2) = 0 := (by decide +kernel : ∀ t : Fin grid0.N, _)

/-- Where window 9's block lies at a point. -/
theorem at9 : ∀ t : Fin cfg0.N, win0_9.index t (0 : Fin 2) = 0 ∧ win0_9.index t (1 : Fin 2) = 0 := (by decide +kernel : ∀ t : Fin grid0.N, _)

/-- Where window 10's block lies at a point. -/
theorem at10 : ∀ t : Fin cfg0.N, win0_10.index t (0 : Fin 2) = 0 ∧ win0_10.index t (1 : Fin 2) = 0 := (by decide +kernel : ∀ t : Fin grid0.N, _)

/-- Where window 11's block lies at a point. -/
theorem at11 : ∀ t : Fin cfg0.N, win0_11.index t (0 : Fin 2) = 0 ∧ win0_11.index t (1 : Fin 2) = 0 := (by decide +kernel : ∀ t : Fin grid0.N, _)

/-- Where window 12's block lies at a point. -/
theorem at12 : ∀ t : Fin cfg0.N, win0_12.index t (0 : Fin 2) = 0 ∧ win0_12.index t (1 : Fin 2) = 0 := (by decide +kernel : ∀ t : Fin grid0.N, _)

/-- Where window 13's block lies at a point. -/
theorem at13 : ∀ t : Fin cfg0.N, win0_13.index t (0 : Fin 3) = 0 ∧ win0_13.index t (1 : Fin 3) = 0 ∧ win0_13.index t (2 : Fin 3) = 0 := (by decide +kernel : ∀ t : Fin grid0.N, _)

/-- There are 64 points. -/
theorem lt64 (t : Fin cfg0.N) : t.val < 64 := lt_of_lt_of_eq t.isLt N_0

/-- The row of the whole input that row `r` of block `t` is. -/
def rowOf (t : Fin cfg0.N) (r : Fin 512) : Fin 32768 := ⟨512 * t.val + r.val, by have := lt64 t; omega⟩

/-! ## The blocks' elements -/

/-- A block's rows of the input. -/
theorem blk0 (t : Fin cfg0.N) (r : Fin 512) (d : Fin 1024) : (iblk m c 0 t : Vec Ideal S512x1024 .f32) (ix2 r d) = (argsAt m c).x (seqOf (rowOf t r)) (posOf (rowOf t r)) d := by
  obtain ⟨e0, e1⟩ := at0 t
  refine Eq.trans (congrArg (V m c main_v0 : Vec Ideal S32768x1024 .f32) (funext fun a => ?_)) (V_v0 m c (rowOf t r) d)
  match a with
  | ⟨0, _⟩ => exact Fin.ext (by show win0_0.index t (0 : Fin 2) * 512 + 1 * r.val = 512 * t.val + r.val; omega)
  | ⟨1, _⟩ => exact Fin.ext (by show win0_0.index t (1 : Fin 2) * 1024 + 1 * d.val = d.val; omega)

/-- A block's rows of the first branch. -/
theorem blk1 (t : Fin cfg0.N) (r : Fin 512) (d : Fin 1024) : (iblk m c 1 t : Vec Ideal S512x1024 .bf16) (ix2 r d) = (argsAt m c).y (rowOf t r) d := by
  obtain ⟨e0, e1⟩ := at1 t
  refine Eq.trans (congrArg (V m c main_arg1 : Vec Ideal S32768x1024 .bf16) (funext fun a => ?_)) (congrFun (V_main_arg1 m c) (ix2 (rowOf t r) d))
  match a with
  | ⟨0, _⟩ => exact Fin.ext (by show win0_1.index t (0 : Fin 2) * 512 + 1 * r.val = 512 * t.val + r.val; omega)
  | ⟨1, _⟩ => exact Fin.ext (by show win0_1.index t (1 : Fin 2) * 1024 + 1 * d.val = d.val; omega)

/-- A block's rows of the second branch. -/
theorem blk2 (t : Fin cfg0.N) (r : Fin 512) (d : Fin 1024) : (iblk m c 2 t : Vec Ideal S512x1024 .bf16) (ix2 r d) = (argsAt m c).a (rowOf t r) d := by
  obtain ⟨e0, e1⟩ := at2 t
  refine Eq.trans (congrArg (V m c main_arg2 : Vec Ideal S32768x1024 .bf16) (funext fun a => ?_)) (congrFun (V_main_arg2 m c) (ix2 (rowOf t r) d))
  match a with
  | ⟨0, _⟩ => exact Fin.ext (by show win0_2.index t (0 : Fin 2) * 512 + 1 * r.val = 512 * t.val + r.val; omega)
  | ⟨1, _⟩ => exact Fin.ext (by show win0_2.index t (1 : Fin 2) * 1024 + 1 * d.val = d.val; omega)

/-- A block's rows of the first gate. -/
theorem blk3 (t : Fin cfg0.N) (r : Fin 512) (d : Fin 1024) : (iblk m c 3 t : Vec Ideal S512x1024 .bf16) (ix2 r d) = gs (argsAt m c) (rowOf t r) d := by
  obtain ⟨e0, e1⟩ := at3 t
  refine Eq.trans (congrArg (V m c main_arg3 : Vec Ideal S32768x8192 .bf16) (funext fun a => ?_)) (congrFun (V_main_arg3 m c) (ix2 (rowOf t r) (⟨6144 + d.val, by omega⟩ : Fin 8192)))
  match a with
  | ⟨0, _⟩ => exact Fin.ext (by show win0_3.index t (0 : Fin 2) * 512 + 1 * r.val = 512 * t.val + r.val; omega)
  | ⟨1, _⟩ => exact Fin.ext (by show win0_3.index t (1 : Fin 2) * 1024 + 1 * d.val = 6144 + d.val; omega)

/-- A block's rows of the second gate. -/
theorem blk4 (t : Fin cfg0.N) (r : Fin 512) (d : Fin 1024) : (iblk m c 4 t : Vec Ideal S512x1024 .bf16) (ix2 r d) = gn (argsAt m c) (rowOf t r) d := by
  obtain ⟨e0, e1⟩ := at4 t
  refine Eq.trans (congrArg (V m c main_arg3 : Vec Ideal S32768x8192 .bf16) (funext fun a => ?_)) (congrFun (V_main_arg3 m c) (ix2 (rowOf t r) (⟨7168 + d.val, by omega⟩ : Fin 8192)))
  match a with
  | ⟨0, _⟩ => exact Fin.ext (by show win0_4.index t (0 : Fin 2) * 512 + 1 * r.val = 512 * t.val + r.val; omega)
  | ⟨1, _⟩ => exact Fin.ext (by show win0_4.index t (1 : Fin 2) * 1024 + 1 * d.val = 7168 + d.val; omega)

/-- The scale of the mixed branches of a block's sequence. -/
theorem blk5 (t : Fin cfg0.N) (r : Fin 512) (d : Fin 1024) :
    (iblk m c 5 t : Vec Ideal S1x1x1024 .f32) (ix3 (0 : Fin 1) (0 : Fin 1) d) = (argsAt m c).g1 (seqOf (rowOf t r)) d := by
  obtain ⟨e0, e1, e2⟩ := at5 t
  refine Eq.trans (congrArg (V m c main_v7 : Vec Ideal S8x1x1024 .f32) (funext fun a => ?_)) (V_v7 m c (seqOf (rowOf t r)) d)
  match a with
  | ⟨0, _⟩ => exact Fin.ext (by show win0_5.index t (0 : Fin 3) * 1 + 1 * 0 = (512 * t.val + r.val) / 4096; omega)
  | ⟨1, _⟩ => exact Fin.ext (by show win0_5.index t (1 : Fin 3) * 1 + 1 * 0 = 0; omega)
  | ⟨2, _⟩ => exact Fin.ext (by show win0_5.index t (2 : Fin 3) * 1024 + 1 * d.val = d.val; omega)

/-- The shift of a block's sequence. -/
theorem blk6 (t : Fin cfg0.N) (r : Fin 512) (d : Fin 1024) :
    (iblk m c 6 t : Vec Ideal S1x1x1024 .f32) (ix3 (0 : Fin 1) (0 : Fin 1) d) = (argsAt m c).sh (seqOf (rowOf t r)) d := by
  obtain ⟨e0, e1, e2⟩ := at6 t
  refine Eq.trans (congrArg (V m c main_v8 : Vec Ideal S8x1x1024 .f32) (funext fun a => ?_)) (V_v8 m c (seqOf (rowOf t r)) d)
  match a with
  | ⟨0, _⟩ => exact Fin.ext (by show win0_6.index t (0 : Fin 3) * 1 + 1 * 0 = (512 * t.val + r.val) / 4096; omega)
  | ⟨1, _⟩ => exact Fin.ext (by show win0_6.index t (1 : Fin 3) * 1 + 1 * 0 = 0; omega)
  | ⟨2, _⟩ => exact Fin.ext (by show win0_6.index t (2 : Fin 3) * 1024 + 1 * d.val = d.val; omega)

/-- The scale of a block's sequence. -/
theorem blk7 (t : Fin cfg0.N) (r : Fin 512) (d : Fin 1024) :
    (iblk m c 7 t : Vec Ideal S1x1x1024 .f32) (ix3 (0 : Fin 1) (0 : Fin 1) d) = (argsAt m c).sc (seqOf (rowOf t r)) d := by
  obtain ⟨e0, e1, e2⟩ := at7 t
  refine Eq.trans (congrArg (V m c main_v9 : Vec Ideal S8x1x1024 .f32) (funext fun a => ?_)) (V_v9 m c (seqOf (rowOf t r)) d)
  match a with
  | ⟨0, _⟩ => exact Fin.ext (by show win0_7.index t (0 : Fin 3) * 1 + 1 * 0 = (512 * t.val + r.val) / 4096; omega)
  | ⟨1, _⟩ => exact Fin.ext (by show win0_7.index t (1 : Fin 3) * 1 + 1 * 0 = 0; omega)
  | ⟨2, _⟩ => exact Fin.ext (by show win0_7.index t (2 : Fin 3) * 1024 + 1 * d.val = d.val; omega)

/-- The gain, whole in every block. -/
theorem blk8 (t : Fin cfg0.N) (d : Fin 1024) : (iblk m c 8 t : Vec Ideal S1x1024 .f32) (ix2 (0 : Fin 1) d) = (argsAt m c).g d := by
  obtain ⟨e0, e1⟩ := at8 t
  refine Eq.trans (congrArg (V m c main_v10 : Vec Ideal S1x1024 .f32) (funext fun a => ?_)) (V_v10 m c d)
  match a with
  | ⟨0, _⟩ => exact Fin.ext (by show win0_8.index t (0 : Fin 2) * 1 + 1 * 0 = 0; omega)
  | ⟨1, _⟩ => exact Fin.ext (by show win0_8.index t (1 : Fin 2) * 1024 + 1 * d.val = d.val; omega)

/-- The weights of window 9, whole in every block. -/
theorem blk9 (t : Fin cfg0.N) (d : Fin 1024) (k : Fin 1024) : (iblk m c 9 t : Vec Ideal S1024x1024 .bf16) (ix2 d k) = (argsAt m c).ws d k := by
  obtain ⟨e0, e1⟩ := at9 t
  refine Eq.trans (congrArg (V m c main_v11 : Vec Ideal S1024x1024 .bf16) (funext fun a => ?_)) (V_v11 m c d k)
  match a with
  | ⟨0, _⟩ => exact Fin.ext (by show win0_9.index t (0 : Fin 2) * 1024 + 1 * d.val = d.val; omega)
  | ⟨1, _⟩ => exact Fin.ext (by show win0_9.index t (1 : Fin 2) * 1024 + 1 * k.val = k.val; omega)

/-- The weights of window 10, whole in every block. -/
theorem blk10 (t : Fin cfg0.N) (d : Fin 1024) (k : Fin 1024) : (iblk m c 10 t : Vec Ideal S1024x1024 .bf16) (ix2 d k) = (argsAt m c).wn d k := by
  obtain ⟨e0, e1⟩ := at10 t
  refine Eq.trans (congrArg (V m c main_v12 : Vec Ideal S1024x1024 .bf16) (funext fun a => ?_)) (V_v12 m c d k)
  match a with
  | ⟨0, _⟩ => exact Fin.ext (by show win0_10.index t (0 : Fin 2) * 1024 + 1 * d.val = d.val; omega)
  | ⟨1, _⟩ => exact Fin.ext (by show win0_10.index t (1 : Fin 2) * 1024 + 1 * k.val = k.val; omega)

/-- The weights of window 11, whole in every block. -/
theorem blk11 (t : Fin cfg0.N) (d : Fin 1024) (k : Fin 1024) : (iblk m c 11 t : Vec Ideal S1024x1024 .bf16) (ix2 d k) = (argsAt m c).wo d k := by
  obtain ⟨e0, e1⟩ := at11 t
  refine Eq.trans (congrArg (V m c main_v13 : Vec Ideal S1024x1024 .bf16) (funext fun a => ?_)) (V_v13 m c d k)
  match a with
  | ⟨0, _⟩ => exact Fin.ext (by show win0_11.index t (0 : Fin 2) * 1024 + 1 * d.val = d.val; omega)
  | ⟨1, _⟩ => exact Fin.ext (by show win0_11.index t (1 : Fin 2) * 1024 + 1 * k.val = k.val; omega)

/-- The weights of window 12, whole in every block. -/
theorem blk12 (t : Fin cfg0.N) (d : Fin 1024) (k : Fin 2048) : (iblk m c 12 t : Vec Ideal S1024x2048 .bf16) (ix2 d k) = (argsAt m c).wq d k := by
  obtain ⟨e0, e1⟩ := at12 t
  refine Eq.trans (congrArg (V m c main_v14 : Vec Ideal S1024x2048 .bf16) (funext fun a => ?_)) (V_v14 m c d k)
  match a with
  | ⟨0, _⟩ => exact Fin.ext (by show win0_12.index t (0 : Fin 2) * 1024 + 1 * d.val = d.val; omega)
  | ⟨1, _⟩ => exact Fin.ext (by show win0_12.index t (1 : Fin 2) * 2048 + 1 * k.val = k.val; omega)

/-- The keys, whole in every block. -/
theorem blk13 (t : Fin cfg0.N) (h : Fin 2) (k d : Fin 128) : (iblk m c 13 t : Vec Ideal S2x128x128 .bf16) (ix3 h k d) = (argsAt m c).ks h k d := by
  obtain ⟨e0, e1, e2⟩ := at13 t
  refine Eq.trans (congrArg (V m c main_v15 : Vec Ideal S2x128x128 .bf16) (funext fun a => ?_)) (V_v15 m c h k d)
  match a with
  | ⟨0, _⟩ => exact Fin.ext (by show win0_13.index t (0 : Fin 3) * 2 + 1 * h.val = h.val; omega)
  | ⟨1, _⟩ => exact Fin.ext (by show win0_13.index t (1 : Fin 3) * 128 + 1 * k.val = k.val; omega)
  | ⟨2, _⟩ => exact Fin.ext (by show win0_13.index t (2 : Fin 3) * 128 + 1 * d.val = d.val; omega)

end Cert.Kernel3Ideal.Val
-- ==== Proof.MixArrays.lean ====
module

public import proofs.«01_k».proof.Proof.MixBlock
public import proofs.«01_k».proof.Proof.MixEntry
public import Idealize.ShloMosaic.Lib.Pipeline.Value

/-! # The mixing's run -/

@[expose] public section

set_option maxRecDepth 16384

noncomputable section

namespace Cert.Kernel3Ideal.Val

open Cert.Kernel3Ideal Cert.Kernel3Ideal.Gen Idealize.ShloMosaic Idealize.ShloMosaic.TcCoe Idealize.SL.Sem
open Idealize.ShloMosaic.Pipeline (Dat)
open Cert.Kernel3Ideal.Facts Inp Mix

variable (m : (ℓ : Loc nD τ sig) → Buf (Elt Ideal) ℓ) (ρ : Dev nD → PrngReg) (c : Dev nD)

/-- The mixed branches of a point's blocks. -/
theorem mixed_of (t : Fin cfg0.N) (r : Fin 512) :
    blkMixed (iblk m c 1 t) (iblk m c 2 t) (iblk m c 3 t) (iblk m c 4 t) (iblk m c 9 t) (iblk m c 10 t) r = mixed (argsAt m c) (rowOf t r) := by
  funext j
  unfold blkMixed mixed
  congr 1
  · exact funext fun d => blk1 m c t r d
  · exact funext fun d => blk2 m c t r d
  · exact funext fun d => blk3 m c t r d
  · exact funext fun d => blk4 m c t r d
  · exact funext fun d => funext fun k => blk9 m c t d k
  · exact funext fun d => funext fun k => blk10 m c t d k

/-- The hidden rows of a point's blocks. -/
theorem sum_of (t : Fin cfg0.N) (r : Fin 512) :
    blkSum (iblk m c 0 t) (iblk m c 1 t) (iblk m c 2 t) (iblk m c 3 t) (iblk m c 4 t) (iblk m c 5 t) (iblk m c 9 t) (iblk m c 10 t) (iblk m c 11 t) r =
      hid (argsAt m c) (rowOf t r) := by
  funext j
  unfold blkSum hid
  refine congrFun (congr (congr (congr (congrArg sumOf ?_) ?_) ?_) ?_) j
  · exact funext fun d => blk0 m c t r d
  · exact funext fun d => blk5 m c t r d
  · exact mixed_of m c t r
  · exact funext fun d => funext fun k => blk11 m c t d k

/-- The queries of a point's blocks. -/
theorem query_of (t : Fin cfg0.N) (r : Fin 512) :
    blkQuery (iblk m c 0 t) (iblk m c 1 t) (iblk m c 2 t) (iblk m c 3 t) (iblk m c 4 t) (iblk m c 5 t) (iblk m c 6 t) (iblk m c 7 t) (iblk m c 8 t) (iblk m c 9 t)
      (iblk m c 10 t) (iblk m c 11 t) (iblk m c 12 t) r = query (argsAt m c) (rowOf t r) := by
  funext k
  unfold blkQuery query
  congr 1
  · exact sum_of m c t r
  · exact funext fun d => blk8 m c t d
  · exact funext fun d => blk7 m c t r d
  · exact funext fun d => blk6 m c t r d
  · exact funext fun d => funext fun k => blk12 m c t d k

/-- The hidden rows that a point leaves. -/
theorem hid_out (t : Fin cfg0.N) (r : Fin 512) (j : Fin 1024) :
    (hidV (iblk m c 0 t) (iblk m c 1 t) (iblk m c 2 t) (iblk m c 3 t) (iblk m c 4 t) (iblk m c 5 t) (iblk m c 9 t) (iblk m c 10 t) (iblk m c 11 t) : Vec Ideal S512x1024 .f32) (ix2 r j) =
      hid (argsAt m c) (rowOf t r) j :=
  (hid_blk _ _ _ _ _ _ _ _ _ r j).trans (congrFun (sum_of m c t r) j)

/-- The scores that a point leaves. -/
theorem score_out (t : Fin cfg0.N) (z q : Fin 16) (i : Fin 32) (l : Fin 128) :
    (scoreV (iblk m c 0 t) (iblk m c 1 t) (iblk m c 2 t) (iblk m c 3 t) (iblk m c 4 t) (iblk m c 5 t) (iblk m c 6 t) (iblk m c 7 t) (iblk m c 8 t) (iblk m c 9 t) (iblk m c 10 t)
      (iblk m c 11 t) (iblk m c 12 t) (iblk m c 13 t) : Vec Ideal S16x16x32x128 .f32) (ix4 z q i l) =
      score (argsAt m c) z (keyOf q i.val) (rowOf t ⟨i.val / 8 * 128 + l.val, by omega⟩) := by
  refine (score_blk _ _ _ _ _ _ _ _ _ _ _ _ _ _ z q i l).trans ?_
  unfold score
  refine congrFun (congrFun (congr (congrArg scoreOf ?_) ?_) z) (keyOf q i.val)
  · exact query_of m c t _
  · exact funext fun a => funext fun k => funext fun d => blk13 m c t a k d

/-- The array of the hidden rows. -/
def hidArr (A : Mix.Args) : Vec Ideal S32768x1024 .f32 := fun i => hid A ⟨(i 0).val, (i 0).isLt⟩ ⟨(i 1).val, (i 1).isLt⟩

/-- Block `t` of that array starts at row `512 t`, and every point writes its block back. -/
theorem at14 : ∀ t : Fin cfg0.N, (cfg0.win 14).flush t = true ∧ win0_14.index t (0 : Fin 2) = t.val ∧ win0_14.index t (1 : Fin 2) = 0 :=
  (by decide +kernel : ∀ t : Fin grid0.N, _)

/-- What a point writes back is its block of the array. -/
theorem wrote14 (t : Fin cfg0.N) : (dats m 0 c).flushed 14 t = ((cfg0.win 14).blk t).view.read (Elt Ideal) (hidArr (argsAt m c)) := by
  obtain ⟨-, e0, e1⟩ := at14 t
  show (cfg0.win 14).cut (grid0.coords t) ((dats m 0 c).after 14 t) = _
  rw [after0_14]
  funext y
  have hy0 : (y 0).val < 512 := (y 0).isLt
  have hy1 : (y 1).val < 1024 := (y 1).isLt
  have hx : (cfg0.win 14).xinj (grid0.coords t) y = (ix2 (⟨(y 0).val, hy0⟩ : Fin 512) (⟨(y 1).val, hy1⟩ : Fin 1024) : S512x1024.Idx) := funext fun a => by
    match a with
    | ⟨0, _⟩ => rfl
    | ⟨1, _⟩ => rfl
  show hidV (iblk m c 0 t) (iblk m c 1 t) (iblk m c 2 t) (iblk m c 3 t) (iblk m c 4 t) (iblk m c 5 t) (iblk m c 9 t) (iblk m c 10 t) (iblk m c 11 t)
      ((cfg0.win 14).xinj (grid0.coords t) y) = hidArr (argsAt m c) (((cfg0.win 14).blk t).view.emb y)
  rw [hx]
  refine (hid_out m c t ⟨(y 0).val, hy0⟩ ⟨(y 1).val, hy1⟩).trans (congrArg₂ (hid (argsAt m c)) (Fin.ext ?_) (Fin.ext ?_))
  · show 512 * t.val + (y 0).val = win0_14.index t (0 : Fin 2) * 512 + 1 * (y 0).val; omega
  · show (y 1).val = win0_14.index t (1 : Fin 2) * 1024 + 1 * (y 1).val; omega

/-- The blocks fill the array. -/
theorem fills14 (i : S32768x1024.Idx) : ∃ t : Fin cfg0.N, (cfg0.win 14).flush t = true ∧ i ∈ ((cfg0.win 14).blk t).view.set := by
  have h0 : (i 0).val < 32768 := (i 0).isLt
  have h1 : (i 1).val < 1024 := (i 1).isLt
  let t : Fin cfg0.N := ⟨(i 0).val / 512, lt_of_lt_of_eq (by omega) N_0.symm⟩
  obtain ⟨ef, e0, e1⟩ := at14 t
  have et : t.val = (i 0).val / 512 := rfl
  refine ⟨t, ef, ?_⟩
  show i ∈ ((View.whole main_v16_0).slice (win0_14.rect t)).set
  rw [View.set_slice_whole, Rect.mem_set_unit]
  intro a
  match a with
  | ⟨0, _⟩ => show win0_14.index t (0 : Fin 2) * 512 ≤ (i 0).val ∧ (i 0).val < win0_14.index t (0 : Fin 2) * 512 + 512; omega
  | ⟨1, _⟩ => show win0_14.index t (1 : Fin 2) * 1024 ≤ (i 1).val ∧ (i 1).val < win0_14.index t (1 : Fin 2) * 1024 + 1024; omega

/-- The array after the run. -/
theorem array14 : (dats m 0 c).arrAt 14 cfg0.N = hidArr (argsAt m c) :=
  (dats m 0 c).arrAt_eq_of_cover 14 _ (fun t _ => wrote14 m c t) fills14

/-- The array of the scores. -/
def scoreArr (A : Mix.Args) : Vec Ideal S16x16x2048x128 .f32 :=
  fun i => scoreAt A ⟨(i 0).val, (i 0).isLt⟩ ⟨(i 1).val, (i 1).isLt⟩ ⟨(i 2).val, (i 2).isLt⟩ ⟨(i 3).val, (i 3).isLt⟩

/-- Block `t` of that array starts at tile row `32 t`, and every point writes its block back. -/
theorem at15 : ∀ t : Fin cfg0.N, (cfg0.win 15).flush t = true ∧ win0_15.index t (0 : Fin 4) = 0 ∧ win0_15.index t (1 : Fin 4) = 0 ∧ win0_15.index t (2 : Fin 4) = t.val ∧
    win0_15.index t (3 : Fin 4) = 0 :=
  (by decide +kernel : ∀ t : Fin grid0.N, _)

/-- What a point writes back is its block of the array. -/
theorem wrote15 (t : Fin cfg0.N) : (dats m 0 c).flushed 15 t = ((cfg0.win 15).blk t).view.read (Elt Ideal) (scoreArr (argsAt m c)) := by
  obtain ⟨-, e0, e1, e2, e3⟩ := at15 t
  show (cfg0.win 15).cut (grid0.coords t) ((dats m 0 c).after 15 t) = _
  rw [after0_15]
  funext y
  have hy0 : (y 0).val < 16 := (y 0).isLt
  have hy1 : (y 1).val < 16 := (y 1).isLt
  have hy2 : (y 2).val < 32 := (y 2).isLt
  have hy3 : (y 3).val < 128 := (y 3).isLt
  have hx : (cfg0.win 15).xinj (grid0.coords t) y = (ix4 (⟨(y 0).val, hy0⟩ : Fin 16) (⟨(y 1).val, hy1⟩ : Fin 16) (⟨(y 2).val, hy2⟩ : Fin 32) (⟨(y 3).val, hy3⟩ : Fin 128) :
      S16x16x32x128.Idx) := funext fun a => by
    match a with
    | ⟨0, _⟩ => rfl
    | ⟨1, _⟩ => rfl
    | ⟨2, _⟩ => rfl
    | ⟨3, _⟩ => rfl
  show scoreV (iblk m c 0 t) (iblk m c 1 t) (iblk m c 2 t) (iblk m c 3 t) (iblk m c 4 t) (iblk m c 5 t) (iblk m c 6 t) (iblk m c 7 t) (iblk m c 8 t) (iblk m c 9 t) (iblk m c 10 t)
      (iblk m c 11 t) (iblk m c 12 t) (iblk m c 13 t) ((cfg0.win 15).xinj (grid0.coords t) y) = scoreArr (argsAt m c) (((cfg0.win 15).blk t).view.emb y)
  rw [hx]
  refine (score_out m c t ⟨(y 0).val, hy0⟩ ⟨(y 1).val, hy1⟩ ⟨(y 2).val, hy2⟩ ⟨(y 3).val, hy3⟩).trans ?_
  unfold scoreArr scoreAt
  congr 1
  · exact Fin.ext (by show (y 0).val = win0_15.index t (0 : Fin 4) * 16 + 1 * (y 0).val; omega)
  · exact Fin.ext (by
      show (y 1).val * 8 + (y 2).val % 8 = (win0_15.index t (1 : Fin 4) * 16 + 1 * (y 1).val) * 8 + (win0_15.index t (2 : Fin 4) * 32 + 1 * (y 2).val) % 8
      omega)
  · exact Fin.ext (by
      show 512 * t.val + ((y 2).val / 8 * 128 + (y 3).val) = (win0_15.index t (2 : Fin 4) * 32 + 1 * (y 2).val) / 8 * 128 + (win0_15.index t (3 : Fin 4) * 128 + 1 * (y 3).val)
      omega)

/-- The blocks fill the array. -/
theorem fills15 (i : S16x16x2048x128.Idx) : ∃ t : Fin cfg0.N, (cfg0.win 15).flush t = true ∧ i ∈ ((cfg0.win 15).blk t).view.set := by
  have h0 : (i 0).val < 16 := (i 0).isLt
  have h1 : (i 1).val < 16 := (i 1).isLt
  have h2 : (i 2).val < 2048 := (i 2).isLt
  have h3 : (i 3).val < 128 := (i 3).isLt
  let t : Fin cfg0.N := ⟨(i 2).val / 32, lt_of_lt_of_eq (by omega) N_0.symm⟩
  obtain ⟨ef, e0, e1, e2, e3⟩ := at15 t
  have et : t.val = (i 2).val / 32 := rfl
  refine ⟨t, ef, ?_⟩
  show i ∈ ((View.whole main_v16_1).slice (win0_15.rect t)).set
  rw [View.set_slice_whole, Rect.mem_set_unit]
  intro a
  match a with
  | ⟨0, _⟩ => show win0_15.index t (0 : Fin 4) * 16 ≤ (i 0).val ∧ (i 0).val < win0_15.index t (0 : Fin 4) * 16 + 16; omega
  | ⟨1, _⟩ => show win0_15.index t (1 : Fin 4) * 16 ≤ (i 1).val ∧ (i 1).val < win0_15.index t (1 : Fin 4) * 16 + 16; omega
  | ⟨2, _⟩ => show win0_15.index t (2 : Fin 4) * 32 ≤ (i 2).val ∧ (i 2).val < win0_15.index t (2 : Fin 4) * 32 + 32; omega
  | ⟨3, _⟩ => show win0_15.index t (3 : Fin 4) * 128 ≤ (i 3).val ∧ (i 3).val < win0_15.index t (3 : Fin 4) * 128 + 128; omega

/-- The array after the run. -/
theorem array15 : (dats m 0 c).arrAt 15 cfg0.N = scoreArr (argsAt m c) :=
  (dats m 0 c).arrAt_eq_of_cover 15 _ (fun t _ => wrote15 m c t) fills15

/-- The kernel's run leaves both arrays and keeps the arguments. -/
theorem kernel_run (hb : BodyRuns (F := Ideal)) : θ_run defs (onTc (τ := τ) (main (F := Ideal))) ⟨m, fun _ => 0, ρ⟩ fun r => ∀ c : Dev nD,
    r.2.mem ((c.tc : Thread nD τ).loc main_v16_0) = hidArr (argsAt m c)
      ∧ r.2.mem ((c.tc : Thread nD τ).loc main_v16_1) = scoreArr (argsAt m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun r hr c => ⟨((hr.1.1 c).1 14).trans (array14 m c), ((hr.1.1 c).1 15).trans (array15 m c), hr.2.1 c⟩)
    (θ_run_and (launch_runs m ρ hb) (frame_of m ρ hb))

end Cert.Kernel3Ideal.Val
-- ==== Proof.MixRef.lean ====
module

public import proofs.«01_k».proof.Proof.Gen.Reference3Ideal.Run
public import proofs.«01_k».proof.Proof.MixSpec
public import Idealize.ShloMosaic.Lib.Pipeline.ValueKit

/-! # The mixing's reference -/

@[expose] public section

set_option maxRecDepth 16384

noncomputable section

namespace Cert.Reference3Ideal.Val

open Cert.Reference3Ideal Cert.Reference3Ideal.Gen Idealize.ShloMosaic Idealize.ShloMosaic.TcCoe Idealize.SL.Sem
open Cert.Reference3Ideal.Facts Inp Mix

/-! ## The stages of the reference -/

/-- A table of rows, by sequence and position. -/
def rows (y : FVec Ideal S32768x1024 .bf16) : FVec Ideal S8x4096x1024 .f32 := shapeCast S8x4096x1024 (extf .f32 y bitsLt_bf16_f32) shapeCasts_S32768x1024_S8x4096x1024

/-- Rows times a square table of weights. -/
def times (μ : FVec Ideal S8x4096x1024 .f32) (w : FVec Ideal S1x1024x1024 .f32) : FVec Ideal S8x4096x1024 .f32 :=
  Host.dotGeneral dot_S8x4096x1024_S1024x1024_S8x4096x1024_2_0_01_1_n_n none μ (shapeCast S1024x1024 w shapeCasts_S1x1024x1024_S1024x1024)

/-- Rows times the query's weights. -/
def timesQ (n : FVec Ideal S8x4096x1024 .f32) (w : FVec Ideal S1x1024x2048 .f32) : FVec Ideal S8x4096x2048 .f32 :=
  Host.dotGeneral dot_S8x4096x1024_S1024x2048_S8x4096x2048_2_0_01_1_n_n none n (shapeCast S1024x2048 w shapeCasts_S1x1024x2048_S1024x2048)

/-- Every element squeezed between zero and one. -/
def squeezed (z : FVec Ideal S8x4096x1024 .f32) : FVec Ideal S8x4096x1024 .f32 :=
  Host.divf (broadcastInDim S8x4096x1024 ![] bcast_S_S8x4096x1024 (constant S_ .f32 0x3F800000#32))
    (addf (broadcastInDim S8x4096x1024 ![] bcast_S_S8x4096x1024 (constant S_ .f32 0x3F800000#32)) (Host.exp (Host.negf z)))

/-- The first gate's columns. -/
def gate1 (p : FVec Ideal S32768x8192 .bf16) : FVec Ideal S32768x1024 .bf16 :=
  extractStridedSlice S32768x1024 ![0, 0] (extractStridedSlice S32768x2048 ![0, 6144] p slices_S32768x8192_S32768x2048_0_6144) slices_S32768x2048_S32768x1024_0_0

/-- The second gate's columns. -/
def gate2 (p : FVec Ideal S32768x8192 .bf16) : FVec Ideal S32768x1024 .bf16 :=
  extractStridedSlice S32768x1024 ![0, 1024] (extractStridedSlice S32768x2048 ![0, 6144] p slices_S32768x8192_S32768x2048_0_6144) slices_S32768x2048_S32768x1024_0_1024

/-- The mixed branches. -/
def mixedRows (y a : FVec Ideal S32768x1024 .bf16) (p : FVec Ideal S32768x8192 .bf16) (ws wn : FVec Ideal S1x1024x1024 .f32) : FVec Ideal S8x4096x1024 .f32 :=
  addf (mulf (squeezed (rows (gate1 p))) (times (rows y) ws)) (mulf (squeezed (rows (gate2 p))) (times (rows a) wn))

/-- One number per sequence and channel, for every position. -/
def everywhere (v : FVec Ideal S8x1x1024 .f32) : FVec Ideal S8x4096x1024 .f32 := broadcastInDim S8x4096x1024 ![0, 1, 2] bcast_S8x1x1024_S8x4096x1024_0_1_2 v

/-- The input plus the projected branches. -/
def hidRows (x : FVec Ideal S8x4096x1024 .f32) (g1 : FVec Ideal S8x1024 .f32) (μ : FVec Ideal S8x4096x1024 .f32) (wo : FVec Ideal S1x1024x1024 .f32) : FVec Ideal S8x4096x1024 .f32 :=
  addf x (mulf (everywhere (broadcastInDim S8x1x1024 ![0, 2] bcast_S8x1024_S8x1x1024_0_2 g1)) (times μ wo))

/-- The reciprocal root of each row's mean square. -/
def invRms (x : FVec Ideal S8x4096x1024 .f32) : FVec Ideal S8x4096x1 .f32 :=
  let total := Host.reduceAdd (mulf x x) (constant S_ .f32 0x00000000#32) reducesTo_S8x4096x1024_S8x4096_d2 h_S_
  let mean := Host.divf (broadcastInDim S8x4096x1 ![0, 1] bcast_S8x4096_S8x4096x1_0_1 total) (broadcastInDim S8x4096x1 ![] bcast_S_S8x4096x1 (constant S_ .f32 0x44800000#32))
  Host.rsqrt (addf mean (broadcastInDim S8x4096x1 ![] bcast_S_S8x4096x1 (constant S_ .f32 0x358637BD#32)))

/-- The rows of unit mean square, times the gain. -/
def gained (x : FVec Ideal S8x4096x1024 .f32) (g : FVec Ideal S1x1024 .f32) : FVec Ideal S8x4096x1024 .f32 :=
  let unit := mulf x (broadcastInDim S8x4096x1024 ![0, 1, 2] bcast_S8x4096x1_S8x4096x1024_0_1_2 (invRms x))
  let gain := broadcastInDim S1x1x1024 ![2] bcast_S1024_S1x1x1024_2 (shapeCast S1024 g shapeCasts_S1x1024_S1024)
  mulf unit (broadcastInDim S8x4096x1024 ![0, 1, 2] bcast_S1x1x1024_S8x4096x1024_0_1_2 gain)

/-- The normalised rows. -/
def nrm (x : FVec Ideal S8x4096x1024 .f32) (sh sc : FVec Ideal S8x1024 .f32) (g : FVec Ideal S1x1024 .f32) : FVec Ideal S8x4096x1024 .f32 :=
  let scale := addf (broadcastInDim S8x1x1024 ![] bcast_S_S8x1x1024 (constant S_ .f32 0x3F800000#32)) (broadcastInDim S8x1x1024 ![0, 2] bcast_S8x1024_S8x1x1024_0_2 sc)
  addf (mulf (gained x g) (everywhere scale)) (everywhere (broadcastInDim S8x1x1024 ![0, 2] bcast_S8x1024_S8x1x1024_0_2 sh))

/-- The queries, by row, head, half and element. -/
def byHead (q : FVec Ideal S8x4096x2048 .f32) : FVec Ideal S32768x8x2x128 .f32 := shapeCast S32768x8x2x128 q shapeCasts_S8x4096x2048_S32768x8x2x128

/-- The scores, by half, key, row and head. -/
def scored (ks : FVec Ideal S1x2x128x128 .f32) (q : FVec Ideal S32768x8x2x128 .f32) : FVec Ideal S2x128x32768x8 .f32 :=
  Host.dotGeneral dot_S2x128x128_S32768x8x2x128_S2x128x32768x8_2_3_1_01_0_2 none (shapeCast S2x128x128 ks shapeCasts_S1x2x128x128_S2x128x128) q

/-- The scores by row, head, half and key. -/
def byRow (s : FVec Ideal S2x128x32768x8 .f32) : FVec Ideal S32768x8x2x128 .f32 := transpose S32768x8x2x128 [2, 3, 0, 1] s transposes_S2x128x32768x8_S32768x8x2x128_2_3_0_1

/-- The rows split by 128 and the keys by eight. -/
def split (s : FVec Ideal S32768x8x2x128 .f32) : FVec Ideal S256x128x16x16x8 .f32 := shapeCast S256x128x16x16x8 s shapeCasts_S32768x8x2x128_S256x128x16x16x8

/-- The scores as they are stored. -/
def stored (s : FVec Ideal S256x128x16x16x8 .f32) : FVec Ideal S16x16x2048x128 .f32 :=
  shapeCast S16x16x2048x128 (transpose S16x16x256x8x128 [2, 3, 0, 4, 1] s transposes_S256x128x16x16x8_S16x16x256x8x128_2_3_0_4_1) shapeCasts_S16x16x256x8x128_S16x16x2048x128

/-! ## The stages at an index -/

/-- A row found by its sequence and position. -/
theorem rows_at (y : FVec Ideal S32768x1024 .bf16) (r : Fin 32768) (d : Fin 1024) : rows y (ix3 (seqOf r) (posOf r) d) = y (ix2 r d) := by
  unfold rows
  refine (shapeCast_apply _ _ _ (ix2 r d) ?_).trans (by pointwise)
  refine (Shape.rowMajor_val_two _).trans (Eq.trans ?_ (Shape.rowMajor_val_three _).symm)
  show r.val * 1024 + d.val = (r.val / 4096 * 4096 + r.val % 4096) * 1024 + d.val
  omega

/-- Rows times weights, one by one. -/
theorem times_at (μ : FVec Ideal S8x4096x1024 .f32) (w : FVec Ideal S1x1024x1024 .f32) (b : Fin 8) (s : Fin 4096) (j : Fin 1024) :
    times μ w (ix3 b s j) = ∑ d, μ (ix3 b s d) * w (ix3 (0 : Fin 1) d j) := by
  pointwise [times]

/-- Rows times the query's weights, one by one. -/
theorem timesQ_at (n : FVec Ideal S8x4096x1024 .f32) (w : FVec Ideal S1x1024x2048 .f32) (b : Fin 8) (s : Fin 4096) (k : Fin 2048) :
    timesQ n w (ix3 b s k) = ∑ d, n (ix3 b s d) * w (ix3 (0 : Fin 1) d k) := by
  pointwise [timesQ]

/-- The squeezed elements. -/
theorem squeezed_at (z : FVec Ideal S8x4096x1024 .f32) (b : Fin 8) (s : Fin 4096) (j : Fin 1024) : squeezed z (ix3 b s j) = gate (z (ix3 b s j)) := by
  pointwise [squeezed, gate]

/-- The first gate's elements. -/
theorem gate1_at (p : FVec Ideal S32768x8192 .bf16) (r : Fin 32768) (j : Fin 1024) : gate1 p (ix2 r j) = p (ix2 r ⟨6144 + j.val, by omega⟩) := by
  pointwise [gate1]

/-- The second gate's elements. -/
theorem gate2_at (p : FVec Ideal S32768x8192 .bf16) (r : Fin 32768) (j : Fin 1024) : gate2 p (ix2 r j) = p (ix2 r ⟨7168 + j.val, by omega⟩) := by
  refine Eq.trans (b := p (ix2 r ⟨6144 + (1024 + j.val), by omega⟩)) (by pointwise [gate2]) ?_
  exact congrArg (fun k => p (ix2 r k)) (Fin.ext (by show 6144 + (1024 + j.val) = 7168 + j.val; omega))

/-- The mixed branches' elements. -/
theorem mixedRows_at (y a : FVec Ideal S32768x1024 .bf16) (p : FVec Ideal S32768x8192 .bf16) (ws wn : FVec Ideal S1x1024x1024 .f32) (r : Fin 32768) (j : Fin 1024) :
    mixedRows y a p ws wn (ix3 (seqOf r) (posOf r) j) =
      mixedOf (fun d => y (ix2 r d)) (fun d => a (ix2 r d)) (fun j => p (ix2 r ⟨6144 + j.val, by omega⟩)) (fun j => p (ix2 r ⟨7168 + j.val, by omega⟩))
        (fun d k => ws (ix3 (0 : Fin 1) d k)) (fun d k => wn (ix3 (0 : Fin 1) d k)) j := by
  refine Eq.trans (b := squeezed (rows (gate1 p)) (ix3 (seqOf r) (posOf r) j) * times (rows y) ws (ix3 (seqOf r) (posOf r) j) +
    squeezed (rows (gate2 p)) (ix3 (seqOf r) (posOf r) j) * times (rows a) wn (ix3 (seqOf r) (posOf r) j)) (by pointwise [mixedRows]) ?_
  rw [squeezed_at, squeezed_at, times_at, times_at, rows_at, rows_at, gate1_at, gate2_at]
  unfold mixedOf
  congr 1 <;> refine congrArg _ (Finset.sum_congr (M := EReal) rfl fun d _ => ?_) <;> rw [rows_at]

/-- The hidden rows' elements. -/
theorem hidRows_at (x : FVec Ideal S8x4096x1024 .f32) (g1 : FVec Ideal S8x1024 .f32) (μ : FVec Ideal S8x4096x1024 .f32) (wo : FVec Ideal S1x1024x1024 .f32)
    (b : Fin 8) (s : Fin 4096) (j : Fin 1024) :
    hidRows x g1 μ wo (ix3 b s j) = sumOf (fun d => x (ix3 b s d)) (fun d => g1 (ix2 b d)) (fun d => μ (ix3 b s d)) (fun d k => wo (ix3 (0 : Fin 1) d k)) j := by
  refine Eq.trans (b := x (ix3 b s j) + g1 (ix2 b j) * times μ wo (ix3 b s j)) (by pointwise [hidRows, everywhere]) ?_
  rw [times_at]
  rfl

/-- The normalised rows' elements. -/
theorem nrm_at (x : FVec Ideal S8x4096x1024 .f32) (sh sc : FVec Ideal S8x1024 .f32) (g : FVec Ideal S1x1024 .f32) (b : Fin 8) (s : Fin 4096) (d : Fin 1024) :
    nrm x sh sc g (ix3 b s d) = normed (fun d => x (ix3 b s d)) (g (ix2 (0 : Fin 1) d)) (sc (ix2 b d)) (sh (ix2 b d)) d := by
  pointwise [nrm, everywhere, gained, invRms, normed]

/-- The queries' elements by head. -/
theorem byHead_at (q : FVec Ideal S8x4096x2048 .f32) (r : Fin 32768) (z : Fin 16) (d : Fin 128) :
    byHead q (ix4 r (⟨z.val / 2, by omega⟩ : Fin 8) (halfOf z) d) = q (ix3 (seqOf r) (posOf r) (colOf z d)) := by
  unfold byHead
  refine shapeCast_apply _ _ _ (ix3 (seqOf r) (posOf r) (colOf z d)) ?_
  refine (Shape.rowMajor_val_three _).trans (Eq.trans ?_ (Shape.rowMajor_val_four _).symm)
  show (r.val / 4096 * 4096 + r.val % 4096) * 2048 + (z.val * 128 + d.val) = ((r.val * 8 + z.val / 2) * 2 + z.val % 2) * 128 + d.val
  omega

/-- The scores' elements. -/
theorem scored_at (ks : FVec Ideal S1x2x128x128 .f32) (q : FVec Ideal S32768x8x2x128 .f32) (a : Fin 2) (k : Fin 128) (r : Fin 32768) (t : Fin 8) :
    scored ks q (ix4 a k r t) = ∑ d, ks (ix4 (0 : Fin 1) a k d) * q (ix4 r t a d) := by
  pointwise [scored]

/-- The scores' elements by row. -/
theorem byRow_at (s : FVec Ideal S2x128x32768x8 .f32) (r : Fin 32768) (t : Fin 8) (a : Fin 2) (k : Fin 128) : byRow s (ix4 r t a k) = s (ix4 a k r t) := by
  pointwise [byRow]

/-- The split scores' elements. -/
theorem split_at (s : FVec Ideal S32768x8x2x128 .f32) (z q : Fin 16) (i : Fin 2048) (l : Fin 128) :
    split s (ix5 (⟨i.val / 8, by omega⟩ : Fin 256) l z q (⟨i.val % 8, by omega⟩ : Fin 8)) = s (ix4 (tokOf i l) (⟨z.val / 2, by omega⟩ : Fin 8) (halfOf z) (keyOf q i.val)) := by
  unfold split
  refine shapeCast_apply _ _ _ (ix4 (tokOf i l) (⟨z.val / 2, by omega⟩ : Fin 8) (halfOf z) (keyOf q i.val)) ?_
  refine (Shape.rowMajor_val_four _).trans (Eq.trans ?_ (Shape.rowMajor_val_five _).symm)
  show (((i.val / 8 * 128 + l.val) * 8 + z.val / 2) * 2 + z.val % 2) * 128 + (q.val * 8 + i.val % 8) = (((i.val / 8 * 128 + l.val) * 16 + z.val) * 16 + q.val) * 8 + i.val % 8
  omega

/-- The stored scores' elements. -/
theorem stored_at (s : FVec Ideal S256x128x16x16x8 .f32) (z q : Fin 16) (i : Fin 2048) (l : Fin 128) :
    stored s (ix4 z q i l) = s (ix5 (⟨i.val / 8, by omega⟩ : Fin 256) l z q (⟨i.val % 8, by omega⟩ : Fin 8)) := by
  unfold stored
  refine (shapeCast_apply _ _ _ (ix5 z q (⟨i.val / 8, by omega⟩ : Fin 256) (⟨i.val % 8, by omega⟩ : Fin 8) l) ?_).trans (by pointwise)
  refine (Shape.rowMajor_val_five _).trans (Eq.trans ?_ (Shape.rowMajor_val_four _).symm)
  show (((z.val * 16 + q.val) * 256 + i.val / 8) * 8 + i.val % 8) * 128 + l.val = ((z.val * 16 + q.val) * 2048 + i.val) * 128 + l.val
  omega

/-! ## The run -/

variable (m : (ℓ : Loc nD τ sig) → Buf (Elt Ideal) ℓ) (ρ : Dev nD → PrngReg)

/-- The arguments' elements, from the arrays. -/
def argsOf (a0 : Vec Ideal S8x4096x1024 .f32) (a1 : Vec Ideal S32768x1024 .bf16) (a2 : Vec Ideal S32768x1024 .bf16) (a3 : Vec Ideal S32768x8192 .bf16) (a4 : Vec Ideal S8x1024 .f32) (a5 : Vec Ideal S8x1024 .f32) (a6 : Vec Ideal S8x1024 .f32) (a7 : Vec Ideal S1x1024 .f32) (a8 : Vec Ideal S1x1024x1024 .f32) (a9 : Vec Ideal S1x1024x1024 .f32) (a10 : Vec Ideal S1x1024x1024 .f32) (a11 : Vec Ideal S1x1024x2048 .f32) (a12 : Vec Ideal S1x2x128x128 .f32) : Mix.Args where
  x := fun b s d => a0 (ix3 b s d)
  y := fun r d => a1 (ix2 r d)
  a := fun r d => a2 (ix2 r d)
  p := fun r k => a3 (ix2 r k)
  g1 := fun b d => a4 (ix2 b d)
  sh := fun b d => a5 (ix2 b d)
  sc := fun b d => a6 (ix2 b d)
  g := fun d => a7 (ix2 (0 : Fin 1) d)
  ws := fun d k => a8 (ix3 (0 : Fin 1) d k)
  wn := fun d k => a9 (ix3 (0 : Fin 1) d k)
  wo := fun d k => a10 (ix3 (0 : Fin 1) d k)
  wq := fun d k => a11 (ix3 (0 : Fin 1) d k)
  ks := fun a k d => a12 (ix4 (0 : Fin 1) a k d)

/-- The arguments' elements, from the memory. -/
def argsAt (c : Dev nD) : Mix.Args :=
  argsOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))

/-- The hidden rows from the memory. -/
def hidMem (c : Dev nD) : FVec Ideal S8x4096x1024 .f32 :=
  hidRows (m ((c.tc : Thread nD τ).loc main_arg0)) (m ((c.tc : Thread nD τ).loc main_arg4))
    (mixedRows (m ((c.tc : Thread nD τ).loc main_arg1)) (m ((c.tc : Thread nD τ).loc main_arg2)) (m ((c.tc : Thread nD τ).loc main_arg3)) (m ((c.tc : Thread nD τ).loc main_arg8))
      (m ((c.tc : Thread nD τ).loc main_arg9)))
    (m ((c.tc : Thread nD τ).loc main_arg10))

/-- They are the hidden rows. -/
theorem hidMem_at (c : Dev nD) (r : Fin 32768) (j : Fin 1024) : hidMem m c (ix3 (seqOf r) (posOf r) j) = hid (argsAt m c) r j := by
  refine (hidRows_at _ _ _ _ (seqOf r) (posOf r) j).trans ?_
  unfold hid
  congr 1
  exact funext fun d => mixedRows_at _ _ _ _ _ r d

/-- The queries from the memory. -/
def queryMem (c : Dev nD) : FVec Ideal S8x4096x2048 .f32 :=
  timesQ (nrm (hidMem m c) (m ((c.tc : Thread nD τ).loc main_arg5)) (m ((c.tc : Thread nD τ).loc main_arg6)) (m ((c.tc : Thread nD τ).loc main_arg7)))
    (m ((c.tc : Thread nD τ).loc main_arg11))

/-- They are the queries. -/
theorem queryMem_at (c : Dev nD) (r : Fin 32768) (k : Fin 2048) : queryMem m c (ix3 (seqOf r) (posOf r) k) = query (argsAt m c) r k := by
  refine (timesQ_at _ _ (seqOf r) (posOf r) k).trans ?_
  unfold query queryOf
  refine Finset.sum_congr (M := EReal) rfl fun d _ => ?_
  refine congrArg (· * _) ((nrm_at _ _ _ _ (seqOf r) (posOf r) d).trans ?_)
  rw [show (fun d => hidMem m c (ix3 (seqOf r) (posOf r) d)) = hid (argsAt m c) r from funext fun d => hidMem_at m c r d]
  rfl

/-- The reference's run leaves both results at their values and keeps the arguments. -/
theorem reference_run : θ_run defs (onTc (τ := τ) (main (F := Ideal))) ⟨m, fun _ => 0, ρ⟩ fun r => ∀ c : Dev nD,
    (∀ (i : Fin 32768) (k : Fin 1024), (r.2.mem ((c.tc : Thread nD τ).loc main_v65) : Vec Ideal S32768x1024 .f32) (ix2 i k) = hid (argsAt m c) i k)
      ∧ (∀ (z q : Fin 16) (i : Fin 2048) (l : Fin 128),
        (r.2.mem ((c.tc : Thread nD τ).loc main_v67) : Vec Ideal S16x16x2048x128 .f32) (ix4 z q i l) = scoreAt (argsAt m c) z q i l)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) := by
  refine (θ_run defs _ _).mono (fun r h c => ⟨?_, ?_, (h c).2.2⟩) (Value.run m ρ)
  · intro i k
    rw [show r.2.mem ((c.tc : Thread nD τ).loc main_v65) = shapeCast S32768x1024 (hidMem m c) shapeCasts_S8x4096x1024_S32768x1024 from (h c).1]
    refine (shapeCast_apply _ _ _ (ix3 (seqOf i) (posOf i) k) ?_).trans (hidMem_at m c i k)
    refine (Shape.rowMajor_val_three _).trans (Eq.trans ?_ (Shape.rowMajor_val_two _).symm)
    show (i.val / 4096 * 4096 + i.val % 4096) * 1024 + k.val = i.val * 1024 + k.val
    omega
  · intro z q i l
    rw [show r.2.mem ((c.tc : Thread nD τ).loc main_v67) = stored (split (byRow (scored (m ((c.tc : Thread nD τ).loc main_arg12)) (byHead (queryMem m c))))) from (h c).2.1]
    rw [stored_at, split_at, byRow_at, scored_at]
    unfold scoreAt score scoreOf
    refine Finset.sum_congr (M := EReal) rfl fun d _ => ?_
    exact congrArg (HMul.hMul (α := EReal) (β := EReal) (γ := EReal) _) ((byHead_at _ (tokOf i l) z d).trans (queryMem_at m c (tokOf i l) (colOf z d)))

end Cert.Reference3Ideal.Val
-- ==== Proof.lean ====
/- The claims, each from the modules under Proof/: the frames from the generated runs, the equality of the forward scan's
   results from the kernel's run (Arrays), the reference's run (RefPost) and the precondition (Domain), the equality of the
   input projection's results from the kernel's run (InArrays) and the reference's run (InRef), and the mixing's frames and the
   equality of its results from its body's run (MixBody), the launch (MixFrame, MixArrays) and the reference's run (MixRef). -/
module

public import proofs.«01_k».proof.Defs
public import proofs.«01_k».proof.Proof.Gen.Kernel.Frame
public import proofs.«01_k».proof.Proof.Gen.KernelIdeal.Frame
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference3Ideal.Run
public import proofs.«01_k».proof.Proof.Arrays
public import proofs.«01_k».proof.Proof.RefPost
public import proofs.«01_k».proof.Proof.Domain
public import proofs.«01_k».proof.Proof.InArrays
public import proofs.«01_k».proof.Proof.InRef
public import proofs.«01_k».proof.Proof.MixBody
public import proofs.«01_k».proof.Proof.MixFrame
public import proofs.«01_k».proof.Proof.MixArrays
public import proofs.«01_k».proof.Proof.MixRef
public import Idealize.ShloMosaic.Adequacy
public import Idealize.ShloMosaic.Init

@[expose] public section

noncomputable section

namespace Cert.Proof

open Idealize.ShloMosaic Idealize.SL.Sem Ssd

/-- The kernel terminates, keeps its arguments and leaves every counter at zero. -/
theorem kernel_frame : @Cert.quiescent_Kernel Cert.Kernel.Gen.facts := fun m ρ _ => Cert.Kernel.Gen.frame m ρ

/-- So does the kernel over the extended reals. -/
theorem ideal_frame : @Cert.quiescent_KernelIdeal Cert.KernelIdeal.Gen.facts := fun m ρ _ => Cert.KernelIdeal.Gen.frame m ρ

/-- So it does under the precondition. -/
theorem ideal_frame_pre : @Cert.quiescent_KernelIdeal_pre_finite_steps Cert.KernelIdeal.Gen.facts Cert.Pre_finite_steps.facts :=
  fun m ρ _ => Cert.KernelIdeal.Gen.frame m ρ

/-- The reference terminates, keeps its arguments, and has no counter that could end elsewhere than at zero. -/
theorem reference_frame : @Cert.quiescent_ReferenceIdeal Cert.ReferenceIdeal.Gen.facts := fun m ρ _ =>
  (θ_run Cert.ReferenceIdeal.defs _ _).mono (fun r h => ⟨fun c => (h c).2.2.2, sem_eq_zero_of_no_sems (by decide) r.2⟩)
    (Cert.ReferenceIdeal.Val.reference_run m ρ)

/-- So it does under the precondition. -/
theorem reference_frame_pre : @Cert.quiescent_ReferenceIdeal_pre_finite_steps Cert.ReferenceIdeal.Gen.facts Cert.Pre_finite_steps.facts :=
  fun m ρ _ => reference_frame m ρ trivial

/-- An array of two axes is known by its elements at a row and a column. -/
theorem array_ext {n k : ℕ} {α : Type} (X Y : (⟨2, ![n, k]⟩ : Shape).Idx → α) (h : ∀ (a : Fin n) (b : Fin k), X (ix2 a b) = Y (ix2 a b)) : X = Y :=
  funext fun i => by
    have e : i = ix2 (i 0) (i 1) := funext fun a => by
      match a with
      | ⟨0, _⟩ => rfl
      | ⟨1, _⟩ => rfl
    rw [e]
    exact h _ _

/-- Kernel and reference over the extended reals, from the same arguments with finite step sizes, end with the same three arrays. -/
theorem equal_results : @Cert.algebraic_KernelIdeal_ReferenceIdeal_pre_finite_steps Cert.KernelIdeal.Gen.facts Cert.ReferenceIdeal.Gen.facts
    Cert.Pre_finite_steps.facts := by
  intro m g m' g' hp hm
  have hA : ∀ c, Cert.KernelIdeal.Val.Finite (Cert.KernelIdeal.Val.argsAt m c) := fun c =>
    @Cert.Pre_finite_steps.finite_of Cert.Pre_finite_steps.facts _ _ _ _ _ _ (hp c).1 (hp c).2.1 (hp c).2.2
  have hargs : ∀ c, Cert.ReferenceIdeal.Val.argsAt m' c = Cert.KernelIdeal.Val.argsAt m c := fun c => by
    obtain ⟨h0, h1, h2, h3, h4, h5⟩ := hm c
    unfold Cert.ReferenceIdeal.Val.argsAt Cert.KernelIdeal.Val.argsAt
    exact congr (congr (congr (congr (congr (congrArg argsOf h0) h1) h2) h3) h4) h5
  refine ⟨fun c => Cert.KernelIdeal.Val.yArr (Cert.KernelIdeal.Val.argsAt m c), fun c => Cert.KernelIdeal.Val.xArr (Cert.KernelIdeal.Val.argsAt m c),
    fun c => Cert.KernelIdeal.Val.bcArr (Cert.KernelIdeal.Val.argsAt m c), Cert.KernelIdeal.Val.kernel_run m g hA, ?_⟩
  refine (θ_run Cert.ReferenceIdeal.defs _ _).mono (fun r h c => ⟨?_, ?_, ?_, (h c).2.2.2⟩) (Cert.ReferenceIdeal.Val.reference_run m' g')
  · exact array_ext _ _ fun a b => ((h c).1 a b).trans (congrArg (fun A => out A a.val b.val) (hargs c))
  · exact array_ext _ _ fun a b => ((h c).2.1 a b).trans (congrArg (fun A => X A a.val b.val) (hargs c))
  · exact array_ext _ _ fun a b => ((h c).2.2.1 a b).trans (congrArg (fun A => X A a.val (1024 + b.val)) (hargs c))

/-- The projection's kernel terminates, keeps its arguments and leaves every counter at zero. -/
theorem projection_frame : @Cert.quiescent_Kernel2 Cert.Kernel2.Gen.facts := fun m ρ _ => Cert.Kernel2.Gen.frame m ρ

/-- So does the projection's kernel over the extended reals. -/
theorem projection_ideal_frame : @Cert.quiescent_Kernel2Ideal Cert.Kernel2Ideal.Gen.facts := fun m ρ _ => Cert.Kernel2Ideal.Gen.frame m ρ

/-- So does the projection's reference. -/
theorem projection_reference_frame : @Cert.quiescent_Reference2Ideal Cert.Reference2Ideal.Gen.facts := fun m ρ _ =>
  (θ_run Cert.Reference2Ideal.defs _ _).mono (fun r h => ⟨fun c => (h c).2.2, sem_eq_zero_of_no_sems (by decide) r.2⟩)
    (Cert.Reference2Ideal.Val.reference_run m ρ)

/-- The projection's kernel and reference over the extended reals, from the same arguments, end with the same two arrays. -/
theorem projection_equal : @Cert.algebraic_Kernel2Ideal_Reference2Ideal Cert.Kernel2Ideal.Gen.facts Cert.Reference2Ideal.Gen.facts := by
  intro m g m' g' _ hm
  have hargs : ∀ c, Cert.Reference2Ideal.Val.argsAt m' c = Cert.Kernel2Ideal.Val.argsAt m c := fun c => by
    obtain ⟨h0, h1, h2, h3, h4⟩ := hm c
    have e := congr (congr (congr (congr (congrArg Cert.Reference2Ideal.Val.argsOf h0) h1) h2) h3) h4
    exact e
  refine ⟨fun c => Cert.Kernel2Ideal.Val.mainArr (Cert.Kernel2Ideal.Val.argsAt m c), fun c => Cert.Kernel2Ideal.Val.stepsArr (Cert.Kernel2Ideal.Val.argsAt m c),
    Cert.Kernel2Ideal.Val.kernel_run m g, ?_⟩
  refine (θ_run Cert.Reference2Ideal.defs _ _).mono (fun r h c => ⟨?_, ?_, (h c).2.2⟩) (Cert.Reference2Ideal.Val.reference_run m' g')
  · exact array_ext _ _ fun a b => ((h c).1 a b).trans (congrArg (fun A => Inp.mainAt A a b) (hargs c))
  · exact array_ext _ _ fun a b => ((h c).2.1 a b).trans (congrArg (fun A => Inp.stepsAt A a b) (hargs c))

/-- So does the mixing's kernel over the extended reals. -/
theorem mixing_ideal_frame : @Cert.quiescent_Kernel3Ideal Cert.Kernel3Ideal.Gen.facts := fun m ρ _ => Cert.Kernel3Ideal.Gen.frame_of m ρ Cert.Kernel3Ideal.Gen.body_runs

/-- So does the mixing's reference. -/
theorem mixing_reference_frame : @Cert.quiescent_Reference3Ideal Cert.Reference3Ideal.Gen.facts := fun m ρ _ =>
  (θ_run Cert.Reference3Ideal.defs _ _).mono (fun r h => ⟨fun c => (h c).2.2, sem_eq_zero_of_no_sems (by decide) r.2⟩)
    (Cert.Reference3Ideal.Val.reference_run m ρ)

/-- An array of four axes is known by its elements. -/
theorem array_ext_four {n k p q : ℕ} {α : Type} (X Y : (⟨4, ![n, k, p, q]⟩ : Shape).Idx → α)
    (h : ∀ (a : Fin n) (b : Fin k) (c : Fin p) (d : Fin q), X (ix4 a b c d) = Y (ix4 a b c d)) : X = Y :=
  funext fun i => by
    have e : i = ix4 (i 0) (i 1) (i 2) (i 3) := funext fun a => by
      match a with
      | ⟨0, _⟩ => rfl
      | ⟨1, _⟩ => rfl
      | ⟨2, _⟩ => rfl
      | ⟨3, _⟩ => rfl
    rw [e]
    exact h _ _ _ _

/-- The mixing's kernel and reference over the extended reals, from the same arguments, end with the same two arrays. -/
theorem mixing_equal : @Cert.algebraic_Kernel3Ideal_Reference3Ideal Cert.Kernel3Ideal.Gen.facts Cert.Reference3Ideal.Gen.facts := by
  intro m g m' g' _ hm
  have hargs : ∀ c, Cert.Reference3Ideal.Val.argsAt m' c = Cert.Kernel3Ideal.Val.argsAt m c := fun c => by
    obtain ⟨h0, h1, h2, h3, h4, h5, h6, h7, h8, h9, h10, h11, h12⟩ := hm c
    have e := congr (congr (congr (congr (congr (congr (congr (congr (congr (congr (congr (congr (congrArg Cert.Reference3Ideal.Val.argsOf h0) h1) h2) h3) h4) h5) h6) h7) h8) h9) h10) h11) h12
    exact e
  refine ⟨fun c => Cert.Kernel3Ideal.Val.hidArr (Cert.Kernel3Ideal.Val.argsAt m c), fun c => Cert.Kernel3Ideal.Val.scoreArr (Cert.Kernel3Ideal.Val.argsAt m c),
    Cert.Kernel3Ideal.Val.kernel_run m g Cert.Kernel3Ideal.Gen.body_runs, ?_⟩
  refine (θ_run Cert.Reference3Ideal.defs _ _).mono (fun r h c => ⟨?_, ?_, (h c).2.2⟩) (Cert.Reference3Ideal.Val.reference_run m' g')
  · exact array_ext _ _ fun a b => ((h c).1 a b).trans (congrArg (fun A => Mix.hid A a b) (hargs c))
  · exact array_ext_four _ _ fun z q i l => ((h c).2.1 z q i l).trans (congrArg (fun A => Mix.scoreAt A z q i l) (hargs c))

/-- The claims on the forward scan, on the input projection and on the mixing. -/
theorem claim : Cert.Claim := ⟨Cert.Kernel.Gen.facts, Cert.KernelIdeal.Gen.facts, Cert.ReferenceIdeal.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts, Cert.Pre_finite_steps.facts,
  kernel_frame, ideal_frame, ideal_frame_pre, reference_frame, reference_frame_pre, projection_frame, projection_ideal_frame, projection_reference_frame,
  mixing_frame Cert.Kernel3Ideal.Gen.body_runs, mixing_ideal_frame, mixing_reference_frame,
  trivial, equal_results, trivial, projection_equal, trivial, mixing_equal⟩

end Cert.Proof

end
